-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_candidates_proper [hPre_candidates_proper : Cert.Pre_candidates_proper.Facts] (m : (ℓ : Loc Cert.KernelIdeal.nD Cert.KernelIdeal.τ Cert.KernelIdeal.sig) → Buf (Elt Ideal) ℓ) : Prop :=
  ∀ c : Dev Cert.KernelIdeal.nD,
    (Cert.Pre_candidates_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_candidates_proper [hPre_candidates_proper : Cert.Pre_candidates_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_candidates_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_candidates_proper [hKernelIdeal : Cert.KernelIdeal.Facts] [hPre_candidates_proper : Cert.Pre_candidates_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_candidates_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_candidates_proper [hReferenceIdeal : Cert.ReferenceIdeal.Facts] [hPre_candidates_proper : Cert.Pre_candidates_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_candidates_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_candidates_proper [hKernelIdeal : Cert.KernelIdeal.Facts] [hReferenceIdeal : Cert.ReferenceIdeal.Facts] [hPre_candidates_proper : Cert.Pre_candidates_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_candidates_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_candidates_proper : Cert.Pre_candidates_proper.Facts),
    quiescent_Kernel (hKernel := hKernel)
    ∧ quiescent_KernelIdeal (hKernelIdeal := hKernelIdeal)
    ∧ quiescent_KernelIdeal_pre_candidates_proper (hKernelIdeal := hKernelIdeal) (hPre_candidates_proper := hPre_candidates_proper)
    ∧ quiescent_ReferenceIdeal (hReferenceIdeal := hReferenceIdeal)
    ∧ quiescent_ReferenceIdeal_pre_candidates_proper (hReferenceIdeal := hReferenceIdeal) (hPre_candidates_proper := hPre_candidates_proper)
    ∧ preserves_Kernel_KernelIdeal
    ∧ algebraic_KernelIdeal_ReferenceIdeal_pre_candidates_proper (hKernelIdeal := hKernelIdeal) (hReferenceIdeal := hReferenceIdeal) (hPre_candidates_proper := hPre_candidates_proper)
-- ==== Pre_candidates_proper.lean ====
abbrev S20000x4 : Shape := ⟨2, ![20000, 4]⟩
abbrev S20000 : Shape := ⟨1, ![20000]⟩
abbrev S20000x1 : Shape := ⟨2, ![20000, 1]⟩
abbrev S_ : Shape := ⟨0, ![]⟩

class Facts : Prop where
  slices_S20000x4_S20000x1_0_0 : S20000x4.Slices ![0, 0] S20000x1
  shapeCasts_S20000x1_S20000 : S20000x1.ShapeCasts S20000
  slices_S20000x4_S20000x1_0_1 : S20000x4.Slices ![0, 1] S20000x1
  slices_S20000x4_S20000x1_0_2 : S20000x4.Slices ![0, 2] S20000x1
  slices_S20000x4_S20000x1_0_3 : S20000x4.Slices ![0, 3] S20000x1
  bcast_S_S20000 : S_.BroadcastsInDim S20000 (![] : Fin 0 → Fin S20000.rank)
  reducesTo_S20000_S_d0 : S20000.ReducesTo [0] S_
  h_S_ : 0 < S_.numel

variable [Facts]

def fn_part1 {F : FTy → Type} [FloatOps F] (main_arg1 : FVec F S20000 .f32) (main_v17 : FVec F S20000 .f32) (main_v19 : FVec F S20000 .f32) (main_v20 : FVec F S20000 .f32) : IVec S_ 1 :=
  let main_v21 : FVec F S20000 .f32 := addf main_v19 main_v20
  let main_v22 : FVec F S20000 .f32 := Host.divf main_v17 main_v21
  let main_cst_2 : FVec F S_ .f32 := constant S_ .f32 0x3D4CCCCD#32
  let main_v23 : FVec F S20000 .f32 := broadcastInDim S20000 ![] bcast_S_S20000 main_cst_2
  let main_v24 : IVec S20000 1 := cmpf .ole main_arg1 main_v23
  let main_cst_3 : FVec F S_ .f32 := constant S_ .f32 0x7F800000#32
  let main_v25 : FVec F S20000 .f32 := broadcastInDim S20000 ![] bcast_S_S20000 main_cst_3
  let main_v26 : IVec S20000 1 := cmpf .olt main_arg1 main_v25
  let main_cst_4 : FVec F S_ .f32 := constant S_ .f32 0x3F000000#32
  let main_v27 : FVec F S20000 .f32 := broadcastInDim S20000 ![] bcast_S_S20000 main_cst_4
  let main_v28 : IVec S20000 1 := cmpf .ogt main_v22 main_v27
  let main_v29 : IVec S20000 1 := andi main_v26 main_v28
  let main_v30 : IVec S20000 1 := ori main_v24 main_v29
  let main_c : IVec S_ 1 := constantI S_ 1 1#1
  let main_v31 : IVec S_ 1 := (fun x v => Host.reduce IntOp.andi x v reducesTo_S20000_S_d0 h_S_) main_v30 main_c
  main_v31

def fn {F : FTy → Type} [FloatOps F] (main_arg0 : FVec F S20000x4 .f32) (main_arg1 : FVec F S20000 .f32) : IVec S_ 1 :=
  let main_v0 : FVec F S20000x1 .f32 := (extractStridedSlice S20000x1 ![0, 0] · slices_S20000x4_S20000x1_0_0) main_arg0
  let main_v1 : FVec F S20000 .f32 := shapeCast S20000 main_v0 shapeCasts_S20000x1_S20000
  let main_v2 : FVec F S20000x1 .f32 := (extractStridedSlice S20000x1 ![0, 1] · slices_S20000x4_S20000x1_0_1) main_arg0
  let main_v3 : FVec F S20000 .f32 := shapeCast S20000 main_v2 shapeCasts_S20000x1_S20000
  let main_v4 : FVec F S20000x1 .f32 := (extractStridedSlice S20000x1 ![0, 2] · slices_S20000x4_S20000x1_0_2) main_arg0
  let main_v5 : FVec F S20000 .f32 := shapeCast S20000 main_v4 shapeCasts_S20000x1_S20000
  let main_v6 : FVec F S20000x1 .f32 := (extractStridedSlice S20000x1 ![0, 3] · slices_S20000x4_S20000x1_0_3) main_arg0
  let main_v7 : FVec F S20000 .f32 := shapeCast S20000 main_v6 shapeCasts_S20000x1_S20000
  let main_v8 : FVec F S20000 .f32 := subf main_v5 main_v1
  let main_v9 : FVec F S20000 .f32 := subf main_v7 main_v3
  let main_v10 : FVec F S20000 .f32 := mulf main_v8 main_v9
  let main_v11 : FVec F S20000 .f32 := subf main_v5 main_v1
  let main_cst : FVec F S_ .f32 := constant S_ .f32 0x00000000#32
  let main_v12 : FVec F S20000 .f32 := broadcastInDim S20000 ![] bcast_S_S20000 main_cst
  let main_v13 : FVec F S20000 .f32 := maximumf main_v11 main_v12
  let main_v14 : FVec F S20000 .f32 := subf main_v7 main_v3
  let main_cst_0 : FVec F S_ .f32 := constant S_ .f32 0x00000000#32
  let main_v15 : FVec F S20000 .f32 := broadcastInDim S20000 ![] bcast_S_S20000 main_cst_0
  let main_v16 : FVec F S20000 .f32 := maximumf main_v14 main_v15
  let main_v17 : FVec F S20000 .f32 := mulf main_v13 main_v16
  let main_v18 : FVec F S20000 .f32 := addf main_v10 main_v10
  let main_v19 : FVec F S20000 .f32 := subf main_v18 main_v17
  let main_cst_1 : FVec F S_ .f32 := constant S_ .f32 0x3089705F#32
  let main_v20 : FVec F S20000 .f32 := broadcastInDim S20000 ![] bcast_S_S20000 main_cst_1
  fn_part1 (F := F) main_arg1 main_v17 main_v19 main_v20
-- ==== Kernel.lean ====
abbrev S20000x4 : Shape := ⟨2, ![20000, 4]⟩
abbrev S20000 : Shape := ⟨1, ![20000]⟩
abbrev S_ : Shape := ⟨0, ![]⟩
abbrev S480x4 : Shape := ⟨2, ![480, 4]⟩
abbrev S20480x4 : Shape := ⟨2, ![20480, 4]⟩
abbrev S480 : Shape := ⟨1, ![480]⟩
abbrev S20480 : Shape := ⟨1, ![20480]⟩
abbrev S160x128 : Shape := ⟨2, ![160, 128]⟩
abbrev S20480x1 : Shape := ⟨2, ![20480, 1]⟩
abbrev S100x128 : Shape := ⟨2, ![100, 128]⟩
abbrev S1x128 : Shape := ⟨2, ![1, 128]⟩
abbrev S8x128 : Shape := ⟨2, ![8, 128]⟩
abbrev S1x1 : Shape := ⟨2, ![1, 1]⟩
abbrev S1 : Shape := ⟨1, ![1]⟩
abbrev S8 : Shape := ⟨1, ![8]⟩
abbrev S8x1 : Shape := ⟨2, ![8, 1]⟩

abbrev nBuf : Space → Nat
  | .hbm => 22
  | .vmem => 8
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S_, .f32⟩
  | .hbm, ⟨3, _⟩ => ⟨S480x4, .f32⟩
  | .hbm, ⟨4, _⟩ => ⟨S20480x4, .f32⟩
  | .hbm, ⟨5, _⟩ => ⟨S_, .f32⟩
  | .hbm, ⟨6, _⟩ => ⟨S480, .f32⟩
  | .hbm, ⟨7, _⟩ => ⟨S20480, .f32⟩
  | .hbm, ⟨8, _⟩ => ⟨S160x128, .f32⟩
  | .hbm, ⟨9, _⟩ => ⟨S20480x1, .f32⟩
  | .hbm, ⟨10, _⟩ => ⟨S20480, .f32⟩
  | .hbm, ⟨11, _⟩ => ⟨S160x128, .f32⟩
  | .hbm, ⟨12, _⟩ => ⟨S20480x1, .f32⟩
  | .hbm, ⟨13, _⟩ => ⟨S20480, .f32⟩
  | .hbm, ⟨14, _⟩ => ⟨S160x128, .f32⟩
  | .hbm, ⟨15, _⟩ => ⟨S20480x1, .f32⟩
  | .hbm, ⟨16, _⟩ => ⟨S20480, .f32⟩
  | .hbm, ⟨17, _⟩ => ⟨S160x128, .f32⟩
  | .hbm, ⟨18, _⟩ => ⟨S20480x1, .f32⟩
  | .hbm, ⟨19, _⟩ => ⟨S20480, .f32⟩
  | .hbm, ⟨20, _⟩ => ⟨S160x128, .f32⟩
  | .hbm, ⟨21, _⟩ => ⟨S100x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S100x128, .f32⟩
  | .local _ .vmem, ⟨6, _⟩ => ⟨S160x128, .f32⟩
  | .local _ .vmem, ⟨7, _⟩ => ⟨S160x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (arg8 : BitVec 32) : Fin 2 → Nat :=
  let v3371 : Index := Scalar.indexCast arg8
  let c0_827 : Index := 0#32
  ![v3371.toNat, 0]

def k0_chk1 (arg8 : BitVec 32) : Prop :=
  (∀ a, (k0_off1 arg8) a + S1x128.size a ≤ S100x128.size a)
theorem k0_off1_inb : ∀ (arg8 : BitVec 32) (k0_hw1 : k0_chk1 arg8), ∀ a, (k0_off1 arg8) a + S1x128.size a ≤ S100x128.size a := fun arg8 k0_hw1 => k0_hw1

def k0_off2 (arg8 : BitVec 32) : Fin 2 → Nat :=
  let c1_i32_851 : BitVec 32 := 1#32
  let v3426 : BitVec 32 := Scalar.addi arg8 c1_i32_851
  let v3427 : Index := Scalar.indexCast v3426
  let c0_852 : Index := 0#32
  ![v3427.toNat, 0]
def k0_cond2 (arg8 : BitVec 32) (v3311 : BitVec 1) : BitVec 1 :=
  let c99_i32 : BitVec 32 := 99#32
  let v3312 : BitVec 1 := Scalar.cmpi .slt arg8 c99_i32
  let v3313 : BitVec 1 := Scalar.andi v3311 v3312
  let v3373 : BitVec 32 := Scalar.extui v3313
  let c0_i32_828 : BitVec 32 := 0#32
  let v3374 : BitVec 1 := Scalar.cmpi .ne v3373 c0_i32_828
  v3374

def k0_chk2 (arg8 : BitVec 32) (v3311 : BitVec 1) : Prop :=
  (∀ (k0_h2 : k0_cond2 arg8 v3311 = 1#1), ∀ a, (k0_off2 arg8) a + S1x128.size a ≤ S100x128.size a)
theorem k0_off2_inb : ∀ (arg8 : BitVec 32) (v3311 : BitVec 1) (k0_hw2 : k0_chk2 arg8 v3311), ∀ (k0_h2 : k0_cond2 arg8 v3311 = 1#1), ∀ a, (k0_off2 arg8) a + S1x128.size a ≤ S100x128.size a := fun arg8 v3311 k0_hw2 k0_h2 => k0_hw2 k0_h2

def k0_off3 (arg8 : BitVec 32) : Fin 2 → Nat :=
  let c2_i32_851 : BitVec 32 := 2#32
  let v3426 : BitVec 32 := Scalar.addi arg8 c2_i32_851
  let v3427 : Index := Scalar.indexCast v3426
  let c0_852 : Index := 0#32
  ![v3427.toNat, 0]
def k0_cond3 (arg8 : BitVec 32) (v3322 : BitVec 1) : BitVec 1 :=
  let c98_i32 : BitVec 32 := 98#32
  let v3323 : BitVec 1 := Scalar.cmpi .slt arg8 c98_i32
  let v3324 : BitVec 1 := Scalar.andi v3322 v3323
  let v3375 : BitVec 32 := Scalar.extui v3324
  let c0_i32_829 : BitVec 32 := 0#32
  let v3376 : BitVec 1 := Scalar.cmpi .ne v3375 c0_i32_829
  v3376

def k0_chk3 (arg8 : BitVec 32) (v3322 : BitVec 1) : Prop :=
  (∀ (k0_h3 : k0_cond3 arg8 v3322 = 1#1), ∀ a, (k0_off3 arg8) a + S1x128.size a ≤ S100x128.size a)
theorem k0_off3_inb : ∀ (arg8 : BitVec 32) (v3322 : BitVec 1) (k0_hw3 : k0_chk3 arg8 v3322), ∀ (k0_h3 : k0_cond3 arg8 v3322 = 1#1), ∀ a, (k0_off3 arg8) a + S1x128.size a ≤ S100x128.size a := fun arg8 v3322 k0_hw3 k0_h3 => k0_hw3 k0_h3

def k0_off4 (arg8 : BitVec 32) : Fin 2 → Nat :=
  let c3_i32_851 : BitVec 32 := 3#32
  let v3426 : BitVec 32 := Scalar.addi arg8 c3_i32_851
  let v3427 : Index := Scalar.indexCast v3426
  let c0_852 : Index := 0#32
  ![v3427.toNat, 0]
def k0_cond4 (arg8 : BitVec 32) (v3325 : BitVec 1) : BitVec 1 :=
  let c97_i32 : BitVec 32 := 97#32
  let v3326 : BitVec 1 := Scalar.cmpi .slt arg8 c97_i32
  let v3327 : BitVec 1 := Scalar.andi v3325 v3326
  let v3377 : BitVec 32 := Scalar.extui v3327
  let c0_i32_830 : BitVec 32 := 0#32
  let v3378 : BitVec 1 := Scalar.cmpi .ne v3377 c0_i32_830
  v3378

def k0_chk4 (arg8 : BitVec 32) (v3325 : BitVec 1) : Prop :=
  (∀ (k0_h4 : k0_cond4 arg8 v3325 = 1#1), ∀ a, (k0_off4 arg8) a + S1x128.size a ≤ S100x128.size a)
theorem k0_off4_inb : ∀ (arg8 : BitVec 32) (v3325 : BitVec 1) (k0_hw4 : k0_chk4 arg8 v3325), ∀ (k0_h4 : k0_cond4 arg8 v3325 = 1#1), ∀ a, (k0_off4 arg8) a + S1x128.size a ≤ S100x128.size a := fun arg8 v3325 k0_hw4 k0_h4 => k0_hw4 k0_h4

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S100x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S100 : Shape := ⟨1, ![100]⟩
abbrev S1 : Shape := ⟨1, ![1]⟩
abbrev S1x4 : Shape := ⟨2, ![1, 4]⟩
abbrev S4 : Shape := ⟨1, ![4]⟩
abbrev S100x1 : Shape := ⟨2, ![100, 1]⟩
abbrev S100x4 : Shape := ⟨2, ![100, 4]⟩
abbrev S100x123 : Shape := ⟨2, ![100, 123]⟩
abbrev S100x128 : Shape := ⟨2, ![100, 128]⟩

abbrev nBuf : Space → Nat
  | .hbm => 157
  | .vmem => 0
  | .smem => 0
  | _ => 0

abbrev hbmTy0_0 (i : Nat) : BufTy := match i % 128 with
  | 0 => ⟨S20000x4, .f32⟩
  | 1 => ⟨S20000, .f32⟩
  | 2 => ⟨S20000x1, .f32⟩
  | 3 => ⟨S20000, .f32⟩
  | 4 => ⟨S20000x1, .f32⟩
  | 5 => ⟨S20000, .f32⟩
  | 6 => ⟨S20000x1, .f32⟩
  | 7 => ⟨S20000, .f32⟩
  | 8 => ⟨S20000x1, .f32⟩
  | 9 => ⟨S20000, .f32⟩
  | 10 => ⟨S20000, .f32⟩
  | 11 => ⟨S20000, .f32⟩
  | 12 => ⟨S20000, .f32⟩
  | 13 => ⟨S_, .f32⟩
  | 14 => ⟨S20000, .f32⟩
  | 15 => ⟨S20000, .i1⟩
  | 16 => ⟨S_, .f32⟩
  | 17 => ⟨S_, .f32⟩
  | 18 => ⟨S20000, .f32⟩
  | 19 => ⟨S20000, .f32⟩
  | 20 => ⟨S_, .i32⟩
  | 21 => ⟨S100, .i32⟩
  | 22 => ⟨S_, .i1⟩
  | 23 => ⟨S100, .i1⟩
  | 24 => ⟨S_, .i32⟩
  | 25 => ⟨S20000x4, .f32⟩
  | 26 => ⟨S20000, .f32⟩
  | 27 => ⟨S20000, .f32⟩
  | 28 => ⟨S20000, .f32⟩
  | 29 => ⟨S20000, .f32⟩
  | 30 => ⟨S20000, .f32⟩
  | 31 => ⟨S_, .i32⟩
  | 32 => ⟨S20000, .f32⟩
  | 33 => ⟨S100, .i32⟩
  | 34 => ⟨S100, .i1⟩
  | 35 => ⟨S_, .i32⟩
  | 36 => ⟨S_, .i1⟩
  | 37 => ⟨S20000, .i32⟩
  | 38 => ⟨S_, .f32⟩
  | 39 => ⟨S_, .i32⟩
  | 40 => ⟨S_, .f32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S1, .f32⟩
  | 48 => ⟨S_, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x4, .f32⟩
  | 63 => ⟨S4, .f32⟩
  | 64 => ⟨S1, .f32⟩
  | 65 => ⟨S_, .f32⟩
  | 66 => ⟨S20000, .f32⟩
  | 67 => ⟨S20000, .f32⟩
  | 68 => ⟨S1, .f32⟩
  | 69 => ⟨S_, .f32⟩
  | 70 => ⟨S20000, .f32⟩
  | 71 => ⟨S20000, .f32⟩
  | 72 => ⟨S1, .f32⟩
  | 73 => ⟨S_, .f32⟩
  | 74 => ⟨S20000, .f32⟩
  | 75 => ⟨S20000, .f32⟩
  | 76 => ⟨S1, .f32⟩
  | 77 => ⟨S_, .f32⟩
  | 78 => ⟨S20000, .f32⟩
  | 79 => ⟨S20000, .f32⟩
  | 80 => ⟨S20000, .f32⟩
  | 81 => ⟨S_, .f32⟩
  | 82 => ⟨S20000, .f32⟩
  | 83 => ⟨S20000, .f32⟩
  | 84 => ⟨S20000, .f32⟩
  | 85 => ⟨S_, .f32⟩
  | 86 => ⟨S20000, .f32⟩
  | 87 => ⟨S20000, .f32⟩
  | 88 => ⟨S20000, .f32⟩
  | 89 => ⟨S1, .f32⟩
  | 90 => ⟨S_, .f32⟩
  | 91 => ⟨S1, .f32⟩
  | 92 => ⟨S_, .f32⟩
  | 93 => ⟨S_, .f32⟩
  | 94 => ⟨S1, .f32⟩
  | 95 => ⟨S_, .f32⟩
  | 96 => ⟨S1, .f32⟩
  | 97 => ⟨S_, .f32⟩
  | 98 => ⟨S_, .f32⟩
  | 99 => ⟨S_, .f32⟩
  | 100 => ⟨S20000, .f32⟩
  | 101 => ⟨S20000, .f32⟩
  | 102 => ⟨S20000, .f32⟩
  | 103 => ⟨S_, .f32⟩
  | 104 => ⟨S20000, .f32⟩
  | 105 => ⟨S20000, .f32⟩
  | 106 => ⟨S20000, .f32⟩
  | 107 => ⟨S_, .f32⟩
  | 108 => ⟨S_, .i1⟩
  | 109 => ⟨S_, .f32⟩
  | 110 => ⟨S_, .i1⟩
  | 111 => ⟨S_, .i1⟩
  | 112 => ⟨S_, .f32⟩
  | 113 => ⟨S20000, .f32⟩
  | 114 => ⟨S20000, .i1⟩
  | 115 => ⟨S20000, .i1⟩
  | 116 => ⟨S20000, .i1⟩
  | 117 => ⟨S_, .f32⟩
  | 118 => ⟨S_, .f32⟩
  | 119 => ⟨S20000, .f32⟩
  | 120 => ⟨S20000, .f32⟩
  | 121 => ⟨S1, .i32⟩
  | 122 => ⟨S100, .i32⟩
  | 123 => ⟨S1, .i1⟩
  | 124 => ⟨S100, .i1⟩
  | 125 => ⟨S_, .i32⟩
  | 126 => ⟨S_, .i32⟩
  | 127 => ⟨S_, .i32⟩
  | _ => ⟨S20000x4, .f32⟩

abbrev hbmTy0_1 (i : Nat) : BufTy := match i % 128 with
  | 0 => ⟨S100, .i32⟩
  | 1 => ⟨S100, .i1⟩
  | 2 => ⟨S_, .i32⟩
  | 3 => ⟨S100, .i32⟩
  | 4 => ⟨S100, .i32⟩
  | 5 => ⟨S100, .i32⟩
  | 6 => ⟨S100x1, .i32⟩
  | 7 => ⟨S100x4, .f32⟩
  | 8 => ⟨S100x1, .i1⟩
  | 9 => ⟨S100x1, .f32⟩
  | 10 => ⟨S100x4, .f32⟩
  | 11 => ⟨S100x4, .f32⟩
  | 12 => ⟨S_, .i32⟩
  | 13 => ⟨S100, .i32⟩
  | 14 => ⟨S100, .i1⟩
  | 15 => ⟨S_, .i32⟩
  | 16 => ⟨S100, .i32⟩
  | 17 => ⟨S100, .i32⟩
  | 18 => ⟨S100, .i32⟩
  | 19 => ⟨S100x1, .i32⟩
  | 20 => ⟨S100, .f32⟩
  | 21 => ⟨S_, .f32⟩
  | 22 => ⟨S_, .f32⟩
  | 23 => ⟨S100, .f32⟩
  | 24 => ⟨S100, .f32⟩
  | 25 => ⟨S_, .f32⟩
  | 26 => ⟨S100x123, .f32⟩
  | 27 => ⟨S100x1, .f32⟩
  | 28 => ⟨S100x128, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_c_2 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev main_v16_8 : Ref sig .tc := ⟨.hbm, 33, rfl⟩
abbrev main_v16_9 : Ref sig .tc := ⟨.hbm, 34, rfl⟩
abbrev main_while0c_c_18 : Ref sig .tc := ⟨.hbm, 35, rfl⟩
abbrev main_while0c_v39 : Ref sig .tc := ⟨.hbm, 36, rfl⟩
abbrev main_while0b_call1_v0 : Ref sig .tc := ⟨.hbm, 37, rfl⟩
abbrev main_while0b_call1_cst : Ref sig .tc := ⟨.hbm, 38, rfl⟩
abbrev main_while0b_call1_c : Ref sig .tc := ⟨.hbm, 39, rfl⟩
abbrev main_while0b_call1_v1_0 : Ref sig .tc := ⟨.hbm, 40, rfl⟩
abbrev main_while0b_v39 : Ref sig .tc := ⟨.hbm, 41, rfl⟩
abbrev main_while0b_c_18 : Ref sig .tc := ⟨.hbm, 42, rfl⟩
abbrev main_while0b_v40 : Ref sig .tc := ⟨.hbm, 43, rfl⟩
abbrev main_while0b_c_19 : Ref sig .tc := ⟨.hbm, 44, rfl⟩
abbrev main_while0b_v41 : Ref sig .tc := ⟨.hbm, 45, rfl⟩
abbrev main_while0b_v42 : Ref sig .tc := ⟨.hbm, 46, rfl⟩
abbrev main_while0b_v43 : Ref sig .tc := ⟨.hbm, 47, rfl⟩
abbrev main_while0b_v44 : Ref sig .tc := ⟨.hbm, 48, rfl⟩
abbrev main_while0b_c_20 : Ref sig .tc := ⟨.hbm, 49, rfl⟩
abbrev main_while0b_v45 : Ref sig .tc := ⟨.hbm, 50, rfl⟩
abbrev main_while0b_c_21 : Ref sig .tc := ⟨.hbm, 51, rfl⟩
abbrev main_while0b_v46 : Ref sig .tc := ⟨.hbm, 52, rfl⟩
abbrev main_while0b_v47 : Ref sig .tc := ⟨.hbm, 53, rfl⟩
abbrev main_while0b_c_22 : Ref sig .tc := ⟨.hbm, 54, rfl⟩
abbrev main_while0b_c_23 : Ref sig .tc := ⟨.hbm, 55, rfl⟩
abbrev main_while0b_v48 : Ref sig .tc := ⟨.hbm, 56, rfl⟩
abbrev main_while0b_c_24 : Ref sig .tc := ⟨.hbm, 57, rfl⟩
abbrev main_while0b_c_25 : Ref sig .tc := ⟨.hbm, 58, rfl⟩
abbrev main_while0b_v49 : Ref sig .tc := ⟨.hbm, 59, rfl⟩
abbrev main_while0b_c_26 : Ref sig .tc := ⟨.hbm, 60, rfl⟩
abbrev main_while0b_v50 : Ref sig .tc := ⟨.hbm, 61, rfl⟩
abbrev main_while0b_v51 : Ref sig .tc := ⟨.hbm, 62, rfl⟩
abbrev main_while0b_v52 : Ref sig .tc := ⟨.hbm, 63, rfl⟩
abbrev main_while0b_v53 : Ref sig .tc := ⟨.hbm, 64, rfl⟩
abbrev main_while0b_v54 : Ref sig .tc := ⟨.hbm, 65, rfl⟩
abbrev main_while0b_v55 : Ref sig .tc := ⟨.hbm, 66, rfl⟩
abbrev main_while0b_v56 : Ref sig .tc := ⟨.hbm, 67, rfl⟩
abbrev main_while0b_v57 : Ref sig .tc := ⟨.hbm, 68, rfl⟩
abbrev main_while0b_v58 : Ref sig .tc := ⟨.hbm, 69, rfl⟩
abbrev main_while0b_v59 : Ref sig .tc := ⟨.hbm, 70, rfl⟩
abbrev main_while0b_v60 : Ref sig .tc := ⟨.hbm, 71, rfl⟩
abbrev main_while0b_v61 : Ref sig .tc := ⟨.hbm, 72, rfl⟩
abbrev main_while0b_v62 : Ref sig .tc := ⟨.hbm, 73, rfl⟩
abbrev main_while0b_v63 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_cst_27 : Ref sig .tc := ⟨.hbm, 81, rfl⟩
abbrev main_while0b_v70 : Ref sig .tc := ⟨.hbm, 82, rfl⟩
abbrev main_while0b_v71 : Ref sig .tc := ⟨.hbm, 83, rfl⟩
abbrev main_while0b_v72 : Ref sig .tc := ⟨.hbm, 84, rfl⟩
abbrev main_while0b_cst_28 : Ref sig .tc := ⟨.hbm, 85, rfl⟩
abbrev main_while0b_v73 : Ref sig .tc := ⟨.hbm, 86, rfl⟩
abbrev main_while0b_v74 : Ref sig .tc := ⟨.hbm, 87, rfl⟩
abbrev main_while0b_v75 : Ref sig .tc := ⟨.hbm, 88, rfl⟩
abbrev main_while0b_v76 : Ref sig .tc := ⟨.hbm, 89, rfl⟩
abbrev main_while0b_v77 : Ref sig .tc := ⟨.hbm, 90, rfl⟩
abbrev main_while0b_v78 : Ref sig .tc := ⟨.hbm, 91, rfl⟩
abbrev main_while0b_v79 : Ref sig .tc := ⟨.hbm, 92, rfl⟩
abbrev main_while0b_v80 : Ref sig .tc := ⟨.hbm, 93, rfl⟩
abbrev main_while0b_v81 : Ref sig .tc := ⟨.hbm, 94, rfl⟩
abbrev main_while0b_v82 : Ref sig .tc := ⟨.hbm, 95, rfl⟩
abbrev main_while0b_v83 : Ref sig .tc := ⟨.hbm, 96, rfl⟩
abbrev main_while0b_v84 : Ref sig .tc := ⟨.hbm, 97, rfl⟩
abbrev main_while0b_v85 : Ref sig .tc := ⟨.hbm, 98, rfl⟩
abbrev main_while0b_v86 : Ref sig .tc := ⟨.hbm, 99, rfl⟩
abbrev main_while0b_v87 : Ref sig .tc := ⟨.hbm, 100, rfl⟩
abbrev main_while0b_v88 : Ref sig .tc := ⟨.hbm, 101, rfl⟩
abbrev main_while0b_v89 : Ref sig .tc := ⟨.hbm, 102, rfl⟩
abbrev main_while0b_cst_29 : Ref sig .tc := ⟨.hbm, 103, rfl⟩
abbrev main_while0b_v90 : Ref sig .tc := ⟨.hbm, 104, rfl⟩
abbrev main_while0b_v91 : Ref sig .tc := ⟨.hbm, 105, rfl⟩
abbrev main_while0b_v92 : Ref sig .tc := ⟨.hbm, 106, rfl⟩
abbrev main_while0b_cst_30 : Ref sig .tc := ⟨.hbm, 107, rfl⟩
abbrev main_while0b_v93 : Ref sig .tc := ⟨.hbm, 108, rfl⟩
abbrev main_while0b_cst_31 : Ref sig .tc := ⟨.hbm, 109, rfl⟩
abbrev main_while0b_v94 : Ref sig .tc := ⟨.hbm, 110, rfl⟩
abbrev main_while0b_v95 : Ref sig .tc := ⟨.hbm, 111, rfl⟩
abbrev main_while0b_cst_32 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_cst_33 : Ref sig .tc := ⟨.hbm, 117, rfl⟩
abbrev main_while0b_call2_v0 : Ref sig .tc := ⟨.hbm, 118, rfl⟩
abbrev main_while0b_call2_v1 : Ref sig .tc := ⟨.hbm, 119, rfl⟩
abbrev main_while0b_v100 : Ref sig .tc := ⟨.hbm, 120, rfl⟩
abbrev main_while0b_call3_v0 : Ref sig .tc := ⟨.hbm, 121, rfl⟩
abbrev main_while0b_v101 : Ref sig .tc := ⟨.hbm, 122, rfl⟩
abbrev main_while0b_call4_v0 : Ref sig .tc := ⟨.hbm, 123, rfl⟩
abbrev main_while0b_v102 : Ref sig .tc := ⟨.hbm, 124, rfl⟩
abbrev main_while0b_c_34 : Ref sig .tc := ⟨.hbm, 125, rfl⟩
abbrev main_while0b_v103 : Ref sig .tc := ⟨.hbm, 126, rfl⟩
abbrev main_c_3 : Ref sig .tc := ⟨.hbm, 127, rfl⟩
abbrev main_v17 : Ref sig .tc := ⟨.hbm, 128, rfl⟩
abbrev main_v18 : Ref sig .tc := ⟨.hbm, 129, rfl⟩
abbrev main_c_4 : Ref sig .tc := ⟨.hbm, 130, rfl⟩
abbrev main_v19 : Ref sig .tc := ⟨.hbm, 131, rfl⟩
abbrev main_v20 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_c_5 : Ref sig .tc := ⟨.hbm, 140, rfl⟩
abbrev main_v28 : Ref sig .tc := ⟨.hbm, 141, rfl⟩
abbrev main_v29 : Ref sig .tc := ⟨.hbm, 142, rfl⟩
abbrev main_c_6 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_cst_7 : Ref sig .tc := ⟨.hbm, 149, rfl⟩
abbrev main_call5_v0 : Ref sig .tc := ⟨.hbm, 150, rfl⟩
abbrev main_call5_v1 : Ref sig .tc := ⟨.hbm, 151, rfl⟩
abbrev main_v35 : Ref sig .tc := ⟨.hbm, 152, rfl⟩
abbrev main_cst_8 : Ref sig .tc := ⟨.hbm, 153, rfl⟩
abbrev main_v36 : Ref sig .tc := ⟨.hbm, 154, rfl⟩
abbrev main_v37 : Ref sig .tc := ⟨.hbm, 155, rfl⟩
abbrev main_v38 : Ref sig .tc := ⟨.hbm, 156, rfl⟩

abbrev nD : Nat := 1
abbrev τ : Topo := Topo.v7x

variable {F : FTy → Type} [FloatOps F]

abbrev main_while0_count : Scf.Loop 32 := ⟨0#32, 100#32, 1#32⟩
-- ==== Proof.Round.lean ====
/- The four-at-a-time suppression round as functions of arrays: what one pass over the twenty row
   blocks computes, written once for a block and folded, over any reading of floats. -/
module

public import proofs.«01_k».proof.Proof.Gen.KernelIdeal

@[expose] public section

set_option maxRecDepth 16384

noncomputable section

namespace Cert.Nms

open Idealize.ShloMosaic Idealize.SL.Sem
open Cert.KernelIdeal Cert.KernelIdeal.Gen

variable {F : FTy → Type} [FloatOps F] {Λ : Labels}

/-- A box waiting to suppress: its score (minus infinity when there is none) and its corners. -/
structure Pend (F : FTy → Type) where
  v : FVec F S1x1 .f32
  x1 : FVec F S1x1 .f32
  y1 : FVec F S1x1 .f32
  x2 : FVec F S1x1 .f32
  y2 : FVec F S1x1 .f32

/-- What the pass keeps for each of eight sublanes and 128 lanes: best value, its row and corners,
    and a runner-up value and row. -/
structure Acc (F : FTy → Type) where
  v : FVec F S8x128 .f32
  r : IVec S8x128 32
  v2 : FVec F S8x128 .f32
  r2 : IVec S8x128 32
  x1 : FVec F S8x128 .f32
  y1 : FVec F S8x128 .f32
  x2 : FVec F S8x128 .f32
  y2 : FVec F S8x128 .f32

/-- Minus infinity, as the kernel's constant reads. -/
abbrev ninf (F : FTy → Type) [FloatOps F] : F .f32 := Scalar.ofBits .f32 0xFF800000#32
/-- Zero, as the kernel's constant reads. -/
abbrev zf (F : FTy → Type) [FloatOps F] : F .f32 := Scalar.ofBits .f32 0x00000000#32

/-- Whether a waiting box is one at all. -/
def Pend.valid (p : Pend F) : IVec S1x1 1 := cmpf .one p.v (broadcast S1x1 (ninf F))
/-- Its area. -/
def Pend.area (p : Pend F) : FVec F S1x1 .f32 := mulf (subf p.x2 p.x1) (subf p.y2 p.y1)

/-- Which entries of a block the waiting box `p` suppresses. -/
def supBy (X1 Y1 X2 Y2 A : FVec F S8x128 .f32) (p : Pend F) : IVec S8x128 1 :=
  let ia := mulf
    (maximumf (subf (minimumf X2 (broadcastTo S8x128 p.x2 broadcasts_S1x1_S8x128))
      (maximumf X1 (broadcastTo S8x128 p.x1 broadcasts_S1x1_S8x128))) (broadcast S8x128 (zf F)))
    (maximumf (subf (minimumf Y2 (broadcastTo S8x128 p.y2 broadcasts_S1x1_S8x128))
      (maximumf Y1 (broadcastTo S8x128 p.y1 broadcasts_S1x1_S8x128))) (broadcast S8x128 (zf F)))
  andi (cmpf .ogt (divf ia (addf (subf (addf A (broadcastTo S8x128 p.area broadcasts_S1x1_S8x128)) ia)
      (broadcast S8x128 (Scalar.ofBits .f32 0x3089705F#32)))) (broadcast S8x128 (Scalar.ofBits .f32 0x3F000000#32)))
    (broadcastTo S8x128 p.valid broadcasts_S1x1_S8x128)

/-- The block's scores once the four waiting boxes have suppressed. -/
def blockNew (X1 Y1 X2 Y2 A W : FVec F S8x128 .f32) (p1 p2 p3 p4 : Pend F) : FVec F S8x128 .f32 :=
  select (ori (ori (ori (supBy X1 Y1 X2 Y2 A p1) (supBy X1 Y1 X2 Y2 A p2)) (supBy X1 Y1 X2 Y2 A p3))
    (supBy X1 Y1 X2 Y2 A p4)) (broadcast S8x128 (ninf F)) W

/-- One block's step of the running best and runner-up. -/
def Acc.step (row : IVec S8x128 32) (X1 Y1 X2 Y2 nw : FVec F S8x128 .f32) (a : Acc F) : Acc F :=
  let gt1 := cmpf .ogt nw a.v
  let gt2 := andi (xori gt1 (constantI S8x128 1 1#1)) (cmpf .ogt nw a.v2)
  { v := select gt1 nw a.v
    r := select gt1 row a.r
    v2 := select gt1 a.v (select gt2 nw a.v2)
    r2 := select gt1 a.r (select gt2 row a.r2)
    x1 := select gt1 X1 a.x1
    y1 := select gt1 Y1 a.y1
    x2 := select gt1 X2 a.x2
    y2 := select gt1 Y2 a.y2 }

/-- Nothing seen yet. -/
def Acc.init : Acc F :=
  { v := broadcast S8x128 (ninf F), r := broadcast S8x128 0#32
    v2 := broadcast S8x128 (ninf F), r2 := broadcast S8x128 0#32
    x1 := broadcast S8x128 (zf F), y1 := broadcast S8x128 (zf F)
    x2 := broadcast S8x128 (zf F), y2 := broadcast S8x128 (zf F) }

/-- One fold of the sublanes: each with the one `k` before it. -/
def Acc.merge (k : BitVec 32) (a : Acc F) : Acc F :=
  let bv := dynamicRotate 0 k none a.v rotates_S8x128_d0
  let br := dynamicRotate 0 k none a.r rotates_S8x128_d0
  let bv2 := dynamicRotate 0 k none a.v2 rotates_S8x128_d0
  let br2 := dynamicRotate 0 k none a.r2 rotates_S8x128_d0
  let bf := ori (cmpf .ogt bv a.v) (andi (cmpf .oeq bv a.v) (cmpi .slt br a.r))
  let tx := ori (cmpf .ogt bv2 a.v) (andi (cmpf .oeq bv2 a.v) (cmpi .slt br2 a.r))
  let ty := ori (cmpf .ogt bv a.v2) (andi (cmpf .oeq bv a.v2) (cmpi .slt br a.r2))
  { v := select bf bv a.v
    r := select bf br a.r
    v2 := select bf (select tx bv2 a.v) (select ty bv a.v2)
    r2 := select bf (select tx br2 a.r) (select ty br a.r2)
    x1 := select bf (dynamicRotate 0 k none a.x1 rotates_S8x128_d0) a.x1
    y1 := select bf (dynamicRotate 0 k none a.y1 rotates_S8x128_d0) a.y1
    x2 := select bf (dynamicRotate 0 k none a.x2 rotates_S8x128_d0) a.x2
    y2 := select bf (dynamicRotate 0 k none a.y2 rotates_S8x128_d0) a.y2 }

/-- A block of eight rows lies within the 160. -/
theorem inb_block (v : Nat) (h : v < 20) :
    ∀ a, (![8 * v, 0] : Fin 2 → Nat) a + S8x128.size a ≤ S160x128.size a := by
  intro a
  match a with
  | ⟨0, _⟩ => show 8 * v + 8 ≤ 160; omega
  | ⟨1, _⟩ => show 0 + 128 ≤ 128; omega

/-- The kernel's memory: the four corner arrays, the working scores, the areas, and the result. -/
structure Bufs where
  a0 : Memref sig .tc .vmem S160x128 .f32
  a1 : Memref sig .tc .vmem S160x128 .f32
  a2 : Memref sig .tc .vmem S160x128 .f32
  a3 : Memref sig .tc .vmem S160x128 .f32
  a6 : Memref sig .tc .vmem S160x128 .f32
  a7 : Memref sig .tc .vmem S160x128 .f32
  a5 : Memref sig .tc .vmem S100x128 .f32

/-- Read eight rows. -/
def loadB (m : Memref sig .tc .vmem S160x128 .f32) (v : Nat) (h : v < 20) :
    Prog (TpuEff nD τ sig (Elt F) Λ .tc) (Vec F S8x128 .f32) :=
  Prog.lift (.load m (Rect.unit (s := S160x128) ![8 * v, 0] S8x128.size (inb_block v h)).toLoadRect
    (View.loadsAt_vmem h_S8x128))

/-- One block of the pass as a program. -/
def blockP (b : Bufs) (v24 : IVec S8x128 32) (p1 p2 p3 p4 : Pend F) (v : Nat) (h : v < 20) (a : Acc F) :
    Prog (TpuEff nD τ sig (Elt F) Λ .tc) (Acc F) := do
  let l0 ← loadB b.a0 v h
  let l1 ← loadB b.a1 v h
  let l2 ← loadB b.a2 v h
  let l3 ← loadB b.a3 v h
  let l6 ← loadB b.a6 v h
  let l7 ← loadB b.a7 v h
  let _d ← loadB b.a6 v h
  Prog.lift (.store b.a6 (Rect.unit (s := S160x128) ![8 * v, 0] S8x128.size (inb_block v h))
    (shapeCast S8x128 (blockNew (shapeCast S8x128 l0 shapeCasts_S8x128_S8x128) (shapeCast S8x128 l1 shapeCasts_S8x128_S8x128)
      (shapeCast S8x128 l2 shapeCasts_S8x128_S8x128) (shapeCast S8x128 l3 shapeCasts_S8x128_S8x128) l7 l6 p1 p2 p3 p4)
      shapeCasts_S8x128_S8x128)
    Finset.univ (View.stores_vmem_bits_univ h_S8x128 rfl) (.inl rfl))
  pure (Acc.step (addi v24 (broadcast S8x128 (BitVec.ofNat 32 (8 * v))))
    (shapeCast S8x128 l0 shapeCasts_S8x128_S8x128) (shapeCast S8x128 l1 shapeCasts_S8x128_S8x128)
    (shapeCast S8x128 l2 shapeCasts_S8x128_S8x128) (shapeCast S8x128 l3 shapeCasts_S8x128_S8x128)
    (blockNew (shapeCast S8x128 l0 shapeCasts_S8x128_S8x128) (shapeCast S8x128 l1 shapeCasts_S8x128_S8x128)
      (shapeCast S8x128 l2 shapeCasts_S8x128_S8x128) (shapeCast S8x128 l3 shapeCasts_S8x128_S8x128) l7 l6 p1 p2 p3 p4) a)

/-- The first `k` blocks of the pass as a program. -/
def blocksP (b : Bufs) (v24 : IVec S8x128 32) (p1 p2 p3 p4 : Pend F) :
    (k v : Nat) → v + k ≤ 20 → Acc F → Prog (TpuEff nD τ sig (Elt F) Λ .tc) (Acc F)
  | 0, _, _, a => pure a
  | k + 1, v, h, a => do
      let a' ← blockP b v24 p1 p2 p3 p4 v (by omega) a
      blocksP b v24 p1 p2 p3 p4 k (v + 1) (by omega) a'

/-- The accumulators once all three folds are done. -/
def Acc.fold (a : Acc F) : Acc F := ((a.merge 4#32).merge 2#32).merge 1#32

/-- Row zero of a folded array. -/
def top (x : FVec F S8x128 .f32) : FVec F S1x128 .f32 := extractStridedSlice S1x128 ![0, 0] x slices_S8x128_o0_0_S1x128

/-- Position in the flattened array. -/
def flatOf (v23 : IVec S1x128 32) (r : IVec S8x128 32) : FVec F S1x128 .f32 :=
  sitofp .f32 (addi (muli (extractStridedSlice S1x128 ![0, 0] r slices_S8x128_o0_0_S1x128) (broadcast S1x128 128#32)) v23)

/-- What is known of each of the 128 lanes after the pass: best value, runner-up value, the best's
    corners, and the flat positions of both. -/
structure Col (F : FTy → Type) where
  v : FVec F S1x128 .f32
  v2 : FVec F S1x128 .f32
  x1 : FVec F S1x128 .f32
  y1 : FVec F S1x128 .f32
  x2 : FVec F S1x128 .f32
  y2 : FVec F S1x128 .f32
  f1 : FVec F S1x128 .f32
  f2 : FVec F S1x128 .f32

/-- The lanes, from the folded accumulators. -/
def Col.of (v23 : IVec S1x128 32) (a : Acc F) : Col F :=
  { v := top a.v, v2 := top a.v2, x1 := top a.x1, y1 := top a.y1, x2 := top a.x2, y2 := top a.y2
    f1 := flatOf v23 a.r, f2 := flatOf v23 a.r2 }

/-- Negation of a mask. -/
def notm (x : IVec S1x128 1) : IVec S1x128 1 := xori x (constantI S1x128 1 1#1)

/-- The greatest entry of a row of lanes. -/
def maxOf (x : FVec F S1x128 .f32) : FVec F S1x1 .f32 :=
  shapeCast S1x1 (multiReduction .maximumf [1] S1 x 0xFF800000#32 reduces_S1x128_S1 (.inl rfl) rfl) shapeCasts_S1_S1x1

/-- Greatest entries of eight rows of lanes at once. -/
def max8 (r0 r1 r2 r3 r4 r5 r6 r7 : FVec F S1x128 .f32) : FVec F S8x1 .f32 :=
  shapeCast S8x1 (multiReduction .maximumf [1] S8
    (concatenate S8x128 0 [⟨S1x128, r0⟩, ⟨S1x128, r1⟩, ⟨S1x128, r2⟩, ⟨S1x128, r3⟩, ⟨S1x128, r4⟩, ⟨S1x128, r5⟩,
      ⟨S1x128, r6⟩, ⟨S1x128, r7⟩] concatenates_S1x128_S1x128_S1x128_S1x128_S1x128_S1x128_S1x128_S1x128_S8x128_d0)
    0xFF800000#32 reduces_S8x128_S8 (.inl rfl) rfl) shapeCasts_S8_S8x1

/-- A row where the mask holds, minus infinity elsewhere. -/
def keep (s : IVec S1x128 1) (x : FVec F S1x128 .f32) : FVec F S1x128 .f32 := select s x (broadcast S1x128 (ninf F))

/-- A candidate of a round: its value, the lanes attaining it, its flat position from above and below,
    and corners. -/
structure Cand (F : FTy → Type) where
  m : FVec F S1x1 .f32
  sel : IVec S1x128 1
  negf : FVec F S1x1 .f32
  posf : FVec F S1x1 .f32
  x1 : FVec F S1x1 .f32
  y1 : FVec F S1x1 .f32
  x2 : FVec F S1x1 .f32
  y2 : FVec F S1x1 .f32

/-- The eight packed maxima of a candidate. -/
def pack (c : Col F) (mf : FVec F S1x128 .f32) (sel fresh : IVec S1x128 1) : FVec F S8x1 .f32 :=
  max8 (keep sel (subf (broadcast S1x128 (zf F)) mf)) (keep fresh c.x1) (keep fresh c.y1) (keep fresh c.x2)
    (keep fresh c.y2) (keep sel mf) (keep sel mf) (keep sel mf)

/-- Which lanes attain the greatest entry. -/
def selOf (mv : FVec F S1x128 .f32) : IVec S1x128 1 :=
  cmpf .oeq mv (broadcastTo S1x128 (maxOf mv) broadcasts_S1x1_S1x128)

/-- The candidate of values `mv` and positions `mf`, its corners read where `fresh` of the mask holds. -/
def Cand.of (c : Col F) (mv mf : FVec F S1x128 .f32) (fresh : IVec S1x128 1 → IVec S1x128 1) : Cand F :=
  let q := pack c mf (selOf mv) (fresh (selOf mv))
  { m := maxOf mv
    sel := selOf mv
    negf := extractStridedSlice S1x1 ![0, 0] q slices_S8x1_o0_0_S1x1
    posf := extractStridedSlice S1x1 ![5, 0] q slices_S8x1_o5_0_S1x1
    x1 := extractStridedSlice S1x1 ![1, 0] q slices_S8x1_o1_0_S1x1
    y1 := extractStridedSlice S1x1 ![2, 0] q slices_S8x1_o2_0_S1x1
    x2 := extractStridedSlice S1x1 ![3, 0] q slices_S8x1_o3_0_S1x1
    y2 := extractStridedSlice S1x1 ![4, 0] q slices_S8x1_o4_0_S1x1 }

/-- The round's first candidate: the best of all lanes. -/
def cand1 (c : Col F) : Cand F := Cand.of c c.v c.f1 fun s => s
/-- Its lanes. -/
def s1 (c : Col F) : IVec S1x128 1 := (cand1 c).sel
/-- The second: the first's lanes answer with their runners-up. -/
def cand2 (c : Col F) : Cand F :=
  Cand.of c (select (s1 c) c.v2 c.v) (select (s1 c) c.f2 c.f1) fun s => andi s (notm (s1 c))
/-- Its lanes not the first's. -/
def s2 (c : Col F) : IVec S1x128 1 := andi (cand2 c).sel (notm (s1 c))
/-- Lanes of the first two. -/
def u2 (c : Col F) : IVec S1x128 1 := ori (s1 c) (s2 c)
/-- The third. -/
def cand3 (c : Col F) : Cand F :=
  Cand.of c (select (u2 c) c.v2 c.v) (select (u2 c) c.f2 c.f1) fun s => andi (andi s (notm (s1 c))) (notm (s2 c))
/-- Its lanes not the first two's. -/
def s3 (c : Col F) : IVec S1x128 1 := andi (andi (cand3 c).sel (notm (s1 c))) (notm (s2 c))
/-- Lanes of the first three. -/
def u3 (c : Col F) : IVec S1x128 1 := ori (u2 c) (s3 c)
/-- The fourth. -/
def cand4 (c : Col F) : Cand F :=
  Cand.of c (select (u3 c) c.v2 c.v) (select (u3 c) c.f2 c.f1)
    fun s => andi (andi (andi s (notm (s1 c))) (notm (s2 c))) (notm (s3 c))

/-- Two flat positions attain the candidate's value. -/
def Cand.tie (k : Cand F) : IVec S1x1 1 := cmpf .one (addf k.posf k.negf) (broadcast S1x1 (zf F))
/-- The lane of a candidate's flat position. -/
def Cand.lane (k : Cand F) : FVec F S1x1 .f32 :=
  subf (subf (broadcast S1x1 (zf F)) k.negf)
    (mulf (floor (divf (subf (broadcast S1x1 (zf F)) k.negf) (broadcast S1x1 (Scalar.ofBits .f32 0x43000000#32))))
      (broadcast S1x1 (Scalar.ofBits .f32 0x43000000#32)))
/-- The candidate has no value. -/
def Cand.none (k : Cand F) : IVec S1x1 1 := cmpf .oeq k.m (broadcast S1x1 (ninf F))
/-- The overlap ratio of two candidates. -/
def Cand.iou (a b : Cand F) : FVec F S1x1 .f32 :=
  let inter := mulf
    (maximumf (subf (minimumf a.x2 b.x2) (maximumf a.x1 b.x1)) (broadcast S1x1 (zf F)))
    (maximumf (subf (minimumf a.y2 b.y2) (maximumf a.y1 b.y1)) (broadcast S1x1 (zf F)))
  divf inter (addf (subf (addf (mulf (subf a.x2 a.x1) (subf a.y2 a.y1))
    (mulf (subf b.x2 b.x1) (subf b.y2 b.y1))) inter) (broadcast S1x1 (Scalar.ofBits .f32 0x3089705F#32)))
/-- Candidate `b` suppresses candidate `a`. -/
def Cand.supBy (a b : Cand F) : IVec S1x1 1 :=
  cmpf .ogt (a.iou b) (broadcast S1x1 (Scalar.ofBits .f32 0x3F000000#32))

/-- Why the second candidate may not be taken. -/
def bad2 (c : Col F) : IVec S1x1 1 :=
  ori (ori (ori (ori (cand1 c).tie (cand2 c).tie) (cmpf .oeq (cand1 c).lane (cand2 c).lane)) (cand2 c).none)
    ((cand2 c).supBy (cand1 c))
/-- Why the third may not. -/
def bad3 (c : Col F) : IVec S1x1 1 :=
  ori (ori (ori (ori (ori (bad2 c) (cand3 c).tie)
    (ori (cmpf .oeq (cand3 c).lane (cand1 c).lane) (cmpf .oeq (cand3 c).lane (cand2 c).lane))) (cand3 c).none)
    ((cand3 c).supBy (cand1 c))) ((cand3 c).supBy (cand2 c))
/-- Why the fourth may not. -/
def bad4 (c : Col F) : IVec S1x1 1 :=
  ori (ori (ori (ori (ori (ori (bad3 c) (cand4 c).tie)
    (ori (ori (cmpf .oeq (cand4 c).lane (cand1 c).lane) (cmpf .oeq (cand4 c).lane (cand2 c).lane))
      (cmpf .oeq (cand4 c).lane (cand3 c).lane))) (cand4 c).none)
    ((cand4 c).supBy (cand1 c))) ((cand4 c).supBy (cand2 c))) ((cand4 c).supBy (cand3 c))

/-- A flag as a number. -/
def bit (x : IVec S1x1 1) (w : BitVec 32) : FVec F S1x1 .f32 :=
  select x (broadcast S1x1 (Scalar.ofBits .f32 w)) (broadcast S1x1 (zf F))
/-- The four flags as one number. -/
def codeOf (c : Col F) : F .f32 :=
  extractAt ![0, 0] (addf (addf (addf (bit (cand1 c).tie 0x3F800000#32) (bit (bad2 c) 0x40000000#32))
    (bit (bad3 c) 0x40800000#32)) (bit (bad4 c) 0x41000000#32)) inpos_S1x1_p0_0
/-- The remainder of the sign of the divisor. -/
def modf (x d : F .f32) : F .f32 :=
  Scalar.select (Scalar.andi (Scalar.xori (Scalar.cmpf .olt (Scalar.remf x d) (zf F)) (Scalar.cmpf .olt d (zf F)))
    (Scalar.cmpf .one (Scalar.remf x d) (zf F))) (Scalar.addf (Scalar.remf x d) d) (Scalar.remf x d)
/-- A tie for the first. -/
def tieBit (c : Col F) : BitVec 1 :=
  Scalar.cmpf .oeq (modf (codeOf c) (Scalar.ofBits .f32 0x40000000#32)) (Scalar.ofBits .f32 0x3F800000#32)
/-- The second may be taken. -/
def ok2 (c : Col F) : BitVec 1 :=
  Scalar.cmpf .olt (modf (codeOf c) (Scalar.ofBits .f32 0x40800000#32)) (Scalar.ofBits .f32 0x40000000#32)
/-- The third may be taken. -/
def ok3 (c : Col F) : BitVec 1 :=
  Scalar.cmpf .olt (modf (codeOf c) (Scalar.ofBits .f32 0x41000000#32)) (Scalar.ofBits .f32 0x40800000#32)
/-- The fourth may be taken. -/
def ok4 (c : Col F) : BitVec 1 := Scalar.cmpf .olt (codeOf c) (Scalar.ofBits .f32 0x41000000#32)

/-- The lane of the tied first candidate that comes first. -/
def fixm (c : Col F) : IVec S1x128 1 :=
  cmpf .oeq c.f1 (broadcastTo S1x128 (subf (broadcast S1x1 (zf F)) (cand1 c).negf) broadcasts_S1x1_S1x128)
/-- Its packed corners. -/
def fixq (c : Col F) : FVec F S8x1 .f32 :=
  max8 (keep (fixm c) c.x1) (keep (fixm c) c.y1) (keep (fixm c) c.x2) (keep (fixm c) c.y2) (keep (fixm c) c.y2)
    (keep (fixm c) c.y2) (keep (fixm c) c.y2) (keep (fixm c) c.y2)

/-- Four corners. -/
abbrev Corners (F : FTy → Type) : Type := FVec F S1x1 .f32 × FVec F S1x1 .f32 × FVec F S1x1 .f32 × FVec F S1x1 .f32

/-- The corners read by the tie's way. -/
def fixed (c : Col F) : Corners F :=
  (extractStridedSlice S1x1 ![0, 0] (fixq c) slices_S8x1_o0_0_S1x1, extractStridedSlice S1x1 ![1, 0] (fixq c) slices_S8x1_o1_0_S1x1,
    extractStridedSlice S1x1 ![2, 0] (fixq c) slices_S8x1_o2_0_S1x1, extractStridedSlice S1x1 ![3, 0] (fixq c) slices_S8x1_o3_0_S1x1)

/-- The word the conditional reads for the tie. -/
def tieWord (c : Col F) : BitVec 1 := Scalar.cmpi .ne (Scalar.extui (tieBit c) : BitVec 32) 0#32

/-- The first candidate's corners. -/
def corners (c : Col F) : Corners F :=
  if tieWord c = 1#1 then fixed c else ((cand1 c).x1, (cand1 c).y1, (cand1 c).x2, (cand1 c).y2)

/-- One lane's entry of a result row. -/
def cell (v23 : IVec S1x128 32) (k : BitVec 32) (x : FVec F S1x1 .f32) : FVec F S1x128 .f32 :=
  select (cmpi .eq v23 (broadcast S1x128 k))
    (broadcastTo S1x128 (shapeCast S1x1 x shapeCasts_S1x1_S1x1) broadcasts_S1x1_S1x128) (broadcast S1x128 (zf F))
/-- A result row. -/
def rowOf (v23 : IVec S1x128 32) (k : Corners F) (m : FVec F S1x1 .f32) : FVec F S1x128 .f32 :=
  addf (addf (addf (addf (cell v23 0#32 k.1) (cell v23 1#32 k.2.1)) (cell v23 2#32 k.2.2.1)) (cell v23 3#32 k.2.2.2))
    (cell v23 4#32 m)
/-- The first candidate's row, zeros if it has no value. -/
def row1 (v23 : IVec S1x128 32) (c : Col F) (k : Corners F) : FVec F S1x128 .f32 :=
  select (broadcastTo S1x128 (shapeCast S1x1 (cmpf .one (cand1 c).m (broadcast S1x1 (ninf F))) shapeCasts_S1x1_S1x1) broadcasts_S1x1_S1x128)
    (rowOf v23 k (cand1 c).m) (broadcast S1x128 (zf F))
/-- A later candidate's corners. -/
def Cand.corners (k : Cand F) : Corners F := (k.x1, k.y1, k.x2, k.y2)

/-- The second is taken: allowed and room for it. -/
def acc2 (c : Col F) (n : BitVec 32) : BitVec 1 := Scalar.andi (ok2 c) (Scalar.cmpi .slt n 99#32)
/-- The third is taken. -/
def acc3 (c : Col F) (n : BitVec 32) : BitVec 1 := Scalar.andi (ok3 c) (Scalar.cmpi .slt n 98#32)
/-- The fourth is taken. -/
def acc4 (c : Col F) (n : BitVec 32) : BitVec 1 := Scalar.andi (ok4 c) (Scalar.cmpi .slt n 97#32)

/-- How many rows are written after the round. -/
def nextN (c : Col F) (n : BitVec 32) : BitVec 32 :=
  Scalar.addi (Scalar.addi (Scalar.addi (Scalar.addi n 1#32) (Scalar.select (acc2 c n) 1#32 0#32))
    (Scalar.select (acc3 c n) 1#32 0#32)) (Scalar.select (acc4 c n) 1#32 0#32)

/-- The waiting boxes after the round. -/
def pend1 (c : Col F) (k : Corners F) : Pend F := ⟨(cand1 c).m, k.1, k.2.1, k.2.2.1, k.2.2.2⟩
/-- A later candidate waits if taken. -/
def pendOf (b : BitVec 1) (k : Cand F) : Pend F :=
  ⟨Scalar.select b k.m (broadcast S1x1 (ninf F)), k.x1, k.y1, k.x2, k.y2⟩

/-- A later candidate's row, read and written where taken. -/
def rowP (a5 : Memref sig .tc .vmem S100x128 .f32) (off : Fin 2 → Nat) (cond : BitVec 1)
    (inb : cond = 1#1 → ∀ a, off a + S1x128.size a ≤ S100x128.size a) (row : FVec F S1x128 .f32) :
    Prog (TpuEff nD τ sig (Elt F) Λ .tc) PUnit :=
  if h : cond = 1#1 then do
    let _d : Vec F S1x128 .f32 ← Prog.lift (.load a5 (Rect.unit (s := S100x128) off S1x128.size (inb h)).toLoadRect (View.loadsAt_vmem h_S1x128))
    Prog.lift (.store a5 (Rect.unit (s := S100x128) off S1x128.size (inb h)) row Finset.univ (View.stores_vmem_bits_univ h_S1x128 rfl) (.inl rfl))
    pure ⟨⟩
  else do
    pure ⟨⟩

/-- What a trip of the loop carries besides memory. -/
structure Carry (F : FTy → Type) where
  n : BitVec 32
  p1 : Pend F
  p2 : Pend F
  p3 : Pend F
  p4 : Pend F

/-- The carried values after a round. -/
def Carry.next (s : Carry F) (c : Col F) (k : Corners F) : Carry F :=
  ⟨nextN c s.n, pend1 c k, pendOf (acc2 c s.n) (cand2 c), pendOf (acc3 c s.n) (cand3 c), pendOf (acc4 c s.n) (cand4 c)⟩

/-- The round after its pass over memory: the rows it writes. -/
def tailP (b : Bufs) (v23 : IVec S1x128 32) (s : Carry F) (hw1 : k0_chk1 s.n) (c : Col F) :
    Prog (TpuEff nD τ sig (Elt F) Λ .tc) (Carry F) := do
  let hw2 ← Prog.lift (TpuEff.assume (k0_chk2 s.n (ok2 c)) (k0_chk2.dec s.n (ok2 c)))
  let hw3 ← Prog.lift (TpuEff.assume (k0_chk3 s.n (ok3 c)) (k0_chk3.dec s.n (ok3 c)))
  let hw4 ← Prog.lift (TpuEff.assume (k0_chk4 s.n (ok4 c)) (k0_chk4.dec s.n (ok4 c)))
  let _d : Vec F S1x128 .f32 ← Prog.lift (.load b.a5 (Rect.unit (s := S100x128) (k0_off1 s.n) S1x128.size (k0_off1_inb s.n hw1)).toLoadRect (View.loadsAt_vmem h_S1x128))
  Prog.lift (.store b.a5 (Rect.unit (s := S100x128) (k0_off1 s.n) S1x128.size (k0_off1_inb s.n hw1)) (row1 v23 c (corners c)) Finset.univ (View.stores_vmem_bits_univ h_S1x128 rfl) (.inl rfl))
  rowP b.a5 (k0_off2 s.n) (k0_cond2 s.n (ok2 c)) (fun h => k0_off2_inb s.n (ok2 c) hw2.down h) (rowOf v23 (cand2 c).corners (cand2 c).m)
  rowP b.a5 (k0_off3 s.n) (k0_cond3 s.n (ok3 c)) (fun h => k0_off3_inb s.n (ok3 c) hw3.down h) (rowOf v23 (cand3 c).corners (cand3 c).m)
  rowP b.a5 (k0_off4 s.n) (k0_cond4 s.n (ok4 c)) (fun h => k0_off4_inb s.n (ok4 c) hw4.down h) (rowOf v23 (cand4 c).corners (cand4 c).m)
  pure (s.next c (corners c))

/-- A program that only returns, followed by another. -/
theorem bind_of_pure {Λ : Labels} {α β : Type} {x : Prog (TpuEff nD τ sig (Elt F) Λ .tc) α} {v : α}
    (k : α → Prog (TpuEff nD τ sig (Elt F) Λ .tc) β) (h : x = pure v) : (x >>= k) = k v := by
  rw [h]; rfl

/-- Equal programs followed by the same one. -/
theorem bind_left {Λ : Labels} {α β : Type} {x y : Prog (TpuEff nD τ sig (Elt F) Λ .tc) α}
    (k : α → Prog (TpuEff nD τ sig (Elt F) Λ .tc) β) (h : x = y) : (x >>= k) = (y >>= k) := by
  rw [h]

/-- One program followed by equal ones. -/
theorem bind_right {Λ : Labels} {α β : Type} (x : Prog (TpuEff nD τ sig (Elt F) Λ .tc) α)
    {k l : α → Prog (TpuEff nD τ sig (Elt F) Λ .tc) β} (h : ∀ a, k a = l a) : (x >>= k) = (x >>= l) := by
  rw [funext h]

/-- What the loop carries, in the order its label lists it. -/
abbrev Tup (F : FTy → Type) : Type := BitVec 32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32 × FVec F S1x1 .f32

/-- The carried values as that tuple. -/
def Carry.tup (s : Carry F) : Tup F :=
  (s.n, s.p1.v, s.p1.x1, s.p1.y1, s.p1.x2, s.p1.y2, s.p2.v, s.p2.x1, s.p2.y1, s.p2.x2, s.p2.y2,
    s.p3.v, s.p3.x1, s.p3.y1, s.p3.x2, s.p3.y2, s.p4.v, s.p4.x1, s.p4.y1, s.p4.x2, s.p4.y2)

end Cert.Nms

end
-- ==== Proof.Same.lean ====
/- The printed loop body is the round written once: an unfolding. -/
module

public import proofs.«01_k».proof.Proof.Round

@[expose] public section

set_option maxRecDepth 65536

noncomputable section

namespace Cert.Nms

open Idealize.ShloMosaic Idealize.SL.Sem
open Cert.KernelIdeal Cert.KernelIdeal.Gen

variable {F : FTy → Type} [FloatOps F]

section
variable (arg0 : Memref sig .tc .vmem S160x128 .f32) (harg0 : arg0.IsWhole) (arg1 : Memref sig .tc .vmem S160x128 .f32) (harg1 : arg1.IsWhole)
  (arg2 : Memref sig .tc .vmem S160x128 .f32) (harg2 : arg2.IsWhole) (arg3 : Memref sig .tc .vmem S160x128 .f32) (harg3 : arg3.IsWhole)
  (arg6 : Memref sig .tc .vmem S160x128 .f32) (harg6 : arg6.IsWhole) (arg7 : Memref sig .tc .vmem S160x128 .f32) (harg7 : arg7.IsWhole)
  (v24 : IVec S8x128 32) (v23 : IVec S1x128 32) (arg5 : Memref sig .tc .vmem S100x128 .f32) (harg5 : arg5.IsWhole) (s : Carry F)

/-- The label's operands for carried values `s`. -/
def args : Cc0While1 F :=
  ⟨arg0, harg0, arg1, harg1, arg2, harg2, arg3, harg3, arg6, harg6, arg7, harg7, v24, v23, arg5, harg5,
    s.n, s.p1.v, s.p1.x1, s.p1.y1, s.p1.x2, s.p1.y2, s.p2.v, s.p2.x1, s.p2.y1, s.p2.x2, s.p2.y2,
    s.p3.v, s.p3.x1, s.p3.y1, s.p3.x2, s.p3.y2, s.p4.v, s.p4.x1, s.p4.y1, s.p4.x2, s.p4.y2⟩

/-- One trip: while fewer than a hundred rows are written, a round, then the loop again. -/
def tripP : Prog (TpuEff nD τ sig (Elt F) (Λ₀ F) .tc) (Tup F) :=
  if Scalar.cmpi .slt s.n 100#32 = 1#1 then do
    let hw ← Prog.lift (TpuEff.assume (k0_chk1 s.n) (k0_chk1.dec s.n))
    let a ← blocksP ⟨arg0, arg1, arg2, arg3, arg6, arg7, arg5⟩ v24 s.p1 s.p2 s.p3 s.p4 20 0 (by omega) Acc.init
    let s' ← tailP ⟨arg0, arg1, arg2, arg3, arg6, arg7, arg5⟩ v23 s hw.down (Col.of v23 a.fold)
    Prog.lift (.call (1 : (Λ₀ F).Label) (args arg0 harg0 arg1 harg1 arg2 harg2 arg3 harg3 arg6 harg6 arg7 harg7 v24 v23 arg5 harg5 s'))
  else pure s.tup

set_option maxHeartbeats 1000000 in
/-- The pass over memory. -/
theorem p72 : k0_part72 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2
   = (do
      let hw ← Prog.lift (TpuEff.assume (k0_chk1 s.n) (k0_chk1.dec s.n))
      let a ← blocksP ⟨arg0, arg1, arg2, arg3, arg6, arg7, arg5⟩ v24 s.p1 s.p2 s.p3 s.p4 20 0 (by omega) Acc.init
      pure ⟨hw.down, top a.fold.v, top a.fold.v2, top a.fold.x1, top a.fold.y1, top a.fold.x2, top a.fold.y2,
        flatOf v23 a.fold.r, flatOf v23 a.fold.r2,
        multiReduction .maximumf [1] S1 (top a.fold.v) 0xFF800000#32 reduces_S1x128_S1 (.inl rfl) rfl⟩) := rfl

variable (c : Col F) (k1 k2 k3 k4 : Cand F)

/-- The first candidate, and the second begun. -/
theorem p61 : k0_part61 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 c.v c.v2 c.x1 c.y1 c.x2 c.y2 c.f1 c.f2
     (multiReduction .maximumf [1] S1 c.v 0xFF800000#32 reduces_S1x128_S1 (.inl rfl) rfl)
   = pure ⟨(cand1 c).m, s1 c, (cand1 c).negf, (cand1 c).x1, (cand1 c).y1, (cand1 c).x2, (cand1 c).y2, (cand1 c).posf,
      (cand2 c).m, (cand2 c).sel, select (s1 c) c.f2 c.f1, keep (cand2 c).sel (subf (broadcast S1x128 (zf F)) (select (s1 c) c.f2 c.f1)),
      keep (andi (cand2 c).sel (notm (s1 c))) c.x1, constantI S1x128 1 1#1⟩ := rfl

/-- The second candidate, and the third begun. -/
theorem p62 : k0_part62 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 c.v c.v2 c.y1 c.x2 c.y2 c.f1 c.f2 (s1 c) (cand2 c).sel (select (s1 c) c.f2 c.f1)
      (keep (cand2 c).sel (subf (broadcast S1x128 (zf F)) (select (s1 c) c.f2 c.f1)))
      (keep (andi (cand2 c).sel (notm (s1 c))) c.x1) (constantI S1x128 1 1#1)
   = pure ⟨(cand2 c).negf, (cand2 c).x1, (cand2 c).y1, (cand2 c).x2, (cand2 c).y2, (cand2 c).posf, s2 c,
      (cand3 c).m, (cand3 c).sel, select (u2 c) c.f2 c.f1, s3 c,
      keep (cand3 c).sel (subf (broadcast S1x128 (zf F)) (select (u2 c) c.f2 c.f1))⟩ := rfl

/-- The third candidate, and the fourth begun. -/
theorem p63 : k0_part63 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 c.v c.v2 c.x1 c.y1 c.x2 c.y2 c.f1 c.f2 (s1 c) (s2 c) (cand3 c).sel (select (u2 c) c.f2 c.f1)
      (s3 c) (keep (cand3 c).sel (subf (broadcast S1x128 (zf F)) (select (u2 c) c.f2 c.f1)))
   = pure ⟨(cand3 c).negf, (cand3 c).x1, (cand3 c).y1, (cand3 c).x2, (cand3 c).y2, (cand3 c).posf,
      (cand4 c).m, (cand4 c).sel, select (u3 c) c.f2 c.f1, andi (andi (andi (cand4 c).sel (notm (s1 c))) (notm (s2 c))) (notm (s3 c)),
      subf (broadcast S1x128 (zf F)) (select (u3 c) c.f2 c.f1)⟩ := rfl

/-- The fourth candidate, three ties and the first's lane. -/
theorem p64 : k0_part64 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 c.x1 c.y1 c.x2 c.y2 k1.negf k1.posf k2.negf k2.posf k3.negf k3.posf
      (cand4 c).sel (select (u3 c) c.f2 c.f1) (andi (andi (andi (cand4 c).sel (notm (s1 c))) (notm (s2 c))) (notm (s3 c)))
      (subf (broadcast S1x128 (zf F)) (select (u3 c) c.f2 c.f1))
   = pure ⟨(cand4 c).negf, (cand4 c).x1, (cand4 c).y1, (cand4 c).x2, (cand4 c).y2, (cand4 c).posf, k1.tie, k2.tie, k3.tie, k1.lane⟩ := rfl

/-- Lanes, and the second against the first. -/
theorem p65 : k0_part65 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 k1.x1 k1.y1 k1.x2 k1.y2 k2.negf k2.x1 k2.y1 k2.x2 k2.y2 k3.negf k1.tie k2.tie k1.lane
   = pure ⟨k2.lane, k3.lane, k2.supBy k1, ori (ori k1.tie k2.tie) (cmpf .oeq k1.lane k2.lane), ninf F⟩ := rfl

/-- Whether the second is refused, and the third against the first two. -/
theorem p66 : k0_part66 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 k1.x1 k1.y1 k1.x2 k1.y2 k2.m k2.x1 k2.y1 k2.x2 k2.y2 k3.x1 k3.y1 k3.x2 k3.y2
     k1.lane k2.lane k3.lane (k2.supBy k1) (ori (ori k1.tie k2.tie) (cmpf .oeq k1.lane k2.lane)) (ninf F)
   = pure ⟨ori (ori (ori (ori k1.tie k2.tie) (cmpf .oeq k1.lane k2.lane)) k2.none) (k2.supBy k1),
      ori (cmpf .oeq k3.lane k1.lane) (cmpf .oeq k3.lane k2.lane), k3.supBy k1, k3.iou k2⟩ := rfl

/-- Whether the third is refused, and the fourth begun. -/
theorem p67 (b2 st3 : IVec S1x1 1) : k0_part67 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 k1.x1 k1.y1 k1.x2 k1.y2 k3.m k4.negf k4.x1 k4.y1 k4.x2 k4.y2 k4.posf k3.tie
     k1.lane k2.lane k3.lane b2 st3 (k3.supBy k1) (k3.iou k2)
   = pure ⟨ori (ori (ori (ori (ori b2 k3.tie) st3) k3.none) (k3.supBy k1)) (k3.supBy k2), k4.tie,
      ori (ori (cmpf .oeq k4.lane k1.lane) (cmpf .oeq k4.lane k2.lane)) (cmpf .oeq k4.lane k3.lane), k4.iou k1,
      Scalar.ofBits .f32 0x3F000000#32⟩ := rfl

/-- The fourth against the first three. -/
theorem p68 (b3 st4 : IVec S1x1 1) : k0_part68 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 k2.x1 k2.y1 k2.x2 k2.y2 k3.x1 k3.y1 k3.x2 k3.y2 k4.x1 k4.y1 k4.x2 k4.y2
     b3 k4.tie st4 (k4.iou k1) (Scalar.ofBits .f32 0x3F000000#32)
   = pure ⟨k4.supBy k1, k4.supBy k2, k4.supBy k3, ori (ori b3 k4.tie) st4⟩ := rfl

/-- The flags as one number, and what it says of the second. -/
theorem p69 : k0_part69 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 (cand4 c).m (cand1 c).tie (bad2 c) (bad3 c) ((cand4 c).supBy (cand1 c)) ((cand4 c).supBy (cand2 c))
      ((cand4 c).supBy (cand3 c)) (ori (ori (bad3 c) (cand4 c).tie)
    (ori (ori (cmpf .oeq (cand4 c).lane (cand1 c).lane) (cmpf .oeq (cand4 c).lane (cand2 c).lane))
      (cmpf .oeq (cand4 c).lane (cand3 c).lane)))
   = (do
      let hw2 ← Prog.lift (TpuEff.assume (k0_chk2 s.n (ok2 c)) (k0_chk2.dec s.n (ok2 c)))
      pure ⟨codeOf c, tieBit c, ok2 c, hw2.down⟩) := rfl

/-- What it says of the third and fourth, and the tie's way. -/
theorem p70 : k0_part70 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 c.x1 c.y1 c.x2 c.y2 c.f1 (cand1 c).m (cand1 c).negf (cand1 c).x1 (cand1 c).y1 (cand1 c).x2 (cand1 c).y2
      (codeOf c) (tieBit c) (ok2 c)
   = (do
      let hw3 ← Prog.lift (TpuEff.assume (k0_chk3 s.n (ok3 c)) (k0_chk3.dec s.n (ok3 c)))
      let hw4 ← Prog.lift (TpuEff.assume (k0_chk4 s.n (ok4 c)) (k0_chk4.dec s.n (ok4 c)))
      let k : Corners F ← if tieWord c = 1#1 then pure (fixed c) else pure ((cand1 c).x1, (cand1 c).y1, (cand1 c).x2, (cand1 c).y2)
      pure ⟨acc2 c s.n, ok3 c, hw3.down, acc3 c s.n, ok4 c, hw4.down, acc4 c s.n, k.1, k.2.1, k.2.2.1, k.2.2.2,
        cmpf .one (cand1 c).m (broadcast S1x1 (ninf F)),
        addf (addf (cell v23 0#32 k.1) (cell v23 1#32 k.2.1)) (cell v23 2#32 k.2.2.1)⟩) := rfl

/-- The rows written. -/
theorem p71 (hw1 : k0_chk1 s.n) (hw2 : k0_chk2 s.n (ok2 c)) (hw3 : k0_chk3 s.n (ok3 c)) (hw4 : k0_chk4 s.n (ok4 c)) (k : Corners F) :
    k0_part71 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 hw1 (cand1 c).m (cand2 c).m (cand2 c).x1 (cand2 c).y1 (cand2 c).x2 (cand2 c).y2
      (cand3 c).m (cand3 c).x1 (cand3 c).y1 (cand3 c).x2 (cand3 c).y2 (cand4 c).m (cand4 c).x1 (cand4 c).y1 (cand4 c).x2 (cand4 c).y2
      (ok2 c) hw2 (acc2 c s.n) (ok3 c) hw3 (acc3 c s.n) (ok4 c) hw4 (acc4 c s.n) k.2.2.2 (cmpf .one (cand1 c).m (broadcast S1x1 (ninf F)))
      (addf (addf (cell v23 0#32 k.1) (cell v23 1#32 k.2.1)) (cell v23 2#32 k.2.2.1))
   = (do
      let _d : Vec F S1x128 .f32 ← Prog.lift (.load arg5 (Rect.unit (s := S100x128) (k0_off1 s.n) S1x128.size (k0_off1_inb s.n hw1)).toLoadRect (View.loadsAt_vmem h_S1x128))
      Prog.lift (.store arg5 (Rect.unit (s := S100x128) (k0_off1 s.n) S1x128.size (k0_off1_inb s.n hw1)) (row1 v23 c k) Finset.univ (View.stores_vmem_bits_univ h_S1x128 rfl) (.inl rfl))
      if h : k0_cond2 s.n (ok2 c) = 1#1 then do
        let _d : Vec F S1x128 .f32 ← Prog.lift (.load arg5 (Rect.unit (s := S100x128) (k0_off2 s.n) S1x128.size (k0_off2_inb s.n (ok2 c) hw2 h)).toLoadRect (View.loadsAt_vmem h_S1x128))
        Prog.lift (.store arg5 (Rect.unit (s := S100x128) (k0_off2 s.n) S1x128.size (k0_off2_inb s.n (ok2 c) hw2 h)) (rowOf v23 (cand2 c).corners (cand2 c).m) Finset.univ (View.stores_vmem_bits_univ h_S1x128 rfl) (.inl rfl))
        pure ⟨⟩
      else do
        pure ⟨⟩
      if h : k0_cond3 s.n (ok3 c) = 1#1 then do
        let _d : Vec F S1x128 .f32 ← Prog.lift (.load arg5 (Rect.unit (s := S100x128) (k0_off3 s.n) S1x128.size (k0_off3_inb s.n (ok3 c) hw3 h)).toLoadRect (View.loadsAt_vmem h_S1x128))
        Prog.lift (.store arg5 (Rect.unit (s := S100x128) (k0_off3 s.n) S1x128.size (k0_off3_inb s.n (ok3 c) hw3 h)) (rowOf v23 (cand3 c).corners (cand3 c).m) Finset.univ (View.stores_vmem_bits_univ h_S1x128 rfl) (.inl rfl))
        pure ⟨⟩
      else do
        pure ⟨⟩
      if h : k0_cond4 s.n (ok4 c) = 1#1 then do
        let _d : Vec F S1x128 .f32 ← Prog.lift (.load arg5 (Rect.unit (s := S100x128) (k0_off4 s.n) S1x128.size (k0_off4_inb s.n (ok4 c) hw4 h)).toLoadRect (View.loadsAt_vmem h_S1x128))
        Prog.lift (.store arg5 (Rect.unit (s := S100x128) (k0_off4 s.n) S1x128.size (k0_off4_inb s.n (ok4 c) hw4 h)) (rowOf v23 (cand4 c).corners (cand4 c).m) Finset.univ (View.stores_vmem_bits_univ h_S1x128 rfl) (.inl rfl))
        pure ⟨⟩
      else do
        pure ⟨⟩
      pure ⟨nextN c s.n, (pendOf (acc2 c s.n) (cand2 c)).v, (pendOf (acc3 c s.n) (cand3 c)).v, ninf F⟩) := rfl

/-- The rows written, each later one a program of its own. -/
theorem p71' (hw1 : k0_chk1 s.n) (hw2 : k0_chk2 s.n (ok2 c)) (hw3 : k0_chk3 s.n (ok3 c)) (hw4 : k0_chk4 s.n (ok4 c)) (k : Corners F) :
    k0_part71 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2 s.p3.v s.p3.x1 s.p3.y1 s.p3.x2 s.p3.y2 s.p4.v s.p4.x1 s.p4.y1 s.p4.x2 s.p4.y2 hw1 (cand1 c).m (cand2 c).m (cand2 c).x1 (cand2 c).y1 (cand2 c).x2 (cand2 c).y2
      (cand3 c).m (cand3 c).x1 (cand3 c).y1 (cand3 c).x2 (cand3 c).y2 (cand4 c).m (cand4 c).x1 (cand4 c).y1 (cand4 c).x2 (cand4 c).y2
      (ok2 c) hw2 (acc2 c s.n) (ok3 c) hw3 (acc3 c s.n) (ok4 c) hw4 (acc4 c s.n) k.2.2.2 (cmpf .one (cand1 c).m (broadcast S1x1 (ninf F)))
      (addf (addf (cell v23 0#32 k.1) (cell v23 1#32 k.2.1)) (cell v23 2#32 k.2.2.1))
   = (do
      let _d : Vec F S1x128 .f32 ← Prog.lift (.load arg5 (Rect.unit (s := S100x128) (k0_off1 s.n) S1x128.size (k0_off1_inb s.n hw1)).toLoadRect (View.loadsAt_vmem h_S1x128))
      Prog.lift (.store arg5 (Rect.unit (s := S100x128) (k0_off1 s.n) S1x128.size (k0_off1_inb s.n hw1)) (row1 v23 c k) Finset.univ (View.stores_vmem_bits_univ h_S1x128 rfl) (.inl rfl))
      rowP arg5 (k0_off2 s.n) (k0_cond2 s.n (ok2 c)) (fun h => k0_off2_inb s.n (ok2 c) hw2 h) (rowOf v23 (cand2 c).corners (cand2 c).m)
      rowP arg5 (k0_off3 s.n) (k0_cond3 s.n (ok3 c)) (fun h => k0_off3_inb s.n (ok3 c) hw3 h) (rowOf v23 (cand3 c).corners (cand3 c).m)
      rowP arg5 (k0_off4 s.n) (k0_cond4 s.n (ok4 c)) (fun h => k0_off4_inb s.n (ok4 c) hw4 h) (rowOf v23 (cand4 c).corners (cand4 c).m)
      pure ⟨nextN c s.n, (pendOf (acc2 c s.n) (cand2 c)).v, (pendOf (acc3 c s.n) (cand3 c)).v, ninf F⟩) := by
  rw [p71]
  by_cases h2 : k0_cond2 s.n (ok2 c) = 1#1 <;> by_cases h3 : k0_cond3 s.n (ok3 c) = 1#1 <;>
    by_cases h4 : k0_cond4 s.n (ok4 c) = 1#1 <;> simp only [rowP, dif_pos, dif_neg, h2, h3, h4, not_false_eq_true] <;> rfl

/-- The printed loop body is that trip. -/
theorem while_eq :
   cc0_while1 (F := F) arg0 harg0 arg1 harg1 arg2 harg2 arg3 harg3 arg6 harg6 arg7 harg7 v24 v23 arg5 harg5
    s.n s.p1.v s.p1.x1 s.p1.y1 s.p1.x2 s.p1.y2 s.p2.v s.p2.x1 s.p2.y1 s.p2.x2 s.p2.y2
    s.p3.v s.p3.x1 s.p3.y1 s.p3.x2 s.p3.y2 s.p4.v s.p4.x1 s.p4.y1 s.p4.x2 s.p4.y2
   = tripP arg0 harg0 arg1 harg1 arg2 harg2 arg3 harg3 arg6 harg6 arg7 harg7 v24 v23 arg5 harg5 s := by
  unfold cc0_while1 tripP
  by_cases hc : Scalar.cmpi .slt s.n 100#32 = 1#1
  · simp only [hc, if_true]
    rw [p72]
    simp only [bind_assoc, pure_bind]
    refine congrArg (Prog.lift _ >>= ·) (funext fun hw => congrArg (blocksP _ _ _ _ _ _ _ _ _ _ >>= ·) (funext fun a => ?_))
    simp only [show top a.fold.v = (Col.of v23 a.fold).v from rfl, show top a.fold.v2 = (Col.of v23 a.fold).v2 from rfl,
      show top a.fold.x1 = (Col.of v23 a.fold).x1 from rfl, show top a.fold.y1 = (Col.of v23 a.fold).y1 from rfl,
      show top a.fold.x2 = (Col.of v23 a.fold).x2 from rfl, show top a.fold.y2 = (Col.of v23 a.fold).y2 from rfl,
      show flatOf v23 a.fold.r = (Col.of v23 a.fold).f1 from rfl, show flatOf v23 a.fold.r2 = (Col.of v23 a.fold).f2 from rfl]
    generalize Col.of v23 a.fold = c
    refine (bind_of_pure (F := F) _ (p61 arg0 harg0 arg1 harg1 arg2 harg2 arg3 harg3 arg6 harg6 arg7 harg7 v24 v23 arg5 harg5 s c)).trans ?_
    dsimp only
    refine (bind_of_pure (F := F) _ (p62 arg0 harg0 arg1 harg1 arg2 harg2 arg3 harg3 arg6 harg6 arg7 harg7 v24 v23 arg5 harg5 s c)).trans ?_
    dsimp only
    refine (bind_of_pure (F := F) _ (p63 arg0 harg0 arg1 harg1 arg2 harg2 arg3 harg3 arg6 harg6 arg7 harg7 v24 v23 arg5 harg5 s c)).trans ?_
    dsimp only
    refine (bind_of_pure (F := F) _ (p64 arg0 harg0 arg1 harg1 arg2 harg2 arg3 harg3 arg6 harg6 arg7 harg7 v24 v23 arg5 harg5 s c (cand1 c) (cand2 c) (cand3 c))).trans ?_
    dsimp only
    refine (bind_of_pure (F := F) _ (p65 arg0 harg0 arg1 harg1 arg2 harg2 arg3 harg3 arg6 harg6 arg7 harg7 v24 v23 arg5 harg5 s (cand1 c) (cand2 c) (cand3 c))).trans ?_
    dsimp only
    refine (bind_of_pure (F := F) _ (p66 arg0 harg0 arg1 harg1 arg2 harg2 arg3 harg3 arg6 harg6 arg7 harg7 v24 v23 arg5 harg5 s (cand1 c) (cand2 c) (cand3 c))).trans ?_
    dsimp only
    refine (bind_of_pure (F := F) _ (p67 arg0 harg0 arg1 harg1 arg2 harg2 arg3 harg3 arg6 harg6 arg7 harg7 v24 v23 arg5 harg5 s (cand1 c) (cand2 c) (cand3 c) (cand4 c) (bad2 c) _)).trans ?_
    dsimp only
    refine (bind_of_pure (F := F) _ (p68 arg0 harg0 arg1 harg1 arg2 harg2 arg3 harg3 arg6 harg6 arg7 harg7 v24 v23 arg5 harg5 s (cand1 c) (cand2 c) (cand3 c) (cand4 c) (bad3 c) _)).trans ?_
    dsimp only
    refine (bind_left (F := F) _ (p69 arg0 harg0 arg1 harg1 arg2 harg2 arg3 harg3 arg6 harg6 arg7 harg7 v24 v23 arg5 harg5 s c)).trans ?_
    unfold tailP
    simp only [bind_assoc, pure_bind]
    refine congrArg (Prog.lift _ >>= ·) (funext fun hw2 => ?_)
    refine (bind_left (F := F) _ (p70 arg0 harg0 arg1 harg1 arg2 harg2 arg3 harg3 arg6 harg6 arg7 harg7 v24 v23 arg5 harg5 s c)).trans ?_
    simp only [bind_assoc, pure_bind]
    refine congrArg (Prog.lift _ >>= ·) (funext fun hw3 => ?_)
    refine congrArg (Prog.lift _ >>= ·) (funext fun hw4 => ?_)
    unfold corners
    by_cases ht : tieWord c = 1#1
    · simp only [ht, if_true, pure_bind]
      refine (bind_left (F := F) _ (p71' arg0 harg0 arg1 harg1 arg2 harg2 arg3 harg3 arg6 harg6 arg7 harg7 v24 v23 arg5 harg5 s c hw.down hw2.down hw3.down hw4.down (fixed c))).trans ?_
      simp only [bind_assoc, pure_bind]
      rfl
    · simp only [ht, if_false, pure_bind]
      refine (bind_left (F := F) _ (p71' arg0 harg0 arg1 harg1 arg2 harg2 arg3 harg3 arg6 harg6 arg7 harg7 v24 v23 arg5 harg5 s c hw.down hw2.down hw3.down hw4.down
        ((cand1 c).x1, (cand1 c).y1, (cand1 c).x2, (cand1 c).y2))).trans ?_
      simp only [bind_assoc, pure_bind]
      rfl
  · simp only [hc, if_false]; rfl

end

end Cert.Nms

end
-- ==== Proof.Fun.lean ====
/- The round as a function of what memory holds: a pass that rewrites the working scores block by
   block, the rows it writes, and the loop iterated. -/
module

public import proofs.«01_k».proof.Proof.Round
public import Idealize.ShloMosaic.Lib.VecWindow

@[expose] public section

set_option maxRecDepth 16384

noncomputable section

namespace Cert.Nms

open Idealize.ShloMosaic Idealize.SL.Sem
open Cert.KernelIdeal Cert.KernelIdeal.Gen

variable {F : FTy → Type} [FloatOps F]

/-- The arrays a round only reads: corners and areas. -/
structure Boxes (F : FTy → Type) where
  x1 : FVec F S160x128 .f32
  y1 : FVec F S160x128 .f32
  x2 : FVec F S160x128 .f32
  y2 : FVec F S160x128 .f32
  ar : FVec F S160x128 .f32

/-- The eight rows of block `v`. -/
def win (v : Nat) (h : v < 20) (X : FVec F S160x128 .f32) : FVec F S8x128 .f32 :=
  VecWindow.window X ![8 * v, 0] S8x128.size (inb_block v h)

/-- Block `v` replaced. -/
def putB (v : Nat) (W : FVec F S160x128 .f32) (w : FVec F S8x128 .f32) : FVec F S160x128 .f32 :=
  VecWindow.put (s := S160x128) W ![8 * v, 0] S8x128.size w

/-- A cast between equal shapes of eight rows, as the kernel writes it. -/
abbrev sc (x : FVec F S8x128 .f32) : FVec F S8x128 .f32 := shapeCast S8x128 x shapeCasts_S8x128_S8x128

/-- Block `v` of the scores after the waiting boxes have suppressed. -/
def newB (A : Boxes F) (s : Carry F) (v : Nat) (h : v < 20) (W : FVec F S160x128 .f32) : FVec F S8x128 .f32 :=
  blockNew (sc (win v h A.x1)) (sc (win v h A.y1)) (sc (win v h A.x2)) (sc (win v h A.y2)) (win v h A.ar) (win v h W)
    s.p1 s.p2 s.p3 s.p4

/-- The accumulators after block `v`. -/
def accB (A : Boxes F) (v24 : IVec S8x128 32) (v : Nat) (h : v < 20) (nw : FVec F S8x128 .f32) (a : Acc F) : Acc F :=
  Acc.step (addi v24 (broadcast S8x128 (BitVec.ofNat 32 (8 * v))))
    (sc (win v h A.x1)) (sc (win v h A.y1)) (sc (win v h A.x2)) (sc (win v h A.y2)) nw a

/-- `k` blocks of the pass from block `v` on: the scores and the accumulators. -/
def blocksF (A : Boxes F) (v24 : IVec S8x128 32) (s : Carry F) :
    (k v : Nat) → v + k ≤ 20 → FVec F S160x128 .f32 → Acc F → FVec F S160x128 .f32 × Acc F
  | 0, _, _, W, a => (W, a)
  | k + 1, v, h, W, a =>
      blocksF A v24 s k (v + 1) (by omega) (putB v W (sc (newB A s v (by omega) W)))
        (accB A v24 v (by omega) (newB A s v (by omega) W) a)

/-- A result row replaced. -/
def putR (O : FVec F S100x128 .f32) (off : Fin 2 → Nat) (row : FVec F S1x128 .f32) : FVec F S100x128 .f32 :=
  VecWindow.put (s := S100x128) O off S1x128.size row

/-- A result row replaced where the condition holds. -/
def rowF (off : Fin 2 → Nat) (cond : BitVec 1) (row : FVec F S1x128 .f32) (O : FVec F S100x128 .f32) : FVec F S100x128 .f32 :=
  if cond = 1#1 then putR O off row else O

/-- The rows a round writes. -/
def tailF (v23 : IVec S1x128 32) (s : Carry F) (c : Col F) (O : FVec F S100x128 .f32) : FVec F S100x128 .f32 :=
  rowF (k0_off4 s.n) (k0_cond4 s.n (ok4 c)) (rowOf v23 (cand4 c).corners (cand4 c).m)
    (rowF (k0_off3 s.n) (k0_cond3 s.n (ok3 c)) (rowOf v23 (cand3 c).corners (cand3 c).m)
      (rowF (k0_off2 s.n) (k0_cond2 s.n (ok2 c)) (rowOf v23 (cand2 c).corners (cand2 c).m)
        (putR O (k0_off1 s.n) (row1 v23 c (corners c)))))

/-- What the loop changes: the working scores, the result, and what it carries. -/
structure Mem (F : FTy → Type) where
  w : FVec F S160x128 .f32
  o : FVec F S100x128 .f32
  s : Carry F

/-- The scores and accumulators after a whole pass. -/
def pass (A : Boxes F) (v24 : IVec S8x128 32) (m : Mem F) : FVec F S160x128 .f32 × Acc F :=
  blocksF A v24 m.s 20 0 (by omega) m.w Acc.init

/-- The lanes after a whole pass. -/
def colOf (A : Boxes F) (v24 : IVec S8x128 32) (v23 : IVec S1x128 32) (m : Mem F) : Col F :=
  Col.of v23 (pass A v24 m).2.fold

/-- One trip. -/
def Mem.round (A : Boxes F) (v24 : IVec S8x128 32) (v23 : IVec S1x128 32) (m : Mem F) : Mem F :=
  { w := (pass A v24 m).1
    o := tailF v23 m.s (colOf A v24 v23 m) m.o
    s := m.s.next (colOf A v24 v23 m) (corners (colOf A v24 v23 m)) }

/-- The loop with at most `k` trips. -/
def Mem.iter (A : Boxes F) (v24 : IVec S8x128 32) (v23 : IVec S1x128 32) : Nat → Mem F → Mem F
  | 0, m => m
  | k + 1, m => if Scalar.cmpi .slt m.s.n 100#32 = 1#1 then (m.round A v24 v23).iter A v24 v23 k else m

/-! ### The count of rows written -/

/-- One or nothing added. -/
theorem sel01 (b : BitVec 1) : (Scalar.select b 1#32 0#32 : BitVec 32) = 0#32 ∨ (Scalar.select b 1#32 0#32 : BitVec 32) = 1#32 := by
  revert b; decide

/-- A round writes between one and four rows. -/
theorem nextN_bounds (c : Col F) (n : BitVec 32) (hn : n.toNat < 100) :
    n.toNat + 1 ≤ (nextN c n).toNat ∧ (nextN c n).toNat ≤ n.toNat + 4 := by
  unfold nextN
  simp only [Scalar.addi, IntOp.addi]
  rcases sel01 (acc2 c n) with h2 | h2 <;> rcases sel01 (acc3 c n) with h3 | h3 <;> rcases sel01 (acc4 c n) with h4 | h4 <;>
    rw [h2, h3, h4] <;> simp only [BitVec.toNat_add, BitVec.toNat_ofNat] <;> omega

/-- The test, of a small count. -/
theorem slt_iff (n : BitVec 32) (hn : n.toNat ≤ 103) (k : Nat) (hk : k ≤ 100) :
    Scalar.cmpi .slt n (BitVec.ofNat 32 k) = 1#1 ↔ n.toNat < k := by
  have h1 : n.toInt = n.toNat := by rw [BitVec.toInt_eq_toNat_cond]; split <;> omega
  have h2 : (BitVec.ofNat 32 k).toInt = k := by
    rw [BitVec.toInt_eq_toNat_cond, BitVec.toNat_ofNat]; split <;> omega
  simp only [Scalar.cmpi, IntOp.cmpi, BitVec.slt, h1, h2]
  by_cases h : n.toNat < k
  · have : ((n.toNat : Int) < (k : Int)) := by omega
    simp [this, h]
  · have : ¬ ((n.toNat : Int) < (k : Int)) := by omega
    simp [this, h]

end Cert.Nms

end
-- ==== Proof.Steps.lean ====
/- What one round's program does to the kernel's buffers, at any reading of floats and under any body table. -/
module

public import proofs.«01_k».proof.Proof.Fun
public import Idealize.ShloMosaic.Lib.Pipeline.Frame
public import Idealize.ShloMosaic.Lib.Pipeline.Value
public import Idealize.ShloMosaic.Lib.Tactic

@[expose] public section

set_option maxRecDepth 16384

noncomputable section

namespace Cert.Nms

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the launch. -/
local notation "𝕄" => MT nD τ sig Unit (Elt F) ℕ (UR sig nD τ) ℕ

/-- Variants: the rows still to be written. -/
abbrev 𝒱₀ : Variants := Variants.nat

/-! ### Reads and writes of whole buffers as functions -/

/-- The kernel's buffers. -/
def kb : Bufs :=
  { a0 := Memref.whole cc0_stg0_0, a1 := Memref.whole cc0_stg1_0, a2 := Memref.whole cc0_stg2_0, a3 := Memref.whole cc0_stg3_0
    a6 := Memref.whole cc0_scratch0, a7 := Memref.whole cc0_scratch1, a5 := Memref.whole cc0_stg5_0 }

/-- A read of a rectangle of a whole buffer. -/
theorem read_whole (b : Ref sig .tc) (off size : Fin b.ty.shape.rank → Nat) (inb : ∀ a, off a + size a ≤ b.ty.shape.size a)
    (f : b.ty.Contents (Elt F)) :
    (Memref.whole b).view.readAt (Elt F) (Rect.unit off size inb).toLoadRect f = VecWindow.window f off size inb := rfl

/-- A write of a rectangle of a whole buffer. -/
theorem write_whole (b : Ref sig .tc) (off size : Fin b.ty.shape.rank → Nat) (inb : ∀ a, off a + size a ≤ b.ty.shape.size a)
    (f : b.ty.Contents (Elt F)) (w : (Rect.unit off size inb).shape.Idx → Elt F b.ty.elt) :
    ((Memref.whole b).access (Rect.unit off size inb) : View sig .tc _ _ _).write (Elt F) f w Finset.univ = VecWindow.put f off size w := by
  rw [VecWindow.put_eq_updateSlice f off size inb w]
  exact View.write_whole_slice_unit b off size inb f w

section Label

variable (c : Dev nD) (A : Boxes F) (v24 : IVec S8x128 32) (v23 : IVec S1x128 32)

/-- The buffers the loop works on, held whole. -/
def held (W : FVec F S160x128 .f32) (O : FVec F S100x128 .f32) : sProp 𝕄 :=
  iprop((((c : Thread nD τ).loc cc0_stg0_0) ↦{fullShare} A.x1) ∗ (((c : Thread nD τ).loc cc0_stg1_0) ↦{fullShare} A.y1)
    ∗ (((c : Thread nD τ).loc cc0_stg2_0) ↦{fullShare} A.x2) ∗ (((c : Thread nD τ).loc cc0_stg3_0) ↦{fullShare} A.y2)
    ∗ (((c : Thread nD τ).loc cc0_scratch1) ↦{fullShare} A.ar) ∗ (((c : Thread nD τ).loc cc0_scratch0) ↦{fullShare} W)
    ∗ (((c : Thread nD τ).loc cc0_stg5_0) ↦{fullShare} O))

variable {Λ : Labels} {D : Defs nD τ sig (Elt F) Λ} (bd : Option ℕ) (E : Set ℕ)

/-- One block of the pass. -/
theorem wp_block (s : Carry F) (v : Nat) (h : v < 20) (W : FVec F S160x128 .f32) (O : FVec F S100x128 .f32) (a : Acc F)
    {α : Type} (k : Acc F → Prog (TpuEff nD τ sig (Elt F) Λ .tc) α) (K : α → sProp 𝕄) :
    iprop(held c A W O
      ∗ (held c A (putB v W (sc (newB A s v h W))) O
        -∗ wp frame (wpE D 𝒱₀ (c : Thread nD τ) bd) E (k (accB A v24 v h (newB A s v h W) a)) K))
      ⊢ wp frame (wpE D 𝒱₀ (c : Thread nD τ) bd) E (blockP kb v24 s.p1 s.p2 s.p3 s.p4 v h a >>= k) K := by
  unfold blockP loadB
  simp only [Prog.lift, Prog.bind_op, Prog.bind_ret, Prog.pure_eq_ret, kb]
  unfold held
  iintro ⟨⟨H0, H1, H2, H3, H7, H6, H5⟩, Hk⟩
  iapply (wp_load 𝒱₀ (c : Thread nD τ) bd E (m := Memref.whole cc0_stg0_0) (Finset.subset_univ _)) $$ H0; iintro H0
  iapply (wp_load 𝒱₀ (c : Thread nD τ) bd E (m := Memref.whole cc0_stg1_0) (Finset.subset_univ _)) $$ H1; iintro H1
  iapply (wp_load 𝒱₀ (c : Thread nD τ) bd E (m := Memref.whole cc0_stg2_0) (Finset.subset_univ _)) $$ H2; iintro H2
  iapply (wp_load 𝒱₀ (c : Thread nD τ) bd E (m := Memref.whole cc0_stg3_0) (Finset.subset_univ _)) $$ H3; iintro H3
  iapply (wp_load 𝒱₀ (c : Thread nD τ) bd E (m := Memref.whole cc0_scratch0) (Finset.subset_univ _)) $$ H6; iintro H6
  iapply (wp_load 𝒱₀ (c : Thread nD τ) bd E (m := Memref.whole cc0_scratch1) (Finset.subset_univ _)) $$ H7; iintro H7
  iapply (wp_load 𝒱₀ (c : Thread nD τ) bd E (m := Memref.whole cc0_scratch0) (Finset.subset_univ _)) $$ H6; iintro H6
  iapply (wp_store 𝒱₀ (c : Thread nD τ) bd E (m := Memref.whole cc0_scratch0)
    (r := Rect.unit (s := S160x128) ![8 * v, 0] S8x128.size (inb_block v h)) (Mk := Finset.univ) (Finset.subset_univ _)) $$ H6; iintro H6
  rw [write_whole cc0_scratch0]
  iapply Hk
  isplitl [H0]; · iexact H0
  isplitl [H1]; · iexact H1
  isplitl [H2]; · iexact H2
  isplitl [H3]; · iexact H3
  isplitl [H7]; · iexact H7
  isplitl [H6]; · iexact H6
  iexact H5

/-- Several blocks of the pass. -/
theorem wp_blocks (s : Carry F) (O : FVec F S100x128 .f32) {α : Type}
    (k : Acc F → Prog (TpuEff nD τ sig (Elt F) Λ .tc) α) (K : α → sProp 𝕄) :
    ∀ (n v : Nat) (h : v + n ≤ 20) (W : FVec F S160x128 .f32) (a : Acc F),
    iprop(held c A W O
      ∗ (held c A (blocksF A v24 s n v h W a).1 O
        -∗ wp frame (wpE D 𝒱₀ (c : Thread nD τ) bd) E (k (blocksF A v24 s n v h W a).2) K))
      ⊢ wp frame (wpE D 𝒱₀ (c : Thread nD τ) bd) E (blocksP kb v24 s.p1 s.p2 s.p3 s.p4 n v h a >>= k) K := by
  intro n
  induction n with
  | zero =>
    intro v h W a
    unfold blocksP blocksF
    simp only [pure_bind]
    iintro ⟨H, Hk⟩
    iapply Hk; iexact H
  | succ n ih =>
    intro v h W a
    rw [blocksP, blocksF]
    simp only [bind_assoc]
    iintro ⟨H, Hk⟩
    iapply (wp_block c A v24 bd E s v _ W O a _ K)
    isplitl [H]; · iexact H
    iintro H
    iapply (ih (v + 1) _ _ _)
    isplitl [H]; · iexact H
    iexact Hk

/-- A later candidate's row. -/
theorem wp_row (W : FVec F S160x128 .f32) (O : FVec F S100x128 .f32) (off : Fin 2 → Nat) (cond : BitVec 1)
    (inb : cond = 1#1 → ∀ a, off a + S1x128.size a ≤ S100x128.size a) (row : FVec F S1x128 .f32)
    {α : Type} (k : PUnit → Prog (TpuEff nD τ sig (Elt F) Λ .tc) α) (K : α → sProp 𝕄) :
    iprop(held c A W O
      ∗ (held c A W (rowF off cond row O) -∗ wp frame (wpE D 𝒱₀ (c : Thread nD τ) bd) E (k ⟨⟩) K))
      ⊢ wp frame (wpE D 𝒱₀ (c : Thread nD τ) bd) E (rowP kb.a5 off cond inb row >>= k) K := by
  unfold rowP rowF
  by_cases hc : cond = 1#1
  · rw [dif_pos hc, if_pos hc]
    simp only [Prog.lift, Prog.bind_op, Prog.bind_ret, Prog.pure_eq_ret, kb]
    unfold held
    iintro ⟨⟨H0, H1, H2, H3, H7, H6, H5⟩, Hk⟩
    iapply (wp_load 𝒱₀ (c : Thread nD τ) bd E (m := Memref.whole cc0_stg5_0) (Finset.subset_univ _)) $$ H5; iintro H5
    iapply (wp_store 𝒱₀ (c : Thread nD τ) bd E (m := Memref.whole cc0_stg5_0)
      (r := Rect.unit (s := S100x128) off S1x128.size (inb hc)) (Mk := Finset.univ) (Finset.subset_univ _)) $$ H5; iintro H5
    rw [write_whole cc0_stg5_0]
    iapply Hk
    isplitl [H0]; · iexact H0
    isplitl [H1]; · iexact H1
    isplitl [H2]; · iexact H2
    isplitl [H3]; · iexact H3
    isplitl [H7]; · iexact H7
    isplitl [H6]; · iexact H6
    iexact H5
  · rw [dif_neg hc, if_neg hc]
    simp only [pure_bind]
    iintro ⟨H, Hk⟩
    iapply Hk; iexact H

/-! ### The side conditions -/

/-- A row below the hundredth lies in the result. -/
theorem row_inb (k : Nat) (hk : k < 100) : ∀ a, (![k, 0] : Fin 2 → Nat) a + S1x128.size a ≤ S100x128.size a := by
  intro a
  match a with
  | ⟨0, _⟩ => show k + 1 ≤ 100; omega
  | ⟨1, _⟩ => show 0 + 128 ≤ 128; omega

/-- The first row written is inside the result. -/
theorem chk1_of (n : BitVec 32) (hn : n.toNat < 100) : k0_chk1 n := row_inb n.toNat hn

/-- A guarded row's condition holds when both of its parts do. -/
theorem cond_iff (a b : BitVec 1) :
    Scalar.cmpi .ne (Scalar.extui (Scalar.andi a b) : BitVec 32) 0#32 = 1#1 ↔ a = 1#1 ∧ b = 1#1 := by
  revert a b; decide

/-- The second row written is inside the result. -/
theorem chk2_of (n : BitVec 32) (ok : BitVec 1) (hn : n.toNat < 100) : k0_chk2 n ok := by
  intro h
  have h2 := ((cond_iff _ _).mp h).2
  have := (slt_iff n (by omega) 99 (by omega)).mp h2
  exact row_inb (n + 1#32).toNat (by rw [BitVec.toNat_add, BitVec.toNat_ofNat]; omega)

/-- The third row written is inside the result. -/
theorem chk3_of (n : BitVec 32) (ok : BitVec 1) (hn : n.toNat < 100) : k0_chk3 n ok := by
  intro h
  have h2 := ((cond_iff _ _).mp h).2
  have := (slt_iff n (by omega) 98 (by omega)).mp h2
  exact row_inb (n + 2#32).toNat (by rw [BitVec.toNat_add, BitVec.toNat_ofNat]; omega)

/-- The fourth row written is inside the result. -/
theorem chk4_of (n : BitVec 32) (ok : BitVec 1) (hn : n.toNat < 100) : k0_chk4 n ok := by
  intro h
  have h2 := ((cond_iff _ _).mp h).2
  have := (slt_iff n (by omega) 97 (by omega)).mp h2
  exact row_inb (n + 3#32).toNat (by rw [BitVec.toNat_add, BitVec.toNat_ofNat]; omega)

/-- The rows a round writes. -/
theorem wp_tail (s : Carry F) (hn : s.n.toNat < 100) (hw1 : k0_chk1 s.n) (k0 : Col F) (W : FVec F S160x128 .f32) (O : FVec F S100x128 .f32)
    {α : Type} (k : Carry F → Prog (TpuEff nD τ sig (Elt F) Λ .tc) α) (K : α → sProp 𝕄) :
    iprop(held c A W O
      ∗ (held c A W (tailF v23 s k0 O)
        -∗ wp frame (wpE D 𝒱₀ (c : Thread nD τ) bd) E (k (s.next k0 (corners k0))) K))
      ⊢ wp frame (wpE D 𝒱₀ (c : Thread nD τ) bd) E (tailP kb v23 s hw1 k0 >>= k) K := by
  unfold tailP tailF
  simp only [Prog.lift, Prog.bind_op, Prog.bind_ret, bind_assoc, pure_bind]
  iintro ⟨H, Hk⟩
  iapply (wp_assume 𝒱₀ (c : Thread nD τ) bd E (chk2_of s.n (ok2 k0) hn))
  iapply (wp_assume 𝒱₀ (c : Thread nD τ) bd E (chk3_of s.n (ok3 k0) hn))
  iapply (wp_assume 𝒱₀ (c : Thread nD τ) bd E (chk4_of s.n (ok4 k0) hn))
  unfold held
  icases H with ⟨H0, H1, H2, H3, H7, H6, H5⟩
  iapply (wp_load 𝒱₀ (c : Thread nD τ) bd E (m := Memref.whole cc0_stg5_0) (Finset.subset_univ _)) $$ H5; iintro H5
  iapply (wp_store 𝒱₀ (c : Thread nD τ) bd E (m := Memref.whole cc0_stg5_0)
    (r := Rect.unit (s := S100x128) (k0_off1 s.n) S1x128.size (k0_off1_inb s.n hw1)) (Mk := Finset.univ) (Finset.subset_univ _)) $$ H5; iintro H5
  rw [write_whole cc0_stg5_0]
  iapply (wp_row c A bd E W _ (k0_off2 s.n) (k0_cond2 s.n (ok2 k0)) _ _ _ K)
  isplitr [Hk]
  · unfold held
    isplitl [H0]; · iexact H0
    isplitl [H1]; · iexact H1
    isplitl [H2]; · iexact H2
    isplitl [H3]; · iexact H3
    isplitl [H7]; · iexact H7
    isplitl [H6]; · iexact H6
    iexact H5
  iintro H
  iapply (wp_row c A bd E W _ (k0_off3 s.n) (k0_cond3 s.n (ok3 k0)) _ _ _ K)
  isplitl [H]; · iexact H
  iintro H
  iapply (wp_row c A bd E W _ (k0_off4 s.n) (k0_cond4 s.n (ok4 k0)) _ _ _ K)
  isplitl [H]; · iexact H
  iintro H
  iapply Hk
  unfold held
  iexact H

/-! ### The loop -/

/-- The loop with at most `k` trips to run: holding the buffers it returns some tuple and the buffers
    as the iterated round leaves them. -/
def spec (k : ℕ) (m : Mem F) : sWPT 𝕄 (Tup F) := do
  sWPT.consume (held c A m.w m.o)
  let r ← sWPT.arbitrary
  sWPT.produce (held c A (m.iter A v24 v23 k).w (m.iter A v24 v23 k).o)
  pure r

/-- The loop's claim, unfolded. -/
theorem spec_apply (k : ℕ) (m : Mem F) (K : Tup F → sProp 𝕄) :
    spec c A v24 v23 k m K
      = iprop(held c A m.w m.o ∗ ∀ r : Tup F, held c A (m.iter A v24 v23 k).w (m.iter A v24 v23 k).o -∗ K r) := rfl

end Label

end Cert.Nms

end
-- ==== Proof.Body.lean ====
/- What the kernel's program does to its buffers: the loop's label by induction on the rows still to
   be written, and the kernel around it, at any reading of floats. -/
module

public import proofs.«01_k».proof.Proof.Same
public import proofs.«01_k».proof.Proof.Steps
public import proofs.«01_k».proof.Proof.Gen.KernelIdeal.Launch
public import proofs.«01_k».proof.Proof.Gen.KernelIdeal.Points
public import Idealize.ShloMosaic.Lib.Pipeline.Frame
public import Idealize.ShloMosaic.Lib.Pipeline.Value
public import Idealize.ShloMosaic.Lib.Tactic

@[expose] public section

set_option maxRecDepth 16384

noncomputable section

namespace Cert.Nms

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Label

variable (c : Dev nD) (A : Boxes F) (v24 : IVec S8x128 32) (v23 : IVec S1x128 32) (bd : Option ℕ) (E : Set ℕ)

/-! ### The label -/

/-- The label's operands at the kernel's buffers. -/
abbrev largs (s : Carry F) : Cc0While1 F :=
  args (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _) v24 v23
    (Memref.whole cc0_stg5_0) (Memref.isWhole_whole _) s

/-- The label meets its specification, by induction on the trips allowed. -/
theorem spec_le : ∀ (k : ℕ) (m : Mem F), 100 ≤ m.s.n.toNat + k → m.s.n.toNat ≤ 103 → ∀ K, spec c A v24 v23 k m K
      ⊢ wp frame (wpE (defs₀ (F := F)) 𝒱₀ (c : Thread nD τ) (some k)) E (defs₀ (F := F) .tc 1 (largs v24 v23 m.s)) K := by
  intro k
  induction k with
  | zero =>
    intro m hk hm K
    rw [spec_apply]
    show _ ⊢ wp frame (wpE (defs₀ (F := F)) 𝒱₀ (c : Thread nD τ) (some 0)) E (cc0_while1 _ _ _ _ _ _ _ _ _ _ _ _ _ _ _ _ _ _ _ _ _ _ _ _ _ _ _ _ _ _ _ _ _ _ _ _ _) K
    rw [while_eq]
    unfold tripP
    have ht : ¬ Scalar.cmpi .slt m.s.n 100#32 = 1#1 := fun h => by
      have := (slt_iff m.s.n hm 100 (by omega)).mp h; omega
    rw [if_neg ht]
    iintro ⟨H, Hk⟩
    rw [Prog.pure_eq_ret, wp_ret]; imodintro
    iapply Hk; iexact H
  | succ k ih =>
    intro m hk hm K
    rw [spec_apply]
    show _ ⊢ wp frame (wpE (defs₀ (F := F)) 𝒱₀ (c : Thread nD τ) (some (k + 1))) E (cc0_while1 _ _ _ _ _ _ _ _ _ _ _ _ _ _ _ _ _ _ _ _ _ _ _ _ _ _ _ _ _ _ _ _ _ _ _ _ _) K
    rw [while_eq]
    unfold tripP
    by_cases ht : Scalar.cmpi .slt m.s.n 100#32 = 1#1
    · have hn := (slt_iff m.s.n hm 100 (by omega)).mp ht
      rw [if_pos ht]
      have e : m.iter A v24 v23 (k + 1) = (m.round A v24 v23).iter A v24 v23 k := by
        rw [Mem.iter, if_pos ht]
      rw [e]
      have hb := nextN_bounds (colOf A v24 v23 m) m.s.n hn
      rw [Prog.lift, Prog.bind_op]
      simp only [Prog.bind_ret]
      iintro ⟨H, Hk⟩
      iapply (wp_assume 𝒱₀ (c : Thread nD τ) (some (k + 1)) E (chk1_of m.s.n hn))
      iapply (wp_blocks c A v24 (some (k + 1)) E m.s m.o _ K 20 0 (by omega) m.w Acc.init)
      isplitl [H]; · iexact H
      iintro H
      iapply (wp_tail c A v23 (some (k + 1)) E m.s hn (chk1_of m.s.n hn) _ _ m.o _ K)
      isplitl [H]; · iexact H
      iintro H
      iapply (wp_call_spec 𝒱₀ (c : Thread nD τ) (some (k + 1)) E (spec c A v24 v23 k (m.round A v24 v23)) k
        (fun u hu => by cases hu; exact Nat.lt_succ_self k)
        (ih (m.round A v24 v23) (by show 100 ≤ (nextN _ _).toNat + k; omega) (by show (nextN _ _).toNat ≤ 103; omega)))
      rw [spec_apply]
      isplitl [H]; · iexact H
      iintro %r H
      rw [wp_ret]; imodintro
      iapply Hk; iexact H
    · rw [if_neg ht]
      have e : m.iter A v24 v23 (k + 1) = m := by rw [Mem.iter, if_neg ht]
      rw [e]
      iintro ⟨H, Hk⟩
      rw [Prog.pure_eq_ret, wp_ret]; imodintro
      iapply Hk; iexact H

end Label

end Cert.Nms

end
-- ==== Proof.Run.lean ====
/- The launch: what the kernel's call leaves in the result's array, at any reading of floats, and that
   nothing else the program was given is changed. -/
module

public import proofs.«01_k».proof.Proof.Body
public import Idealize.ShloMosaic.Lib.Pipeline.ArrRel
public import Idealize.ShloMosaic.Lib.Pipeline.ValueKit

@[expose] public section

set_option maxRecDepth 16384

noncomputable section

namespace Cert.Nms

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-- Lane numbers of a row, and sublane numbers of a block. -/
abbrev lanes : IVec S1x128 32 := iota .tc S1x128 32 [1] iota_S1x128_d1_w32
/-- The sublanes' numbers. -/
abbrev subs : IVec S8x128 32 := iota .tc S8x128 32 [0] iota_S8x128_d0_w32

/-- A cast between equal shapes of all rows, as the kernel writes it. -/
abbrev sc160 (x : FVec F S160x128 .f32) : FVec F S160x128 .f32 := shapeCast S160x128 x shapeCasts_S160x128_S160x128

/-- The working scores at the start: those above the threshold. -/
def work0 (s : FVec F S160x128 .f32) : FVec F S160x128 .f32 :=
  sc160 (select (cmpf .ogt (sc160 s) (broadcast S160x128 (Scalar.ofBits .f32 0x3D4CCCCD#32))) (sc160 s) (broadcast S160x128 (ninf F)))

/-- The areas. -/
def areas0 (x1 y1 x2 y2 : FVec F S160x128 .f32) : FVec F S160x128 .f32 :=
  sc160 (mulf (subf (sc160 x2) (sc160 x1)) (subf (sc160 y2) (sc160 y1)))

/-- No box waiting. -/
def Pend.none : Pend F :=
  ⟨broadcast S1x1 (ninf F), broadcast S1x1 (zf F), broadcast S1x1 (zf F), broadcast S1x1 (zf F), broadcast S1x1 (zf F)⟩

/-- What the loop starts with. -/
def Carry.init : Carry F := ⟨0#32, Pend.none, Pend.none, Pend.none, Pend.none⟩

/-- The boxes the kernel is given. -/
def boxes (x1 y1 x2 y2 : FVec F S160x128 .f32) : Boxes F := ⟨x1, y1, x2, y2, areas0 x1 y1 x2 y2⟩

/-- The loop's memory when it ends. -/
def final (x1 y1 x2 y2 s : FVec F S160x128 .f32) (O : FVec F S100x128 .f32) : Mem F :=
  (⟨work0 s, O, Carry.init⟩ : Mem F).iter (boxes x1 y1 x2 y2) subs lanes 100

/-! ### The kernel -/

/-- The zero offset. -/
theorem off00 : (![0, 0] : Fin 2 → Nat) = fun _ => 0 := by
  funext a; fin_cases a <;> rfl

/-- All 160 rows. -/
abbrev r160 : Rect S160x128 := Rect.unit (s := S160x128) ![0, 0] S160x128.size inb_S160x128_S160x128_0_0

/-- A whole buffer read whole. -/
theorem window_all (f : FVec F S160x128 .f32) : VecWindow.window f ![0, 0] S160x128.size inb_S160x128_S160x128_0_0 = f := by
  funext j
  refine congrArg f (funext fun a => Fin.ext ?_)
  match a with
  | ⟨0, _⟩ => show 0 + 1 * (j 0).val = (j 0).val; omega
  | ⟨1, _⟩ => show 0 + 1 * (j 1).val = (j 1).val; omega

/-- A whole read of the first array. -/
theorem read_0 (f : FVec F S160x128 .f32) : (Memref.whole cc0_stg0_0).view.readAt (Elt F) r160.toLoadRect f = f := window_all f
/-- A whole read of the second array. -/
theorem read_1 (f : FVec F S160x128 .f32) : (Memref.whole cc0_stg1_0).view.readAt (Elt F) r160.toLoadRect f = f := window_all f
/-- A whole read of the third array. -/
theorem read_2 (f : FVec F S160x128 .f32) : (Memref.whole cc0_stg2_0).view.readAt (Elt F) r160.toLoadRect f = f := window_all f
/-- A whole read of the fourth array. -/
theorem read_3 (f : FVec F S160x128 .f32) : (Memref.whole cc0_stg3_0).view.readAt (Elt F) r160.toLoadRect f = f := window_all f
/-- A whole read of the scores. -/
theorem read_4 (f : FVec F S160x128 .f32) : (Memref.whole cc0_stg4_0).view.readAt (Elt F) r160.toLoadRect f = f := window_all f
/-- A scratch buffer written whole. -/
theorem write_6 (f w : FVec F S160x128 .f32) :
    ((Memref.whole cc0_scratch0).access r160 : View sig .tc _ _ _).write (Elt F) f w Finset.univ = w :=
  Memref.write_access_unit_zero_univ (Elt F) cc0_scratch0 off00 _ f w
/-- A whole write of the areas. -/
theorem write_7 (f w : FVec F S160x128 .f32) :
    ((Memref.whole cc0_scratch1).access r160 : View sig .tc _ _ _).write (Elt F) f w Finset.univ = w :=
  Memref.write_access_unit_zero_univ (Elt F) cc0_scratch1 off00 _ f w

section Kernel

variable (c : Dev nD)

/-- A staging buffer at contents equal to `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's body leaves its inputs as they were and the result as the iterated round does. -/
theorem wp_kernel (x1 y1 x2 y2 s : FVec F S160x128 .f32) (O : FVec F S100x128 .f32) (g6 g7 : FVec F S160x128 .f32) (K : PUnit → sProp 𝕄) :
    iprop(((((c : Thread nD τ).loc cc0_stg0_0) ↦{fullShare} x1) ∗ (((c : Thread nD τ).loc cc0_stg1_0) ↦{fullShare} y1)
      ∗ (((c : Thread nD τ).loc cc0_stg2_0) ↦{fullShare} x2) ∗ (((c : Thread nD τ).loc cc0_stg3_0) ↦{fullShare} y2)
      ∗ (((c : Thread nD τ).loc cc0_stg4_0) ↦{fullShare} s) ∗ (((c : Thread nD τ).loc cc0_stg5_0) ↦{fullShare} O)
      ∗ (((c : Thread nD τ).loc cc0_scratch0) ↦{fullShare} g6) ∗ (((c : Thread nD τ).loc cc0_scratch1) ↦{fullShare} g7))
      ∗ (((((c : Thread nD τ).loc cc0_stg4_0) ↦{fullShare} s)
          ∗ held c (boxes x1 y1 x2 y2) (final x1 y1 x2 y2 s O).w (final x1 y1 x2 y2 s O).o) -∗ K ⟨⟩))
      ⊢ wp frame (wpE (defs₀ (F := F)) 𝒱₀ (c : Thread nD τ) none) Set.univ
          (cc0__nms_kernel (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)) K := by
  unfold cc0__nms_kernel
  simp only [Prog.lift, Prog.bind_op, Prog.bind_ret, Prog.pure_eq_ret]
  iintro ⟨⟨H0, H1, H2, H3, H4, H5, H6, H7⟩, Hk⟩
  iapply (wp_load 𝒱₀ (c : Thread nD τ) none Set.univ (m := Memref.whole cc0_stg2_0) (r := r160.toLoadRect) (Finset.subset_univ _)) $$ H2; iintro H2
  iapply (wp_load 𝒱₀ (c : Thread nD τ) none Set.univ (m := Memref.whole cc0_stg0_0) (r := r160.toLoadRect) (Finset.subset_univ _)) $$ H0; iintro H0
  iapply (wp_load 𝒱₀ (c : Thread nD τ) none Set.univ (m := Memref.whole cc0_stg3_0) (r := r160.toLoadRect) (Finset.subset_univ _)) $$ H3; iintro H3
  iapply (wp_load 𝒱₀ (c : Thread nD τ) none Set.univ (m := Memref.whole cc0_stg1_0) (r := r160.toLoadRect) (Finset.subset_univ _)) $$ H1; iintro H1
  iapply (wp_load 𝒱₀ (c : Thread nD τ) none Set.univ (m := Memref.whole cc0_scratch1) (r := r160.toLoadRect) (Finset.subset_univ _)) $$ H7; iintro H7
  iapply (wp_store 𝒱₀ (c : Thread nD τ) none Set.univ (m := Memref.whole cc0_scratch1)
    (r := r160) (Mk := Finset.univ) (Finset.subset_univ _)) $$ H7; iintro H7
  rw [write_7, read_0, read_1, read_2, read_3]
  iapply (wp_load 𝒱₀ (c : Thread nD τ) none Set.univ (m := Memref.whole cc0_stg4_0) (r := r160.toLoadRect) (Finset.subset_univ _)) $$ H4; iintro H4
  iapply (wp_load 𝒱₀ (c : Thread nD τ) none Set.univ (m := Memref.whole cc0_scratch0) (r := r160.toLoadRect) (Finset.subset_univ _)) $$ H6; iintro H6
  iapply (wp_store 𝒱₀ (c : Thread nD τ) none Set.univ (m := Memref.whole cc0_scratch0)
    (r := r160) (Mk := Finset.univ) (Finset.subset_univ _)) $$ H6; iintro H6
  rw [write_6, read_4]
  iapply (wp_call_spec 𝒱₀ (c : Thread nD τ) none Set.univ
    (spec c (boxes x1 y1 x2 y2) subs lanes 100 ⟨work0 s, O, Carry.init⟩) 100 (fun u hu => nomatch hu)
    (spec_le c (boxes x1 y1 x2 y2) subs lanes Set.univ 100 ⟨work0 s, O, Carry.init⟩
      (by show 100 ≤ (0#32 : BitVec 32).toNat + 100; decide) (by show (0#32 : BitVec 32).toNat ≤ 103; decide)))
  rw [spec_apply]
  isplitr [Hk H4]
  · unfold held
    isplitl [H0]; · iexact H0
    isplitl [H1]; · iexact H1
    isplitl [H2]; · iexact H2
    isplitl [H3]; · iexact H3
    isplitl [H7]; · iexact H7
    isplitl [H6]; · iexact H6
    iexact H5
  iintro %r H
  rw [wp_ret]; imodintro
  iapply Hk
  isplitl [H4]; · iexact H4
  iexact H

end Kernel

/-! ### The launch -/

variable (m : (ℓ : Loc nD τ sig) → Buf (Elt F) ℓ) (ρ : Dev nD → PrngReg)

/-- What the buffers hold when the region is entered. -/
def V (c : Dev nD) (b : Ref sig .tc) : Buf (Elt F) ((c.tc : Thread nD τ).loc b) :=
  StableHlo.after (hostOps0 (F := F)) (fun b => m (c, b)) b

/-- The proof data: inputs are left as found, the result as the kernel computes it from the arrays and
    what its buffer held before. -/
def rd (c : Dev nD) : RDat τ (Elt F) Unit ℕ (UR sig nD τ) ℕ (cfgs (F := F) 0) c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = (final (V m c main_v7) (V m c main_v10) (V m c main_v13) (V m c main_v16) (V m c main_v4) Y).o
    | ⟨_ + 6, h⟩ => absurd h (Nat.not_lt.2 (Nat.le_add_left _ _))
  Φ _ := Pipeline.ΦA spec0 c
  q _ := fullShare
  owed _ := 0

/-- Window 0 is found at its whole array. -/
theorem found0 (c : Dev nD) (t : Fin (cfg0 (F := F)).N) (Y) (h : (rd m c).Finds (0 : Fin 6) t Y) : Y = V m c main_v7 := by
  obtain ⟨d, rfl⟩ := ((rd m c).finds_of_fetch (fetch0_0 t) Y).mp h
  rw [fin_N0 t]
  funext j
  have hm : ((cfg0 (F := F)).win 0).moved ((cfg0 (F := F)).grid.coords t0_0) j = true :=
    (((cfg0 (F := F)).win 0).moved_iff _ j).mpr fun a => (j a).isLt
  unfold RDat.fetched
  refine (dif_pos hm).trans ?_
  refine congrArg (V m c main_v7) (funext fun a => Fin.ext ?_)
  blk_simp
  have hi : ∀ a, win0_0.index t0_0 a = 0 := by decide +kernel
  refine (congrArg (· * _ + _) (hi a)).trans ?_
  show 0 * _ + (j a).val = (j a).val
  omega

/-- Window 1 is found at its whole array. -/
theorem found1 (c : Dev nD) (t : Fin (cfg0 (F := F)).N) (Y) (h : (rd m c).Finds (1 : Fin 6) t Y) : Y = V m c main_v10 := by
  obtain ⟨d, rfl⟩ := ((rd m c).finds_of_fetch (fetch0_1 t) Y).mp h
  rw [fin_N0 t]
  funext j
  have hm : ((cfg0 (F := F)).win 1).moved ((cfg0 (F := F)).grid.coords t0_0) j = true :=
    (((cfg0 (F := F)).win 1).moved_iff _ j).mpr fun a => (j a).isLt
  unfold RDat.fetched
  refine (dif_pos hm).trans ?_
  refine congrArg (V m c main_v10) (funext fun a => Fin.ext ?_)
  blk_simp
  have hi : ∀ a, win0_1.index t0_0 a = 0 := by decide +kernel
  refine (congrArg (· * _ + _) (hi a)).trans ?_
  show 0 * _ + (j a).val = (j a).val
  omega

/-- Window 2 is found at its whole array. -/
theorem found2 (c : Dev nD) (t : Fin (cfg0 (F := F)).N) (Y) (h : (rd m c).Finds (2 : Fin 6) t Y) : Y = V m c main_v13 := by
  obtain ⟨d, rfl⟩ := ((rd m c).finds_of_fetch (fetch0_2 t) Y).mp h
  rw [fin_N0 t]
  funext j
  have hm : ((cfg0 (F := F)).win 2).moved ((cfg0 (F := F)).grid.coords t0_0) j = true :=
    (((cfg0 (F := F)).win 2).moved_iff _ j).mpr fun a => (j a).isLt
  unfold RDat.fetched
  refine (dif_pos hm).trans ?_
  refine congrArg (V m c main_v13) (funext fun a => Fin.ext ?_)
  blk_simp
  have hi : ∀ a, win0_2.index t0_0 a = 0 := by decide +kernel
  refine (congrArg (· * _ + _) (hi a)).trans ?_
  show 0 * _ + (j a).val = (j a).val
  omega

/-- Window 3 is found at its whole array. -/
theorem found3 (c : Dev nD) (t : Fin (cfg0 (F := F)).N) (Y) (h : (rd m c).Finds (3 : Fin 6) t Y) : Y = V m c main_v16 := by
  obtain ⟨d, rfl⟩ := ((rd m c).finds_of_fetch (fetch0_3 t) Y).mp h
  rw [fin_N0 t]
  funext j
  have hm : ((cfg0 (F := F)).win 3).moved ((cfg0 (F := F)).grid.coords t0_0) j = true :=
    (((cfg0 (F := F)).win 3).moved_iff _ j).mpr fun a => (j a).isLt
  unfold RDat.fetched
  refine (dif_pos hm).trans ?_
  refine congrArg (V m c main_v16) (funext fun a => Fin.ext ?_)
  blk_simp
  have hi : ∀ a, win0_3.index t0_0 a = 0 := by decide +kernel
  refine (congrArg (· * _ + _) (hi a)).trans ?_
  show 0 * _ + (j a).val = (j a).val
  omega

/-- Window 4 is found at its whole array. -/
theorem found4 (c : Dev nD) (t : Fin (cfg0 (F := F)).N) (Y) (h : (rd m c).Finds (4 : Fin 6) t Y) : Y = V m c main_v4 := by
  obtain ⟨d, rfl⟩ := ((rd m c).finds_of_fetch (fetch0_4 t) Y).mp h
  rw [fin_N0 t]
  funext j
  have hm : ((cfg0 (F := F)).win 4).moved ((cfg0 (F := F)).grid.coords t0_0) j = true :=
    (((cfg0 (F := F)).win 4).moved_iff _ j).mpr fun a => (j a).isLt
  unfold RDat.fetched
  refine (dif_pos hm).trans ?_
  refine congrArg (V m c main_v4) (funext fun a => Fin.ext ?_)
  blk_simp
  have hi : ∀ a, win0_4.index t0_0 a = 0 := by decide +kernel
  refine (congrArg (· * _ + _) (hi a)).trans ?_
  show 0 * _ + (j a).val = (j a).val
  omega

/-! ### The body's obligation -/

/-- The kernel at the one point. -/
theorem body_obligation (c : Dev nD) : (rd m c).BodyObligation (defs₀ (F := F)) 𝒱₀ () Set.univ := by
  intro t Y hY
  have h0 := found0 m c t _ (hY (0 : Fin 6))
  have h1 := found1 m c t _ (hY (1 : Fin 6))
  have h2 := found2 m c t _ (hY (2 : Fin 6))
  have h3 := found3 m c t _ (hY (3 : Fin 6))
  have h4 := found4 m c t _ (hY (4 : Fin 6))
  clear hY
  rw [fin_N0 t]
  rw [bigSep_W0, bigSep_W0]
  sl_whnfR [defs₀, Defs.onTc]
  simp only [owns_whole_eq]
  rw [show (rd m c).Φ = fun _ => Pipeline.ΦA spec0 c from rfl]
  unfold Pipeline.ΦA
  rw [scopedRest0_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl]
  iintro ⟨⟨⟨⟨%g6, H6⟩, ⟨%g7, H7⟩⟩, Hr⟩, Hw, ⟨%f0, %e0, H0⟩, ⟨%f1, %e1, H1⟩, ⟨%f2, %e2, H2⟩, ⟨%f3, %e3, H3⟩, ⟨%f4, %e4, H4⟩, ⟨%f5, %e5, H5⟩⟩
  rw [h0] at e0; rw [h1] at e1; rw [h2] at e2; rw [h3] at e3; rw [h4] at e4
  subst e0 e1 e2 e3 e4 e5
  iapply (wp_kernel c (V m c main_v7) (V m c main_v10) (V m c main_v13) (V m c main_v16) (V m c main_v4) (Y (5 : Fin 6)) g6 g7)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H4, H⟩
  unfold held
  icases H with ⟨H0, H1, H2, H3, H7, H6, H5⟩
  isplitl [H6 H7 Hr]
  · isplitr [Hr]
    · isplitl [H6]; · iexists _; iexact H6
      iexists _; iexact H7
    iexact Hr
  isplitl [Hw]; · iexact Hw
  isplitl [H0]
  · iexists _; isplitr; swap
    · iexists _; isplitr; swap
      · iexact H0
      ipureintro; rfl
    ipureintro; exact h0.symm
  isplitl [H1]
  · iexists _; isplitr; swap
    · iexists _; isplitr; swap
      · iexact H1
      ipureintro; rfl
    ipureintro; exact h1.symm
  isplitl [H2]
  · iexists _; isplitr; swap
    · iexists _; isplitr; swap
      · iexact H2
      ipureintro; rfl
    ipureintro; exact h2.symm
  isplitl [H3]
  · iexists _; isplitr; swap
    · iexists _; isplitr; swap
      · iexact H3
      ipureintro; rfl
    ipureintro; exact h3.symm
  isplitl [H4]
  · iexists _; isplitr; swap
    · iexists _; isplitr; swap
      · iexact H4
      ipureintro; rfl
    ipureintro; exact h4.symm
  iexists _; isplitr; swap
  · iexists _; isplitr; swap
    · iexact H5
    ipureintro; rfl
  ipureintro; rfl

/-- Every weakly fair run ends, with every array as the proof data say and nothing else changed. -/
theorem run_main : θ_run (defs (F := F)) (onTc (τ := τ) (main (F := F))) ⟨m, fun _ => 0, ρ⟩
    (fun r => RDat.FramePost (cfgs (F := F) 0) (rd m) (V m) r ∧ r.2.sem = fun _ => 0) :=
  Pipeline.RDat.θ_run_frame (cfgs (F := F)) (0 : Fin 1) launch0 defs₀ 𝒱₀ (rd m) m ρ (main (F := F))
    (hbody := body_obligation m) (hshare := fun c w => by unfold RDat.share; split <;> rfl) (howed := fun _ _ => rfl)
    (V := V m)
    (hmain := Pipeline.hmain_prefix (cfgs (F := F)) 0 defs₀ 𝒱₀ m main hostOps0 hostOps0_sub (by simp only [List.Forall]; trivial) main_chain)
    (hA := fun _ _ => rfl) (hΦ := fun _ _ => rfl)
    (Q' := fun r => RDat.FramePost (cfgs (F := F) 0) (rd m) (V m) r ∧ r.2.sem = fun _ => 0) (hQ' := fun _ h => h)

end Cert.Nms

end
-- ==== Proof.RunBits.lean ====
/- The run of the kernel as printed over the hardware's floats: the loop's record of operands is a type of
   that program's own, so the launch is stated once more for it, over the rounds and steps proved once. -/
module

public import proofs.«01_k».proof.Proof.BodyBits
public import proofs.«01_k».proof.Proof.Run
public import Idealize.ShloMosaic.Lib.Pipeline.ArrRel
public import Idealize.ShloMosaic.Lib.Pipeline.Kit
public import Idealize.ShloMosaic.Lib.Pipeline.Regions
public import Idealize.ShloMosaic.Lib.Pipeline.ValueKit

@[expose] public section

set_option maxRecDepth 65536

noncomputable section

namespace Cert.NmsBits

open Cert.Nms Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

/-- The resource algebra of the launch. -/
local notation "𝕄" => MT nD τ sig Unit (Elt F) ℕ (UR sig nD τ) ℕ

/-! ### The launch's layout -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) (cfgs (F := F))) :=
  Pipeline.cellOf_injective_of_table (cfgs (F := F)) semTab (fun | 0 => rfl | ⟨_ + 1, h⟩ => absurd h (Nat.not_lt.2 (Nat.le_add_left _ _))) semsDistinct semsDisjoint

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 6, 0 < (spec0 w).block.numel := by decide
/-- The windows' arrays and the staging memrefs are whole buffers. -/
theorem arr_whole0 : ∀ w : Fin 6, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | ⟨_ + 6, h⟩ => absurd h (Nat.not_lt.2 (Nat.le_add_left _ _))
/-- Every staging buffer is a whole buffer. -/
theorem stage_whole0 : ∀ (w : Fin 6) (s : Fin (spec0 w).nbuf), ((spec0 w).stage s).IsWhole := fun | 0 => fun _ => Memref.isWhole_whole _ | 1 => fun _ => Memref.isWhole_whole _ | 2 => fun _ => Memref.isWhole_whole _ | 3 => fun _ => Memref.isWhole_whole _ | 4 => fun _ => Memref.isWhole_whole _ | 5 => fun _ => Memref.isWhole_whole _ | ⟨_ + 6, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) (cfgs (F := F)) 0 := ⟨cellOf_inj, winFacts0, block_pos0, arr_whole0, stage_whole0⟩

/-- No grid: one point. -/
theorem N_0 : grid0.N = 1 := by decide
/-- The point. -/
def t0_0 : Fin grid0.N := ⟨0, by rw [N_0]; decide⟩
/-- The grid has one point. -/
theorem fin_N0 (t : Fin grid0.N) : t = t0_0 := by
  obtain ⟨t, ht⟩ := t; have := N_0; simp only [t0_0, Fin.mk.injEq]; omega

/-- The windows conjoined one by one. -/
theorem bigSep_W0 {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ
/-- The core's scoped buffers that are no staging buffer of custom_call 0, each whole at some contents:
    `cc0_scratch0`, `cc0_scratch1`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f)) :=
  Pipeline.scopedRest_eq_of_list spec0 c [cc0_scratch0, cc0_scratch1] (by decide) (by decide)
/-- `main` is its host operations, then the call. -/
theorem main_chain (c : Dev nD) : main (F := F) c = (Pipeline.chain
  [ StableHlo.seq Cert.KernelIdeal.Gen.hostOps0,
    Prog.lift (.customCall (Pipeline.entry 0) ()) ] : Prog (TpuEff nD τ sig (Elt F) (Pipeline.Sig (Λ₀ F) (Fin 1) fun p => (pcfgs (F := F) p).Adm) .tc) PUnit) := by
  rewrite [StableHlo.chain_seq_cons, Pipeline.chain_cons]
  chain_rfl

section Kernel

variable (c : Dev nD)

set_option maxHeartbeats 4000000 in
/-- The kernel's body leaves its inputs as they were and the result as the iterated round does. -/
theorem wp_kernel (x1 y1 x2 y2 s : FVec F S160x128 .f32) (O : FVec F S100x128 .f32) (g6 g7 : FVec F S160x128 .f32) (K : PUnit → sProp 𝕄) :
    iprop(((((c : Thread nD τ).loc cc0_stg0_0) ↦{fullShare} x1) ∗ (((c : Thread nD τ).loc cc0_stg1_0) ↦{fullShare} y1)
      ∗ (((c : Thread nD τ).loc cc0_stg2_0) ↦{fullShare} x2) ∗ (((c : Thread nD τ).loc cc0_stg3_0) ↦{fullShare} y2)
      ∗ (((c : Thread nD τ).loc cc0_stg4_0) ↦{fullShare} s) ∗ (((c : Thread nD τ).loc cc0_stg5_0) ↦{fullShare} O)
      ∗ (((c : Thread nD τ).loc cc0_scratch0) ↦{fullShare} g6) ∗ (((c : Thread nD τ).loc cc0_scratch1) ↦{fullShare} g7))
      ∗ (((((c : Thread nD τ).loc cc0_stg4_0) ↦{fullShare} s)
          ∗ held c (boxes x1 y1 x2 y2) (final x1 y1 x2 y2 s O).w (final x1 y1 x2 y2 s O).o) -∗ K ⟨⟩))
      ⊢ wp frame (wpE (defs₀ (F := F)) 𝒱₀ (c : Thread nD τ) none) Set.univ
          (cc0__nms_kernel (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)) K := by
  unfold cc0__nms_kernel
  simp only [Prog.lift, Prog.bind_op, Prog.bind_ret, Prog.pure_eq_ret]
  iintro ⟨⟨H0, H1, H2, H3, H4, H5, H6, H7⟩, Hk⟩
  iapply (wp_load 𝒱₀ (c : Thread nD τ) none Set.univ (m := Memref.whole cc0_stg2_0) (r := r160.toLoadRect) (Finset.subset_univ _)) $$ H2; iintro H2
  iapply (wp_load 𝒱₀ (c : Thread nD τ) none Set.univ (m := Memref.whole cc0_stg0_0) (r := r160.toLoadRect) (Finset.subset_univ _)) $$ H0; iintro H0
  iapply (wp_load 𝒱₀ (c : Thread nD τ) none Set.univ (m := Memref.whole cc0_stg3_0) (r := r160.toLoadRect) (Finset.subset_univ _)) $$ H3; iintro H3
  iapply (wp_load 𝒱₀ (c : Thread nD τ) none Set.univ (m := Memref.whole cc0_stg1_0) (r := r160.toLoadRect) (Finset.subset_univ _)) $$ H1; iintro H1
  iapply (wp_load 𝒱₀ (c : Thread nD τ) none Set.univ (m := Memref.whole cc0_scratch1) (r := r160.toLoadRect) (Finset.subset_univ _)) $$ H7; iintro H7
  iapply (wp_store 𝒱₀ (c : Thread nD τ) none Set.univ (m := Memref.whole cc0_scratch1)
    (r := r160) (Mk := Finset.univ) (Finset.subset_univ _)) $$ H7; iintro H7
  rw [write_7, read_0, read_1, read_2, read_3]
  iapply (wp_load 𝒱₀ (c : Thread nD τ) none Set.univ (m := Memref.whole cc0_stg4_0) (r := r160.toLoadRect) (Finset.subset_univ _)) $$ H4; iintro H4
  iapply (wp_load 𝒱₀ (c : Thread nD τ) none Set.univ (m := Memref.whole cc0_scratch0) (r := r160.toLoadRect) (Finset.subset_univ _)) $$ H6; iintro H6
  iapply (wp_store 𝒱₀ (c : Thread nD τ) none Set.univ (m := Memref.whole cc0_scratch0)
    (r := r160) (Mk := Finset.univ) (Finset.subset_univ _)) $$ H6; iintro H6
  rw [write_6, read_4]
  iapply (wp_call_spec 𝒱₀ (c : Thread nD τ) none Set.univ
    (spec c (boxes x1 y1 x2 y2) subs lanes 100 ⟨work0 s, O, Carry.init⟩) 100 (fun u hu => nomatch hu)
    (spec_le c (boxes x1 y1 x2 y2) subs lanes Set.univ 100 ⟨work0 s, O, Carry.init⟩
      (by show 100 ≤ (0#32 : BitVec 32).toNat + 100; decide) (by show (0#32 : BitVec 32).toNat ≤ 103; decide)))
  rw [spec_apply]
  isplitr [Hk H4]
  · unfold held
    isplitl [H0]; · iexact H0
    isplitl [H1]; · iexact H1
    isplitl [H2]; · iexact H2
    isplitl [H3]; · iexact H3
    isplitl [H7]; · iexact H7
    isplitl [H6]; · iexact H6
    iexact H5
  iintro %r H
  rw [wp_ret]; imodintro
  iapply Hk
  isplitl [H4]; · iexact H4
  iexact H

end Kernel

/-! ### The launch -/

variable (m : (ℓ : Loc nD τ sig) → Buf (Elt F) ℓ) (ρ : Dev nD → PrngReg)

/-- The proof data: nothing is said of what the arrays end at. -/
def rd (c : Dev nD) : RDat τ (Elt F) Unit ℕ (UR sig nD τ) ℕ (cfgs (F := F) 0) c where
  A w := V m c (Pipeline.arrRef spec0 w)
  after := fun _ _ _ _ => True
  Φ _ := Pipeline.ΦA spec0 c
  q _ := fullShare
  owed _ := 0

set_option maxHeartbeats 4000000 in
/-- The kernel at the one point. -/
theorem body_obligation (c : Dev nD) : (rd m c).BodyObligation (defs₀ (F := F)) 𝒱₀ () Set.univ := by
  intro t Y hY
  rw [fin_N0 t]
  rw [bigSep_W0, bigSep_W0]
  sl_whnfR [defs₀, Defs.onTc]
  simp only [owns_whole_eq]
  rw [show (rd m c).Φ = fun _ => Pipeline.ΦA spec0 c from rfl]
  unfold Pipeline.ΦA
  rw [scopedRest0_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl]
  iintro ⟨⟨⟨⟨%g6, H6⟩, ⟨%g7, H7⟩⟩, Hr⟩, Hw, ⟨%f0, %e0, H0⟩, ⟨%f1, %e1, H1⟩, ⟨%f2, %e2, H2⟩, ⟨%f3, %e3, H3⟩, ⟨%f4, %e4, H4⟩, ⟨%f5, %e5, H5⟩⟩
  subst e0 e1 e2 e3 e4 e5
  iapply (wp_kernel c (Y (0 : Fin 6)) (Y (1 : Fin 6)) (Y (2 : Fin 6)) (Y (3 : Fin 6)) (Y (4 : Fin 6)) (Y (5 : Fin 6)) g6 g7)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H4, H⟩
  unfold held
  icases H with ⟨H0, H1, H2, H3, H7, H6, H5⟩
  isplitl [H6 H7 Hr]
  · isplitr [Hr]
    · isplitl [H6]; · iexists _; iexact H6
      iexists _; iexact H7
    iexact Hr
  isplitl [Hw]; · iexact Hw
  isplitl [H0]
  · iexists _; isplitr; swap
    · iexists _; isplitr; swap
      · iexact H0
      ipureintro; rfl
    ipureintro; trivial
  isplitl [H1]
  · iexists _; isplitr; swap
    · iexists _; isplitr; swap
      · iexact H1
      ipureintro; rfl
    ipureintro; trivial
  isplitl [H2]
  · iexists _; isplitr; swap
    · iexists _; isplitr; swap
      · iexact H2
      ipureintro; rfl
    ipureintro; trivial
  isplitl [H3]
  · iexists _; isplitr; swap
    · iexists _; isplitr; swap
      · iexact H3
      ipureintro; rfl
    ipureintro; trivial
  isplitl [H4]
  · iexists _; isplitr; swap
    · iexists _; isplitr; swap
      · iexact H4
      ipureintro; rfl
    ipureintro; trivial
  iexists _; isplitr; swap
  · iexists _; isplitr; swap
    · iexact H5
    ipureintro; rfl
  ipureintro; trivial

set_option maxHeartbeats 4000000 in
/-- Every weakly fair run ends, with every array as the proof data say and nothing else changed. -/
theorem run_main : θ_run (defs (F := F)) (onTc (τ := τ) (main (F := F))) ⟨m, fun _ => 0, ρ⟩
    (fun r => RDat.FramePost (cfgs (F := F) 0) (rd m) (V m) r ∧ r.2.sem = fun _ => 0) :=
  Pipeline.RDat.θ_run_frame (cfgs (F := F)) (0 : Fin 1) launch0 defs₀ 𝒱₀ (rd m) m ρ (main (F := F))
    (hbody := body_obligation m) (hshare := fun c w => by unfold RDat.share; split <;> rfl) (howed := fun _ _ => rfl)
    (V := V m)
    (hmain := Pipeline.hmain_prefix (cfgs (F := F)) 0 defs₀ 𝒱₀ m main Cert.KernelIdeal.Gen.hostOps0 Cert.KernelIdeal.Gen.hostOps0_sub (by simp only [List.Forall]; trivial) main_chain)
    (hA := fun _ _ => rfl) (hΦ := fun _ _ => rfl)
    (Q' := fun r => RDat.FramePost (cfgs (F := F) 0) (rd m) (V m) r ∧ r.2.sem = fun _ => 0) (hQ' := fun _ h => h)

end Cert.NmsBits

end
-- ==== Proof.Ref.lean ====
module

public import proofs.«01_k».proof.Proof.Gen.ReferenceIdeal
public import Idealize.ShloMosaic.Lib.StableHlo.RunLoop
public import Idealize.ShloMosaic.Lib.StableHlo.RunClose
public import Idealize.ShloMosaic.Lib.StableHlo.RunRead
public import Idealize.ShloMosaic.Lib.StableHlo.ReadAt
public import Idealize.ShloMosaic.Lib.Scf.ExitTest
public import Idealize.ShloMosaic.Lib.Scf.Counter

/-! The reference's run: its operations as lists, its hundred trips, and what its buffers hold after them. -/

@[expose] public section

set_option maxRecDepth 16384

noncomputable section

namespace Cert.ReferenceIdeal.Trips

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.StableHlo
open Idealize.ShloMosaic.Pipeline (ucRefs sub_ucRefs)

variable {F : FTy → Type} [FloatOps F]

/-- The operations of the function fn_where over one call's buffers. -/
abbrev whereOps (arg0 : StableHlo.TRef sig ⟨S20000, .i1⟩) (arg1 : StableHlo.TRef sig ⟨S20000, .f32⟩) (arg2 : StableHlo.TRef sig ⟨S_, .f32⟩) (φ : fn_where.Bufs) : List (HloOp τ sig (Elt F)) :=
  [StableHlo.TRef.unary arg2 φ.v0 id,
   StableHlo.TRef.unary φ.v0 φ.v1 (broadcastInDim S20000 ![] bcast_S_S20000),
   StableHlo.TRef.ternary arg0 arg1 φ.v1 φ.v2 select]

/-- The operations of the function fn_argmax over one call's buffers. -/
abbrev argmaxOps (arg0 : StableHlo.TRef sig ⟨S20000, .f32⟩) (φ : fn_argmax.Bufs) : List (HloOp τ sig (Elt F)) :=
  [StableHlo.TRef.nullary φ.v0 (iotaInDim S20000 32 0),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S20000_S_d0 h_S_ j).1),
   StableHlo.TRef.quaternary arg0 φ.v0 φ.cst φ.c φ.v1_1 (fun x y u v j => (Host.argReduce reducer_argmax_f32_i32 x y u v reducesTo_S20000_S_d0 h_S_ j).2)]

/-- The operations of the function fn_where_0 over one call's buffers. -/
abbrev where0Ops (arg0 : StableHlo.TRef sig ⟨S20000, .i1⟩) (arg1 : StableHlo.TRef sig ⟨S_, .f32⟩) (arg2 : StableHlo.TRef sig ⟨S20000, .f32⟩) (φ : fn_where_0.Bufs) : List (HloOp τ sig (Elt F)) :=
  [StableHlo.TRef.unary arg1 φ.v0 id,
   StableHlo.TRef.unary φ.v0 φ.v1 (broadcastInDim S20000 ![] bcast_S_S20000),
   StableHlo.TRef.ternary arg0 φ.v1 arg2 φ.v2 select]

/-- The operations of the function fn_dynamic_update_index_in_dim over one call's buffers. -/
abbrev updOps (arg0 : StableHlo.TRef sig ⟨S100, .i32⟩) (arg1 : StableHlo.TRef sig ⟨S_, .i32⟩) (arg2 : StableHlo.TRef sig ⟨S_, .i32⟩) (φ : fn_dynamic_update_index_in_dim.Bufs) : List (HloOp τ sig (Elt F)) :=
  [StableHlo.TRef.unary arg1 φ.v0 (broadcastInDim S1 ![] bcast_S_S1),
   StableHlo.TRef.binaryIndexed arg0 φ.v0 ![arg2] φ.v1 (fun x u i => Host.dynamicUpdateSlice x u (fun k => (i k (Shape.Idx.first h_S_)).toInt) updateFits_S100_S1)]

/-- The operations of the function fn_dynamic_update_index_in_dim_1 over one call's buffers. -/
abbrev upd1Ops (arg0 : StableHlo.TRef sig ⟨S100, .i1⟩) (arg1 : StableHlo.TRef sig ⟨S_, .i1⟩) (arg2 : StableHlo.TRef sig ⟨S_, .i32⟩) (φ : fn_dynamic_update_index_in_dim_1.Bufs) : List (HloOp τ sig (Elt F)) :=
  [StableHlo.TRef.unary arg1 φ.v0 (broadcastInDim S1 ![] bcast_S_S1),
   StableHlo.TRef.binaryIndexed arg0 φ.v0 ![arg2] φ.v1 (fun x u i => Host.dynamicUpdateSlice x u (fun k => (i k (Shape.Idx.first h_S_)).toInt) updateFits_S100_S1)]

/-- The operations of the function fn_where_2 over one call's buffers. -/
abbrev where2Ops (arg0 : StableHlo.TRef sig ⟨S100, .i1⟩) (arg1 : StableHlo.TRef sig ⟨S100, .f32⟩) (arg2 : StableHlo.TRef sig ⟨S_, .f32⟩) (φ : fn_where_2.Bufs) : List (HloOp τ sig (Elt F)) :=
  [StableHlo.TRef.unary arg2 φ.v0 id,
   StableHlo.TRef.unary φ.v0 φ.v1 (broadcastInDim S100 ![] bcast_S_S100),
   StableHlo.TRef.ternary arg0 arg1 φ.v1 φ.v2 select]

/-- A stretch of host operations of the reference (mainOps, number 1). -/
abbrev mainOps1 : List (HloOp τ sig (Elt F)) :=
  [StableHlo.unary main_arg0 main_v0 ((extractStridedSlice S20000x1 ![0, 0] · slices_S20000x4_S20000x1_0_0) : (⟨S20000x4, .f32⟩ : BufTy).Contents (Elt F) → (⟨S20000x1, .f32⟩ : BufTy).Contents (Elt F)),
   StableHlo.reshape main_v0 main_v1 (rfl : (.f32 : EltTy) = .f32) shapeCasts_S20000x1_S20000,
   StableHlo.unary main_arg0 main_v2 ((extractStridedSlice S20000x1 ![0, 1] · slices_S20000x4_S20000x1_0_1) : (⟨S20000x4, .f32⟩ : BufTy).Contents (Elt F) → (⟨S20000x1, .f32⟩ : BufTy).Contents (Elt F)),
   StableHlo.reshape main_v2 main_v3 (rfl : (.f32 : EltTy) = .f32) shapeCasts_S20000x1_S20000,
   StableHlo.unary main_arg0 main_v4 ((extractStridedSlice S20000x1 ![0, 2] · slices_S20000x4_S20000x1_0_2) : (⟨S20000x4, .f32⟩ : BufTy).Contents (Elt F) → (⟨S20000x1, .f32⟩ : BufTy).Contents (Elt F)),
   StableHlo.reshape main_v4 main_v5 (rfl : (.f32 : EltTy) = .f32) shapeCasts_S20000x1_S20000,
   StableHlo.unary main_arg0 main_v6 ((extractStridedSlice S20000x1 ![0, 3] · slices_S20000x4_S20000x1_0_3) : (⟨S20000x4, .f32⟩ : BufTy).Contents (Elt F) → (⟨S20000x1, .f32⟩ : BufTy).Contents (Elt F)),
   StableHlo.reshape main_v6 main_v7 (rfl : (.f32 : EltTy) = .f32) shapeCasts_S20000x1_S20000,
   StableHlo.binary main_v5 main_v1 main_v8 (subf : (⟨S20000, .f32⟩ : BufTy).Contents (Elt F) → (⟨S20000, .f32⟩ : BufTy).Contents (Elt F) → (⟨S20000, .f32⟩ : BufTy).Contents (Elt F)),
   StableHlo.binary main_v7 main_v3 main_v9 (subf : (⟨S20000, .f32⟩ : BufTy).Contents (Elt F) → (⟨S20000, .f32⟩ : BufTy).Contents (Elt F) → (⟨S20000, .f32⟩ : BufTy).Contents (Elt F)),
   StableHlo.binary main_v8 main_v9 main_v10 (mulf : (⟨S20000, .f32⟩ : BufTy).Contents (Elt F) → (⟨S20000, .f32⟩ : BufTy).Contents (Elt F) → (⟨S20000, .f32⟩ : BufTy).Contents (Elt F)),
   StableHlo.nullary main_cst (constant S_ .f32 0x3D4CCCCD#32),
   StableHlo.unary main_cst main_v11 (broadcastInDim S20000 ![] bcast_S_S20000 : (⟨S_, .f32⟩ : BufTy).Contents (Elt F) → (⟨S20000, .f32⟩ : BufTy).Contents (Elt F)),
   StableHlo.binary main_arg1 main_v11 main_v12 (cmpf .ogt : (⟨S20000, .f32⟩ : BufTy).Contents (Elt F) → (⟨S20000, .f32⟩ : BufTy).Contents (Elt F) → (⟨S20000, .i1⟩ : BufTy).Contents (Elt F)),
   StableHlo.nullary main_cst_0 (constant S_ .f32 0xFF800000#32)]

/-- A stretch of host operations of the reference (mainOps, number 2). -/
abbrev mainOps2 : List (HloOp τ sig (Elt F)) :=
  [StableHlo.nullary main_c (constantI S_ 32 0#32),
   StableHlo.unary main_c main_v14 (broadcastInDim S100 ![] bcast_S_S100 : (⟨S_, .i32⟩ : BufTy).Contents (Elt F) → (⟨S100, .i32⟩ : BufTy).Contents (Elt F)),
   StableHlo.nullary main_c_1 (constantI S_ 1 0#1),
   StableHlo.unary main_c_1 main_v15 (broadcastInDim S100 ![] bcast_S_S100 : (⟨S_, .i1⟩ : BufTy).Contents (Elt F) → (⟨S100, .i1⟩ : BufTy).Contents (Elt F)),
   StableHlo.nullary main_c_2 (constantI S_ 32 0#32),
   StableHlo.unary main_arg0 main_v16_0 id,
   StableHlo.unary main_v1 main_v16_1 id,
   StableHlo.unary main_v3 main_v16_2 id,
   StableHlo.unary main_v5 main_v16_3 id,
   StableHlo.unary main_v7 main_v16_4 id,
   StableHlo.unary main_v10 main_v16_5 id,
   StableHlo.unary main_c_2 main_v16_6 id,
   StableHlo.unary main_v13 main_v16_7 id,
   StableHlo.unary main_v14 main_v16_8 id,
   StableHlo.unary main_v15 main_v16_9 id]

/-- A stretch of host operations of the reference (mainOps, number 3). -/
abbrev mainOps3 : List (HloOp τ sig (Elt F)) :=
  [StableHlo.nullary main_c_3 (constantI S_ 32 0#32),
   StableHlo.unary main_c_3 main_v17 (broadcastInDim S100 ![] bcast_S_S100 : (⟨S_, .i32⟩ : BufTy).Contents (Elt F) → (⟨S100, .i32⟩ : BufTy).Contents (Elt F)),
   StableHlo.binary main_v16_8 main_v17 main_v18 (cmpi .slt : (⟨S100, .i32⟩ : BufTy).Contents (Elt F) → (⟨S100, .i32⟩ : BufTy).Contents (Elt F) → (⟨S100, .i1⟩ : BufTy).Contents (Elt F)),
   StableHlo.nullary main_c_4 (constantI S_ 32 20000#32),
   StableHlo.unary main_c_4 main_v19 (broadcastInDim S100 ![] bcast_S_S100 : (⟨S_, .i32⟩ : BufTy).Contents (Elt F) → (⟨S100, .i32⟩ : BufTy).Contents (Elt F)),
   StableHlo.binary main_v16_8 main_v19 main_v20 (addi : (⟨S100, .i32⟩ : BufTy).Contents (Elt F) → (⟨S100, .i32⟩ : BufTy).Contents (Elt F) → (⟨S100, .i32⟩ : BufTy).Contents (Elt F)),
   StableHlo.ternary main_v18 main_v20 main_v16_8 main_v21 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
   StableHlo.unary main_v21 main_v22 (broadcastInDim S100x1 ![0] bcast_S100_S100x1_0 : (⟨S100, .i32⟩ : BufTy).Contents (Elt F) → (⟨S100x1, .i32⟩ : BufTy).Contents (Elt F)),
   StableHlo.binary main_arg0 main_v22 main_v23 ((fun x i => Host.gather gather_S20000x4_S100x1_S100x4_1_0_n_n_0_1_14 x i) : (⟨S20000x4, .f32⟩ : BufTy).Contents (Elt F) → (⟨S100x1, .i32⟩ : BufTy).Contents (Elt F) → (⟨S100x4, .f32⟩ : BufTy).Contents (Elt F)),
   StableHlo.unary main_v16_9 main_v24 (broadcastInDim S100x1 ![0] bcast_S100_S100x1_0 : (⟨S100, .i1⟩ : BufTy).Contents (Elt F) → (⟨S100x1, .i1⟩ : BufTy).Contents (Elt F)),
   StableHlo.unary main_v24 main_v25 (uitofp .f32 : (⟨S100x1, .i1⟩ : BufTy).Contents (Elt F) → (⟨S100x1, .f32⟩ : BufTy).Contents (Elt F)),
   StableHlo.unary main_v25 main_v26 (broadcastInDim S100x4 ![0, 1] bcast_S100x1_S100x4_0_1 : (⟨S100x1, .f32⟩ : BufTy).Contents (Elt F) → (⟨S100x4, .f32⟩ : BufTy).Contents (Elt F)),
   StableHlo.binary main_v23 main_v26 main_v27 (mulf : (⟨S100x4, .f32⟩ : BufTy).Contents (Elt F) → (⟨S100x4, .f32⟩ : BufTy).Contents (Elt F) → (⟨S100x4, .f32⟩ : BufTy).Contents (Elt F)),
   StableHlo.nullary main_c_5 (constantI S_ 32 0#32),
   StableHlo.unary main_c_5 main_v28 (broadcastInDim S100 ![] bcast_S_S100 : (⟨S_, .i32⟩ : BufTy).Contents (Elt F) → (⟨S100, .i32⟩ : BufTy).Contents (Elt F)),
   StableHlo.binary main_v16_8 main_v28 main_v29 (cmpi .slt : (⟨S100, .i32⟩ : BufTy).Contents (Elt F) → (⟨S100, .i32⟩ : BufTy).Contents (Elt F) → (⟨S100, .i1⟩ : BufTy).Contents (Elt F)),
   StableHlo.nullary main_c_6 (constantI S_ 32 20000#32),
   StableHlo.unary main_c_6 main_v30 (broadcastInDim S100 ![] bcast_S_S100 : (⟨S_, .i32⟩ : BufTy).Contents (Elt F) → (⟨S100, .i32⟩ : BufTy).Contents (Elt F)),
   StableHlo.binary main_v16_8 main_v30 main_v31 (addi : (⟨S100, .i32⟩ : BufTy).Contents (Elt F) → (⟨S100, .i32⟩ : BufTy).Contents (Elt F) → (⟨S100, .i32⟩ : BufTy).Contents (Elt F)),
   StableHlo.ternary main_v29 main_v31 main_v16_8 main_v32 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
   StableHlo.unary main_v32 main_v33 (broadcastInDim S100x1 ![0] bcast_S100_S100x1_0 : (⟨S100, .i32⟩ : BufTy).Contents (Elt F) → (⟨S100x1, .i32⟩ : BufTy).Contents (Elt F)),
   StableHlo.binary main_arg1 main_v33 main_v34 ((fun x i => Host.gather gather_S20000_S100x1_S100_n_0_n_n_0_1_1 x i) : (⟨S20000, .f32⟩ : BufTy).Contents (Elt F) → (⟨S100x1, .i32⟩ : BufTy).Contents (Elt F) → (⟨S100, .f32⟩ : BufTy).Contents (Elt F)),
   StableHlo.nullary main_cst_7 (constant S_ .f32 0x00000000#32)]

/-- A stretch of host operations of the reference (mainOps, number 4). -/
abbrev mainOps4 : List (HloOp τ sig (Elt F)) :=
  [StableHlo.nullary main_cst_8 (constant S_ .f32 0x00000000#32),
   StableHlo.unary main_cst_8 main_v36 (broadcastInDim S100x123 ![] bcast_S_S100x123 : (⟨S_, .f32⟩ : BufTy).Contents (Elt F) → (⟨S100x123, .f32⟩ : BufTy).Contents (Elt F)),
   StableHlo.unary main_v35 main_v37 (broadcastInDim S100x1 ![0] bcast_S100_S100x1_0 : (⟨S100, .f32⟩ : BufTy).Contents (Elt F) → (⟨S100x1, .f32⟩ : BufTy).Contents (Elt F)),
   StableHlo.nary ![main_v27, main_v37, main_v36] main_v38 (fun u => (concatenate S100x128 1 [⟨S100x4, (u 0 : (⟨S100x4, .f32⟩ : BufTy).Contents (Elt F))⟩, ⟨S100x1, (u 1 : (⟨S100x1, .f32⟩ : BufTy).Contents (Elt F))⟩, ⟨S100x123, (u 2 : (⟨S100x123, .f32⟩ : BufTy).Contents (Elt F))⟩] concatenates_S100x4_S100x1_S100x123_S100x128_d1 : (⟨S100x128, .f32⟩ : BufTy).Contents (Elt F)))]

/-- A stretch of host operations of the reference (headOps, number 1). -/
abbrev headOps1 : List (HloOp τ sig (Elt F)) :=
  [StableHlo.nullary main_while0b_c_18 (constantI S_ 32 0#32),
   StableHlo.binary main_while0b_v39 main_while0b_c_18 main_while0b_v40 (cmpi .slt : (⟨S_, .i32⟩ : BufTy).Contents (Elt F) → (⟨S_, .i32⟩ : BufTy).Contents (Elt F) → (⟨S_, .i1⟩ : BufTy).Contents (Elt F)),
   StableHlo.nullary main_while0b_c_19 (constantI S_ 32 20000#32),
   StableHlo.binary main_while0b_v39 main_while0b_c_19 main_while0b_v41 (addi : (⟨S_, .i32⟩ : BufTy).Contents (Elt F) → (⟨S_, .i32⟩ : BufTy).Contents (Elt F) → (⟨S_, .i32⟩ : BufTy).Contents (Elt F)),
   StableHlo.ternary main_while0b_v40 main_while0b_v41 main_while0b_v39 main_while0b_v42 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unaryIndexed main_v16_7 ![main_while0b_v42] ⟨S_, .i32⟩ main_while0b_v43 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)),
   StableHlo.reshape main_while0b_v43 main_while0b_v44 (rfl : (.f32 : EltTy) = .f32) shapeCasts_S1_S_,
   StableHlo.nullary main_while0b_c_20 (constantI S_ 32 0#32),
   StableHlo.binary main_while0b_v39 main_while0b_c_20 main_while0b_v45 (cmpi .slt : (⟨S_, .i32⟩ : BufTy).Contents (Elt F) → (⟨S_, .i32⟩ : BufTy).Contents (Elt F) → (⟨S_, .i1⟩ : BufTy).Contents (Elt F)),
   StableHlo.nullary main_while0b_c_21 (constantI S_ 32 20000#32),
   StableHlo.binary main_while0b_v39 main_while0b_c_21 main_while0b_v46 (addi : (⟨S_, .i32⟩ : BufTy).Contents (Elt F) → (⟨S_, .i32⟩ : BufTy).Contents (Elt F) → (⟨S_, .i32⟩ : BufTy).Contents (Elt F)),
   StableHlo.ternary main_while0b_v45 main_while0b_v46 main_while0b_v39 main_while0b_v47 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.nullary main_while0b_c_22 (constantI S_ 32 0#32),
   StableHlo.nullary main_while0b_c_23 (constantI S_ 32 0#32),
   StableHlo.binary main_while0b_c_22 main_while0b_c_23 main_while0b_v48 (cmpi .slt : (⟨S_, .i32⟩ : BufTy).Contents (Elt F) → (⟨S_, .i32⟩ : BufTy).Contents (Elt F) → (⟨S_, .i1⟩ : BufTy).Contents (Elt F)),
   StableHlo.nullary main_while0b_c_24 (constantI S_ 32 0#32),
   StableHlo.nullary main_while0b_c_25 (constantI S_ 32 4#32),
   StableHlo.binary main_while0b_c_24 main_while0b_c_25 main_while0b_v49 (addi : (⟨S_, .i32⟩ : BufTy).Contents (Elt F) → (⟨S_, .i32⟩ : BufTy).Contents (Elt F) → (⟨S_, .i32⟩ : BufTy).Contents (Elt F)),
   StableHlo.nullary main_while0b_c_26 (constantI S_ 32 0#32),
   StableHlo.ternary main_while0b_v48 main_while0b_v49 main_while0b_c_26 main_while0b_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unaryIndexed main_v16_0 ![main_while0b_v47, main_while0b_v50] ⟨S_, .i32⟩ main_while0b_v51 ((fun x i => Host.dynamicSlice S1x4 x (fun k => (i k (Shape.Idx.first h_S_)).toInt) sliceFits_S20000x4_S1x4) : (⟨S20000x4, .f32⟩ : BufTy).Contents (Elt F) → (Fin 2 → (⟨S_, .i32⟩ : BufTy).Contents (Elt F)) → (⟨S1x4, .f32⟩ : BufTy).Contents (Elt F)),
   StableHlo.reshape main_while0b_v51 main_while0b_v52 (rfl : (.f32 : EltTy) = .f32) shapeCasts_S1x4_S4,
   StableHlo.unary main_while0b_v52 main_while0b_v53 ((extractStridedSlice S1 ![0] · slices_S4_S1_0) : (⟨S4, .f32⟩ : BufTy).Contents (Elt F) → (⟨S1, .f32⟩ : BufTy).Contents (Elt F)),
   StableHlo.reshape main_while0b_v53 main_while0b_v54 (rfl : (.f32 : EltTy) = .f32) shapeCasts_S1_S_,
   StableHlo.unary main_while0b_v54 main_while0b_v55 (broadcastInDim S20000 ![] bcast_S_S20000 : (⟨S_, .f32⟩ : BufTy).Contents (Elt F) → (⟨S20000, .f32⟩ : BufTy).Contents (Elt F)),
   StableHlo.binary main_v16_1 main_while0b_v55 main_while0b_v56 (maximumf : (⟨S20000, .f32⟩ : BufTy).Contents (Elt F) → (⟨S20000, .f32⟩ : BufTy).Contents (Elt F) → (⟨S20000, .f32⟩ : BufTy).Contents (Elt F)),
   StableHlo.unary main_while0b_v52 main_while0b_v57 ((extractStridedSlice S1 ![1] · slices_S4_S1_1) : (⟨S4, .f32⟩ : BufTy).Contents (Elt F) → (⟨S1, .f32⟩ : BufTy).Contents (Elt F)),
   StableHlo.reshape main_while0b_v57 main_while0b_v58 (rfl : (.f32 : EltTy) = .f32) shapeCasts_S1_S_,
   StableHlo.unary main_while0b_v58 main_while0b_v59 (broadcastInDim S20000 ![] bcast_S_S20000 : (⟨S_, .f32⟩ : BufTy).Contents (Elt F) → (⟨S20000, .f32⟩ : BufTy).Contents (Elt F)),
   StableHlo.binary main_v16_2 main_while0b_v59 main_while0b_v60 (maximumf : (⟨S20000, .f32⟩ : BufTy).Contents (Elt F) → (⟨S20000, .f32⟩ : BufTy).Contents (Elt F) → (⟨S20000, .f32⟩ : BufTy).Contents (Elt F)),
   StableHlo.unary main_while0b_v52 main_while0b_v61 ((extractStridedSlice S1 ![2] · slices_S4_S1_2) : (⟨S4, .f32⟩ : BufTy).Contents (Elt F) → (⟨S1, .f32⟩ : BufTy).Contents (Elt F)),
   StableHlo.reshape main_while0b_v61 main_while0b_v62 (rfl : (.f32 : EltTy) = .f32) shapeCasts_S1_S_,
   StableHlo.unary main_while0b_v62 main_while0b_v63 (broadcastInDim S20000 ![] bcast_S_S20000 : (⟨S_, .f32⟩ : BufTy).Contents (Elt F) → (⟨S20000, .f32⟩ : BufTy).Contents (Elt F)),
   StableHlo.binary main_v16_3 main_while0b_v63 main_while0b_v64 (minimumf : (⟨S20000, .f32⟩ : BufTy).Contents (Elt F) → (⟨S20000, .f32⟩ : BufTy).Contents (Elt F) → (⟨S20000, .f32⟩ : BufTy).Contents (Elt F)),
   StableHlo.unary main_while0b_v52 main_while0b_v65 ((extractStridedSlice S1 ![3] · slices_S4_S1_3) : (⟨S4, .f32⟩ : BufTy).Contents (Elt F) → (⟨S1, .f32⟩ : BufTy).Contents (Elt F)),
   StableHlo.reshape main_while0b_v65 main_while0b_v66 (rfl : (.f32 : EltTy) = .f32) shapeCasts_S1_S_,
   StableHlo.unary main_while0b_v66 main_while0b_v67 (broadcastInDim S20000 ![] bcast_S_S20000 : (⟨S_, .f32⟩ : BufTy).Contents (Elt F) → (⟨S20000, .f32⟩ : BufTy).Contents (Elt F)),
   StableHlo.binary main_v16_4 main_while0b_v67 main_while0b_v68 (minimumf : (⟨S20000, .f32⟩ : BufTy).Contents (Elt F) → (⟨S20000, .f32⟩ : BufTy).Contents (Elt F) → (⟨S20000, .f32⟩ : BufTy).Contents (Elt F)),
   StableHlo.binary main_while0b_v64 main_while0b_v56 main_while0b_v69 (subf : (⟨S20000, .f32⟩ : BufTy).Contents (Elt F) → (⟨S20000, .f32⟩ : BufTy).Contents (Elt F) → (⟨S20000, .f32⟩ : BufTy).Contents (Elt F)),
   StableHlo.nullary main_while0b_cst_27 (constant S_ .f32 0x00000000#32),
   StableHlo.unary main_while0b_cst_27 main_while0b_v70 (broadcastInDim S20000 ![] bcast_S_S20000 : (⟨S_, .f32⟩ : BufTy).Contents (Elt F) → (⟨S20000, .f32⟩ : BufTy).Contents (Elt F)),
   StableHlo.binary main_while0b_v69 main_while0b_v70 main_while0b_v71 (maximumf : (⟨S20000, .f32⟩ : BufTy).Contents (Elt F) → (⟨S20000, .f32⟩ : BufTy).Contents (Elt F) → (⟨S20000, .f32⟩ : BufTy).Contents (Elt F)),
   StableHlo.binary main_while0b_v68 main_while0b_v60 main_while0b_v72 (subf : (⟨S20000, .f32⟩ : BufTy).Contents (Elt F) → (⟨S20000, .f32⟩ : BufTy).Contents (Elt F) → (⟨S20000, .f32⟩ : BufTy).Contents (Elt F)),
   StableHlo.nullary main_while0b_cst_28 (constant S_ .f32 0x00000000#32),
   StableHlo.unary main_while0b_cst_28 main_while0b_v73 (broadcastInDim S20000 ![] bcast_S_S20000 : (⟨S_, .f32⟩ : BufTy).Contents (Elt F) → (⟨S20000, .f32⟩ : BufTy).Contents (Elt F)),
   StableHlo.binary main_while0b_v72 main_while0b_v73 main_while0b_v74 (maximumf : (⟨S20000, .f32⟩ : BufTy).Contents (Elt F) → (⟨S20000, .f32⟩ : BufTy).Contents (Elt F) → (⟨S20000, .f32⟩ : BufTy).Contents (Elt F)),
   StableHlo.binary main_while0b_v71 main_while0b_v74 main_while0b_v75 (mulf : (⟨S20000, .f32⟩ : BufTy).Contents (Elt F) → (⟨S20000, .f32⟩ : BufTy).Contents (Elt F) → (⟨S20000, .f32⟩ : BufTy).Contents (Elt F)),
   StableHlo.unary main_while0b_v52 main_while0b_v76 ((extractStridedSlice S1 ![2] · slices_S4_S1_2) : (⟨S4, .f32⟩ : BufTy).Contents (Elt F) → (⟨S1, .f32⟩ : BufTy).Contents (Elt F)),
   StableHlo.reshape main_while0b_v76 main_while0b_v77 (rfl : (.f32 : EltTy) = .f32) shapeCasts_S1_S_,
   StableHlo.unary main_while0b_v52 main_while0b_v78 ((extractStridedSlice S1 ![0] · slices_S4_S1_0) : (⟨S4, .f32⟩ : BufTy).Contents (Elt F) → (⟨S1, .f32⟩ : BufTy).Contents (Elt F)),
   StableHlo.reshape main_while0b_v78 main_while0b_v79 (rfl : (.f32 : EltTy) = .f32) shapeCasts_S1_S_,
   StableHlo.binary main_while0b_v77 main_while0b_v79 main_while0b_v80 (subf : (⟨S_, .f32⟩ : BufTy).Contents (Elt F) → (⟨S_, .f32⟩ : BufTy).Contents (Elt F) → (⟨S_, .f32⟩ : BufTy).Contents (Elt F)),
   StableHlo.unary main_while0b_v52 main_while0b_v81 ((extractStridedSlice S1 ![3] · slices_S4_S1_3) : (⟨S4, .f32⟩ : BufTy).Contents (Elt F) → (⟨S1, .f32⟩ : BufTy).Contents (Elt F)),
   StableHlo.reshape main_while0b_v81 main_while0b_v82 (rfl : (.f32 : EltTy) = .f32) shapeCasts_S1_S_,
   StableHlo.unary main_while0b_v52 main_while0b_v83 ((extractStridedSlice S1 ![1] · slices_S4_S1_1) : (⟨S4, .f32⟩ : BufTy).Contents (Elt F) → (⟨S1, .f32⟩ : BufTy).Contents (Elt F)),
   StableHlo.reshape main_while0b_v83 main_while0b_v84 (rfl : (.f32 : EltTy) = .f32) shapeCasts_S1_S_,
   StableHlo.binary main_while0b_v82 main_while0b_v84 main_while0b_v85 (subf : (⟨S_, .f32⟩ : BufTy).Contents (Elt F) → (⟨S_, .f32⟩ : BufTy).Contents (Elt F) → (⟨S_, .f32⟩ : BufTy).Contents (Elt F)),
   StableHlo.binary main_while0b_v80 main_while0b_v85 main_while0b_v86 (mulf : (⟨S_, .f32⟩ : BufTy).Contents (Elt F) → (⟨S_, .f32⟩ : BufTy).Contents (Elt F) → (⟨S_, .f32⟩ : BufTy).Contents (Elt F)),
   StableHlo.unary main_while0b_v86 main_while0b_v87 (broadcastInDim S20000 ![] bcast_S_S20000 : (⟨S_, .f32⟩ : BufTy).Contents (Elt F) → (⟨S20000, .f32⟩ : BufTy).Contents (Elt F))]

/-- A stretch of host operations of the reference (tailOps, number 1). -/
abbrev tailOps1 : List (HloOp τ sig (Elt F)) :=
  [StableHlo.binary main_v16_5 main_while0b_v87 main_while0b_v88 (addf : (⟨S20000, .f32⟩ : BufTy).Contents (Elt F) → (⟨S20000, .f32⟩ : BufTy).Contents (Elt F) → (⟨S20000, .f32⟩ : BufTy).Contents (Elt F)),
   StableHlo.binary main_while0b_v88 main_while0b_v75 main_while0b_v89 (subf : (⟨S20000, .f32⟩ : BufTy).Contents (Elt F) → (⟨S20000, .f32⟩ : BufTy).Contents (Elt F) → (⟨S20000, .f32⟩ : BufTy).Contents (Elt F)),
   StableHlo.nullary main_while0b_cst_29 (constant S_ .f32 0x3089705F#32),
   StableHlo.unary main_while0b_cst_29 main_while0b_v90 (broadcastInDim S20000 ![] bcast_S_S20000 : (⟨S_, .f32⟩ : BufTy).Contents (Elt F) → (⟨S20000, .f32⟩ : BufTy).Contents (Elt F)),
   StableHlo.binary main_while0b_v89 main_while0b_v90 main_while0b_v91 (addf : (⟨S20000, .f32⟩ : BufTy).Contents (Elt F) → (⟨S20000, .f32⟩ : BufTy).Contents (Elt F) → (⟨S20000, .f32⟩ : BufTy).Contents (Elt F)),
   StableHlo.binary main_while0b_v75 main_while0b_v91 main_while0b_v92 (Host.divf : (⟨S20000, .f32⟩ : BufTy).Contents (Elt F) → (⟨S20000, .f32⟩ : BufTy).Contents (Elt F) → (⟨S20000, .f32⟩ : BufTy).Contents (Elt F)),
   StableHlo.nullary main_while0b_cst_30 (constant S_ .f32 0xFF800000#32),
   StableHlo.binary main_while0b_v44 main_while0b_cst_30 main_while0b_v93 (cmpf .ogt : (⟨S_, .f32⟩ : BufTy).Contents (Elt F) → (⟨S_, .f32⟩ : BufTy).Contents (Elt F) → (⟨S_, .i1⟩ : BufTy).Contents (Elt F)),
   StableHlo.nullary main_while0b_cst_31 (constant S_ .f32 0x7F800000#32),
   StableHlo.binary main_while0b_v44 main_while0b_cst_31 main_while0b_v94 (cmpf .olt : (⟨S_, .f32⟩ : BufTy).Contents (Elt F) → (⟨S_, .f32⟩ : BufTy).Contents (Elt F) → (⟨S_, .i1⟩ : BufTy).Contents (Elt F)),
   StableHlo.binary main_while0b_v93 main_while0b_v94 main_while0b_v95 (andi : (⟨S_, .i1⟩ : BufTy).Contents (Elt F) → (⟨S_, .i1⟩ : BufTy).Contents (Elt F) → (⟨S_, .i1⟩ : BufTy).Contents (Elt F)),
   StableHlo.nullary main_while0b_cst_32 (constant S_ .f32 0x3F000000#32),
   StableHlo.unary main_while0b_cst_32 main_while0b_v96 (broadcastInDim S20000 ![] bcast_S_S20000 : (⟨S_, .f32⟩ : BufTy).Contents (Elt F) → (⟨S20000, .f32⟩ : BufTy).Contents (Elt F)),
   StableHlo.binary main_while0b_v92 main_while0b_v96 main_while0b_v97 (cmpf .ogt : (⟨S20000, .f32⟩ : BufTy).Contents (Elt F) → (⟨S20000, .f32⟩ : BufTy).Contents (Elt F) → (⟨S20000, .i1⟩ : BufTy).Contents (Elt F)),
   StableHlo.unary main_while0b_v95 main_while0b_v98 (broadcastInDim S20000 ![] bcast_S_S20000 : (⟨S_, .i1⟩ : BufTy).Contents (Elt F) → (⟨S20000, .i1⟩ : BufTy).Contents (Elt F)),
   StableHlo.binary main_while0b_v97 main_while0b_v98 main_while0b_v99 (andi : (⟨S20000, .i1⟩ : BufTy).Contents (Elt F) → (⟨S20000, .i1⟩ : BufTy).Contents (Elt F) → (⟨S20000, .i1⟩ : BufTy).Contents (Elt F)),
   StableHlo.nullary main_while0b_cst_33 (constant S_ .f32 0xFF800000#32)]

/-- A stretch of host operations of the reference (tailOps, number 2). -/
abbrev tailOps2 : List (HloOp τ sig (Elt F)) :=
  [StableHlo.nullary main_while0b_c_34 (constantI S_ 32 1#32),
   StableHlo.binary main_v16_6 main_while0b_c_34 main_while0b_v103 (addi : (⟨S_, .i32⟩ : BufTy).Contents (Elt F) → (⟨S_, .i32⟩ : BufTy).Contents (Elt F) → (⟨S_, .i32⟩ : BufTy).Contents (Elt F)),
   StableHlo.unary main_while0b_v103 main_v16_6 id,
   StableHlo.unary main_while0b_v100 main_v16_7 id,
   StableHlo.unary main_while0b_v101 main_v16_8 id,
   StableHlo.unary main_while0b_v102 main_v16_9 id]

/-- The loop condition's operations. -/
abbrev condOps : List (HloOp τ sig (Elt F)) :=
  [StableHlo.nullary main_while0c_c_18 (constantI S_ 32 100#32),
   StableHlo.binary main_v16_6 main_while0c_c_18 main_while0c_v39 (cmpi .slt : (⟨S_, .i32⟩ : BufTy).Contents (Elt F) → (⟨S_, .i32⟩ : BufTy).Contents (Elt F) → (⟨S_, .i1⟩ : BufTy).Contents (Elt F))]

/-- The stretches before the loop. -/
abbrev preI : List (List (HloOp τ sig (Elt F))) :=
  [mainOps1, whereOps (.of main_v12) (.of main_arg1) (.of main_cst_0) main_call0, mainOps2]

/-- The stretches of one trip. -/
abbrev bodyI : List (List (HloOp τ sig (Elt F))) :=
  [argmaxOps (.of main_v16_7) main_while0b_call1, headOps1, tailOps1,
   where0Ops (.of main_while0b_v99) (.of main_while0b_cst_33) (.of main_v16_7) main_while0b_call2,
   updOps (.of main_v16_8) (.of main_while0b_v39) (.of main_v16_6) main_while0b_call3,
   upd1Ops (.of main_v16_9) (.of main_while0b_v95) (.of main_v16_6) main_while0b_call4, tailOps2]

/-- The stretches after the loop. -/
abbrev postI : List (List (HloOp τ sig (Elt F))) :=
  [mainOps3, where2Ops (.of main_v16_9) (.of main_v34) (.of main_cst_7) main_call5, mainOps4]

/-- The whole program is its stretches and its loop in order. -/
theorem main_chain (c : Dev nD) : main (F := F) c =
    Pipeline.chain ((preI.map fun ops => (seq ops : Prog _ PUnit)) ++ HostLoop.enter 0 :: postI.map fun ops => (seq ops : Prog _ PUnit)) := by
  chain_rfl

/-- One trip is its stretches in order. -/
theorem body_chain : main_while0_body (F := F) = Pipeline.chain (bodyI.map fun ops => (seq ops : Prog _ PUnit)) := by
  chain_rfl

/-- These operations touch the core's own buffers only. -/
theorem whereOps_sub (arg0 : StableHlo.TRef sig ⟨S20000, .i1⟩) (arg1 : StableHlo.TRef sig ⟨S20000, .f32⟩) (arg2 : StableHlo.TRef sig ⟨S_, .f32⟩) (φ : fn_where.Bufs) : (whereOps arg0 arg1 arg2 φ : List (HloOp τ sig (Elt F))).Forall fun op => op.bufs ⊆ tcRefs τ sig :=
  ⟨unary_bufs_sub .., unary_bufs_sub .., ternary_bufs_sub ..⟩

/-- These operations touch the core's own buffers only. -/
theorem argmaxOps_sub (arg0 : StableHlo.TRef sig ⟨S20000, .f32⟩) (φ : fn_argmax.Bufs) : (argmaxOps arg0 φ : List (HloOp τ sig (Elt F))).Forall fun op => op.bufs ⊆ tcRefs τ sig :=
  ⟨nullary_bufs_sub .., nullary_bufs_sub .., nullary_bufs_sub .., quaternary_bufs_sub .., quaternary_bufs_sub ..⟩

/-- These operations touch the core's own buffers only. -/
theorem where0Ops_sub (arg0 : StableHlo.TRef sig ⟨S20000, .i1⟩) (arg1 : StableHlo.TRef sig ⟨S_, .f32⟩) (arg2 : StableHlo.TRef sig ⟨S20000, .f32⟩) (φ : fn_where_0.Bufs) : (where0Ops arg0 arg1 arg2 φ : List (HloOp τ sig (Elt F))).Forall fun op => op.bufs ⊆ tcRefs τ sig :=
  ⟨unary_bufs_sub .., unary_bufs_sub .., ternary_bufs_sub ..⟩

/-- These operations touch the core's own buffers only. -/
theorem updOps_sub (arg0 : StableHlo.TRef sig ⟨S100, .i32⟩) (arg1 : StableHlo.TRef sig ⟨S_, .i32⟩) (arg2 : StableHlo.TRef sig ⟨S_, .i32⟩) (φ : fn_dynamic_update_index_in_dim.Bufs) : (updOps arg0 arg1 arg2 φ : List (HloOp τ sig (Elt F))).Forall fun op => op.bufs ⊆ tcRefs τ sig :=
  ⟨unary_bufs_sub .., binaryIndexed_bufs_sub ..⟩

/-- These operations touch the core's own buffers only. -/
theorem upd1Ops_sub (arg0 : StableHlo.TRef sig ⟨S100, .i1⟩) (arg1 : StableHlo.TRef sig ⟨S_, .i1⟩) (arg2 : StableHlo.TRef sig ⟨S_, .i32⟩) (φ : fn_dynamic_update_index_in_dim_1.Bufs) : (upd1Ops arg0 arg1 arg2 φ : List (HloOp τ sig (Elt F))).Forall fun op => op.bufs ⊆ tcRefs τ sig :=
  ⟨unary_bufs_sub .., binaryIndexed_bufs_sub ..⟩

/-- These operations touch the core's own buffers only. -/
theorem where2Ops_sub (arg0 : StableHlo.TRef sig ⟨S100, .i1⟩) (arg1 : StableHlo.TRef sig ⟨S100, .f32⟩) (arg2 : StableHlo.TRef sig ⟨S_, .f32⟩) (φ : fn_where_2.Bufs) : (where2Ops arg0 arg1 arg2 φ : List (HloOp τ sig (Elt F))).Forall fun op => op.bufs ⊆ tcRefs τ sig :=
  ⟨unary_bufs_sub .., unary_bufs_sub .., ternary_bufs_sub ..⟩

/-- These operations touch the core's own buffers only. -/
theorem mainOps1_sub : (mainOps1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., nullary_bufs_sub ..⟩

/-- These operations touch the core's own buffers only. -/
theorem mainOps2_sub : (mainOps2 : List (HloOp τ sig (Elt F))).Forall fun op => op.bufs ⊆ tcRefs τ sig :=
  ⟨nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- These operations touch the core's own buffers only. -/
theorem mainOps3_sub : (mainOps3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

/-- These operations touch the core's own buffers only. -/
theorem mainOps4_sub : (mainOps4 : List (HloOp τ sig (Elt F))).Forall fun op => op.bufs ⊆ tcRefs τ sig :=
  ⟨nullary_bufs_sub .., unary_bufs_sub .., unary_bufs_sub .., nary_bufs_sub ..⟩

/-- These operations touch the core's own buffers only. -/
theorem headOps1_sub : (headOps1 : List (HloOp τ sig (Elt F))).Forall fun op => op.bufs ⊆ tcRefs τ sig :=
  ⟨nullary_bufs_sub .., binary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub ..⟩

/-- These operations touch the core's own buffers only. -/
theorem tailOps1_sub : (tailOps1 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., binary_bufs_sub .., nullary_bufs_sub .., binary_bufs_sub .., binary_bufs_sub .., nullary_bufs_sub .., unary_bufs_sub .., binary_bufs_sub .., unary_bufs_sub .., binary_bufs_sub .., nullary_bufs_sub ..⟩

/-- These operations touch the core's own buffers only. -/
theorem tailOps2_sub : (tailOps2 : List (HloOp τ sig (Elt F))).Forall fun op => op.bufs ⊆ tcRefs τ sig :=
  ⟨nullary_bufs_sub .., binary_bufs_sub .., unary_bufs_sub .., unary_bufs_sub .., unary_bufs_sub .., unary_bufs_sub ..⟩

/-- These operations touch the core's own buffers only. -/
theorem condOps_sub : (condOps : List (HloOp τ sig (Elt F))).Forall fun op => op.bufs ⊆ tcRefs τ sig :=
  ⟨nullary_bufs_sub .., binary_bufs_sub ..⟩

/-- The buffers these operations write, in order. -/
abbrev mainOps1_W : List (Ref sig .tc) := [main_v0, main_v1, main_v2, main_v3, main_v4, main_v5, main_v6, main_v7, main_v8, main_v9, main_v10, main_cst, main_v11, main_v12, main_cst_0]

/-- The buffers these operations write, in order. -/
abbrev mainOps2_W : List (Ref sig .tc) := [main_c, main_v14, main_c_1, main_v15, main_c_2, main_v16_0, main_v16_1, main_v16_2, main_v16_3, main_v16_4, main_v16_5, main_v16_6, main_v16_7, main_v16_8, main_v16_9]

/-- The buffers these operations write, in order. -/
abbrev mainOps3_W : List (Ref sig .tc) := [main_c_3, main_v17, main_v18, main_c_4, main_v19, main_v20, main_v21, main_v22, main_v23, main_v24, main_v25, main_v26, main_v27, main_c_5, main_v28, main_v29, main_c_6, main_v30, main_v31, main_v32, main_v33, main_v34, main_cst_7]

/-- The buffers these operations write, in order. -/
abbrev mainOps4_W : List (Ref sig .tc) := [main_cst_8, main_v36, main_v37, main_v38]

/-- The buffers these operations write, in order. -/
abbrev headOps1_W : List (Ref sig .tc) := [main_while0b_c_18, main_while0b_v40, main_while0b_c_19, main_while0b_v41, main_while0b_v42, main_while0b_v43, main_while0b_v44, main_while0b_c_20, main_while0b_v45, main_while0b_c_21, main_while0b_v46, main_while0b_v47, main_while0b_c_22, main_while0b_c_23, main_while0b_v48, main_while0b_c_24, main_while0b_c_25, main_while0b_v49, main_while0b_c_26, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_v69, main_while0b_cst_27, main_while0b_v70, main_while0b_v71, main_while0b_v72, main_while0b_cst_28, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87]

/-- The buffers these operations write, in order. -/
abbrev tailOps1_W : List (Ref sig .tc) := [main_while0b_v88, main_while0b_v89, main_while0b_cst_29, main_while0b_v90, main_while0b_v91, main_while0b_v92, main_while0b_cst_30, main_while0b_v93, main_while0b_cst_31, main_while0b_v94, main_while0b_v95, main_while0b_cst_32, main_while0b_v96, main_while0b_v97, main_while0b_v98, main_while0b_v99, main_while0b_cst_33]

/-- The buffers these operations write, in order. -/
abbrev tailOps2_W : List (Ref sig .tc) := [main_while0b_c_34, main_while0b_v103, main_v16_6, main_v16_7, main_v16_8, main_v16_9]

/-- The buffers these operations write, in order. -/
abbrev condOps_W : List (Ref sig .tc) := [main_while0c_c_18, main_while0c_v39]

/-- The buffers the trips must leave alone: the arguments and the carried boxes, corners and areas. -/
abbrev kept : List (Ref sig .tc) :=
  [main_arg0, main_arg1, main_v16_0, main_v16_1, main_v16_2, main_v16_3, main_v16_4, main_v16_5]

/-- The buffers one trip writes outside its straight stretches. -/
abbrev calls_W : List (List (Ref sig .tc)) :=
  [[main_while0b_call1_v0, main_while0b_call1_cst, main_while0b_call1_c, main_while0b_call1_v1_0, main_while0b_v39],
   [main_while0b_call2_v0, main_while0b_call2_v1, main_while0b_v100],
   [main_while0b_call3_v0, main_while0b_v101], [main_while0b_call4_v0, main_while0b_v102]]

/-- The operations of a list write the buffers listed, in order. -/
def Writes (ops : List (HloOp τ sig (Elt F))) (W : List (Ref sig .tc)) : Prop :=
  ops.map HloOp.writes = W.map fun r => {(Proc.devRef (τ := τ) .tc r)}

/-- A buffer that is not written keeps its contents. -/
theorem Writes.keep {ops : List (HloOp τ sig (Elt F))} {W : List (Ref sig .tc)} {a : Ref sig .tc} (ha : a ∉ W) (h : Writes ops W)
    (V : Valuation τ sig (Elt F)) : after ops V (Proc.devRef .tc a) = V (Proc.devRef .tc a) :=
  after_of_writes_sub ops V (forall_writes_sub_of_map h) ha

/-- Finding the best leaves everything but its own buffers alone. -/
theorem argmax_keep (V : Valuation τ sig (Elt F)) {a : Ref sig .tc}
    (ha : a ∉ [main_while0b_call1_v0, main_while0b_call1_cst, main_while0b_call1_c, main_while0b_call1_v1_0, main_while0b_v39]) :
    after (argmaxOps (.of main_v16_7) main_while0b_call1) V (Proc.devRef .tc a) = V (Proc.devRef .tc a) :=
  Writes.keep (ops := argmaxOps (.of main_v16_7) main_while0b_call1) ha rfl V

/-- Reading the best and overlapping it with all writes only its own buffers. -/
theorem head_keep (V : Valuation τ sig (Elt F)) {a : Ref sig .tc} (ha : a ∉ headOps1_W) :
    after headOps1 V (Proc.devRef .tc a) = V (Proc.devRef .tc a) :=
  Writes.keep (ops := headOps1) ha rfl V

/-- Deciding what to suppress writes only its own buffers. -/
theorem tail1_keep (V : Valuation τ sig (Elt F)) {a : Ref sig .tc} (ha : a ∉ tailOps1_W) :
    after tailOps1 V (Proc.devRef .tc a) = V (Proc.devRef .tc a) :=
  Writes.keep (ops := tailOps1) ha rfl V

/-- Suppressing writes only its own buffers. -/
theorem where0_keep (V : Valuation τ sig (Elt F)) {a : Ref sig .tc}
    (ha : a ∉ [main_while0b_call2_v0, main_while0b_call2_v1, main_while0b_v100]) :
    after (where0Ops (.of main_while0b_v99) (.of main_while0b_cst_33) (.of main_v16_7) main_while0b_call2) V (Proc.devRef .tc a) = V (Proc.devRef .tc a) :=
  Writes.keep (ops := where0Ops (.of main_while0b_v99) (.of main_while0b_cst_33) (.of main_v16_7) main_while0b_call2) ha rfl V

/-- Recording the index writes only its own buffers. -/
theorem upd_keep (V : Valuation τ sig (Elt F)) {a : Ref sig .tc} (ha : a ∉ [main_while0b_call3_v0, main_while0b_v101]) :
    after (updOps (.of main_v16_8) (.of main_while0b_v39) (.of main_v16_6) main_while0b_call3) V (Proc.devRef .tc a) = V (Proc.devRef .tc a) :=
  Writes.keep (ops := updOps (.of main_v16_8) (.of main_while0b_v39) (.of main_v16_6) main_while0b_call3) ha rfl V

/-- Recording the validity writes only its own buffers. -/
theorem upd1_keep (V : Valuation τ sig (Elt F)) {a : Ref sig .tc} (ha : a ∉ [main_while0b_call4_v0, main_while0b_v102]) :
    after (upd1Ops (.of main_v16_9) (.of main_while0b_v95) (.of main_v16_6) main_while0b_call4) V (Proc.devRef .tc a) = V (Proc.devRef .tc a) :=
  Writes.keep (ops := upd1Ops (.of main_v16_9) (.of main_while0b_v95) (.of main_v16_6) main_while0b_call4) ha rfl V

/-- Closing the trip writes only its own buffers. -/
theorem tail2_keep (V : Valuation τ sig (Elt F)) {a : Ref sig .tc} (ha : a ∉ tailOps2_W) :
    after tailOps2 V (Proc.devRef .tc a) = V (Proc.devRef .tc a) :=
  Writes.keep (ops := tailOps2) ha rfl V

/-- The condition leaves everything but its own two buffers alone. -/
theorem cond_keep (V : Valuation τ sig (Elt F)) {a : Ref sig .tc} (ha : a ∉ condOps_W) :
    after condOps V (Proc.devRef .tc a) = V (Proc.devRef .tc a) :=
  Writes.keep (ops := condOps) ha rfl V

/-- A trip leaves alone every buffer it does not write. -/
theorem body_keep (V : Valuation τ sig (Elt F)) {a : Ref sig .tc} (h : a ∉ calls_W.flatten ++ headOps1_W ++ tailOps1_W ++ tailOps2_W) :
    afterL bodyI V (Proc.devRef .tc a) = V (Proc.devRef .tc a) := by
  simp only [List.flatten_cons, List.flatten_nil, List.mem_append, not_or, List.append_nil] at h
  obtain ⟨⟨⟨⟨h1, h2, h3, h4⟩, h5⟩, h6⟩, h7⟩ := h
  simp only [afterL_cons, afterL_nil]
  rw [tail2_keep _ h7, upd1_keep _ h4, upd_keep _ h3, where0_keep _ h2, tail1_keep _ h6, head_keep _ h5, argmax_keep _ h1]

variable (m : (ℓ : Loc nD τ sig) → Buf (Elt F) ℓ)

/-- The buffers before the `k`-th test of the loop's condition. -/
abbrev Wk (k : ℕ) (c : Dev nD) : Valuation τ sig (Elt F) := atTrip condOps bodyI (entryContents preI m) k c

/-- The kept buffers are the same at every trip. -/
theorem Wk_kept (c : Dev nD) : ∀ k, ∀ a ∈ kept, Wk m k c (Proc.devRef .tc a) = Wk m 0 c (Proc.devRef .tc a)
  | 0 => fun _ _ => rfl
  | k + 1 => fun a ha => by
    have h1 : ∀ a ∈ kept, a ∉ calls_W.flatten ++ headOps1_W ++ tailOps1_W ++ tailOps2_W := by decide
    have h2 : ∀ a ∈ kept, a ∉ condOps_W := by decide
    rw [show Wk m (k + 1) c = afterL bodyI (after condOps (Wk m k c)) from rfl, body_keep _ (h1 a ha), cond_keep _ (h2 a ha)]
    exact Wk_kept c k a ha

/-- The arguments are as at launch when the loop starts. -/
theorem entry_arg0 (c : Dev nD) : Wk m 0 c (Proc.devRef .tc main_arg0) = m ((c : Thread nD τ).loc main_arg0) := by
  simp only [Wk, atTrip_zero, entryContents, afterL_cons, afterL_nil]
  after_results

/-- The arguments are as at launch when the loop starts. -/
theorem entry_arg1 (c : Dev nD) : Wk m 0 c (Proc.devRef .tc main_arg1) = m ((c : Thread nD τ).loc main_arg1) := by
  simp only [Wk, atTrip_zero, entryContents, afterL_cons, afterL_nil]
  after_results

/-- The trip's last stretch adds one to the counter. -/
theorem ctr_tail (V : Valuation τ sig (Elt F)) :
    after tailOps2 V (Proc.devRef .tc main_v16_6) = addi (V (Proc.devRef .tc main_v16_6)) (constantI S_ 32 1#32) := by
  after_results
  rfl

/-- One trip adds one to the counter. -/
theorem ctr_step (V : Valuation τ sig (Elt F)) :
    afterL bodyI V (Proc.devRef .tc main_v16_6) = addi (V (Proc.devRef .tc main_v16_6)) (constantI S_ 32 1#32) := by
  simp only [afterL_cons, afterL_nil]
  refine Eq.trans (b := addi (after (upd1Ops (.of main_v16_9) (.of main_while0b_v95) (.of main_v16_6) main_while0b_call4)
    (after (updOps (.of main_v16_8) (.of main_while0b_v39) (.of main_v16_6) main_while0b_call3)
      (after (where0Ops (.of main_while0b_v99) (.of main_while0b_cst_33) (.of main_v16_7) main_while0b_call2)
        (after tailOps1 (after headOps1 (after (argmaxOps (.of main_v16_7) main_while0b_call1) V))))) (Proc.devRef .tc main_v16_6))
    (constantI S_ 32 1#32)) (ctr_tail _) ?_
  rw [upd1_keep _ (by decide), upd_keep _ (by decide), where0_keep _ (by decide), tail1_keep _ (by decide), head_keep _ (by decide),
    argmax_keep _ (by decide)]

/-- The counter starts at zero. -/
theorem ctr_entry (c : Dev nD) : Wk m 0 c (Proc.devRef .tc main_v16_6) = fun _ => (0#32 : BitVec 32) := by
  simp only [Wk, atTrip_zero, entryContents, afterL_cons, afterL_nil]
  after_results
  rfl

/-- Before trip `k` the counter is `k`. -/
theorem ctr_at (c : Dev nD) : ∀ k, Wk m k c (Proc.devRef .tc main_v16_6) = fun _ => Scf.iv 0#32 1#32 k
  | 0 => by rw [ctr_entry, Scf.iv_zero]
  | k + 1 => by
    rw [show Wk m (k + 1) c = afterL bodyI (after condOps (Wk m k c)) from rfl, ctr_step, cond_keep _ (by decide), ctr_at c k, Scf.iv_succ]
    rfl

-- the rules for any thread are used at the tensor core's thread
set_option backward.isDefEq.respectTransparency.types false in
/-- The condition says whether fewer than a hundred trips have run, and changes nothing else. -/
theorem cond_spec : CondSpec (pcfgs (F := F)) defs₀ loops (main_while0_cond (F := F)) condOps bodyI (entryContents preI m) 100 := by
  intro k hk c bd
  have hctr := ctr_at m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v16_6 HostLoop.idx0)
        (HloOp.result _ (Wk m k c) main_while0c_c_18 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

/-- The stretches before the loop are plain operations. -/
theorem preI_plain : Plain (preI (F := F)) := .cons mainOps1_sub (.cons (whereOps_sub ..) (.cons mainOps2_sub .nil))

/-- The stretches of a trip are plain operations. -/
theorem bodyI_plain : Plain (bodyI (F := F)) :=
  .cons (argmaxOps_sub ..) (.cons headOps1_sub (.cons tailOps1_sub (.cons (where0Ops_sub ..) (.cons (updOps_sub ..) (.cons (upd1Ops_sub ..) (.cons tailOps2_sub .nil))))))

/-- The stretches after the loop are plain operations. -/
theorem postI_plain : Plain (postI (F := F)) := .cons mainOps3_sub (.cons (where2Ops_sub ..) (.cons mainOps4_sub .nil))

/-- What the buffers hold at the end. -/
abbrev fin (c : Dev nD) : Valuation τ sig (Elt F) := finalContents condOps preI bodyI postI 100 m c

/-- The buffers the closing stretches write. -/
abbrev post_W : List (Ref sig .tc) := [main_call5_v0, main_call5_v1, main_v35] ++ mainOps3_W ++ mainOps4_W

/-- The closing stretches leave every other buffer alone. -/
theorem post_keep (V : Valuation τ sig (Elt F)) {a : Ref sig .tc} (h : a ∉ post_W) : afterL postI V (Proc.devRef .tc a) = V (Proc.devRef .tc a) := by
  simp only [post_W, List.mem_append, not_or] at h
  obtain ⟨⟨h1, h2⟩, h3⟩ := h
  simp only [afterL_cons, afterL_nil]
  rw [Writes.keep (ops := mainOps4) h3 rfl, Writes.keep (ops := where2Ops (.of main_v16_9) (.of main_v34) (.of main_cst_7) main_call5) h1 rfl,
    Writes.keep (ops := mainOps3) h2 rfl]

/-- The first argument is as at launch when the program ends. -/
theorem fin_arg0 (c : Dev nD) : fin m c (Proc.devRef .tc main_arg0) = m ((c : Thread nD τ).loc main_arg0) :=
  (post_keep _ (by decide)).trans ((cond_keep _ (by decide)).trans ((Wk_kept m c 100 _ (by decide)).trans (entry_arg0 m c)))

/-- The second argument is as at launch when the program ends. -/
theorem fin_arg1 (c : Dev nD) : fin m c (Proc.devRef .tc main_arg1) = m ((c : Thread nD τ).loc main_arg1) :=
  (post_keep _ (by decide)).trans ((cond_keep _ (by decide)).trans ((Wk_kept m c 100 _ (by decide)).trans (entry_arg1 m c)))

/-- The run of the reference: it ends, every buffer at the contents its operations give it. -/
theorem run (ρ : Dev nD → PrngReg) :
    θ_run (defs (F := F)) (onTc (τ := τ) main) ⟨m, fun _ => 0, ρ⟩
      (fun r => ∀ (c : Dev nD) (b : Ref sig .tc), (Proc.devRef .tc b : DevRef τ sig).isScoped = false →
        r.2.mem ((c.tc : Thread nD τ).loc b) = fin m c (Proc.devRef .tc b)) :=
  run_loop pcfgs defs₀ loops main 0 main_while0_cond main_while0_body rfl preI bodyI postI condOps preI_plain bodyI_plain postI_plain
    main_chain body_chain 100 m ρ (cond_spec m)

end Cert.ReferenceIdeal.Trips

end
-- ==== Proof.ArgV.lean ====
module

public import proofs.«01_k».proof.Proof.Ref
public import Idealize.ShloMosaic.Lib.Pointwise
public import Idealize.ShloMosaic.PureOps.Ideal.Laws

/-! The reference's arg-max over the extended reals: the first position of the greatest entry. -/

@[expose] public section

set_option maxRecDepth 16384

noncomputable section

namespace Cert.ReferenceIdeal.Trips

open Idealize.ShloMosaic Idealize.ShloMosaic.TcCoe
open Cert.ReferenceIdeal Cert.ReferenceIdeal.Gen

/-- What the fold holds after the positions of `P`: a value and a position, nothing seen greater, nothing seen equal and earlier. -/
structure Best (x : Fin 20000 → EReal) (P : Fin 20000 → Prop) (a : Ideal .f32 × BitVec 32) (r : ℕ) : Prop where
  lt : r < 20000
  word : a.2 = BitVec.ofNat 32 r
  val : a.1 = x ⟨r, lt⟩ ∨ (a.1 = ⊥ ∧ r = 0)
  le : ∀ i, P i → x i < a.1 ∨ (x i = a.1 ∧ r ≤ i.val)

/-- Signed comparison of small words is comparison of numbers. -/
theorem slt_small (a b : ℕ) (ha : a < 20000) (hb : b < 20000) : IntOp.cmpi .slt (BitVec.ofNat 32 a) (BitVec.ofNat 32 b) = 1#1 ↔ a < b := by
  have e : ∀ k < 20000, (BitVec.ofNat 32 k).toInt = k := fun k hk => by
    rw [BitVec.toInt_eq_toNat_cond, BitVec.toNat_ofNat]; split <;> omega
  simp only [IntOp.cmpi, BitVec.slt, e a ha, e b hb]
  by_cases h : a < b
  · have : ((a : Int) < (b : Int)) := by omega
    simp [this, h]
  · have : ¬ ((a : Int) < (b : Int)) := by omega
    simp [this, h]

/-- A bit `or` is 1 when either is. -/
theorem bit_or (a b : BitVec 1) : IntOp.ori a b = 1#1 ↔ a = 1#1 ∨ b = 1#1 := by revert a b; decide
/-- A bit `and` is 1 when both are. -/
theorem bit_and (a b : BitVec 1) : IntOp.andi a b = 1#1 ↔ a = 1#1 ∧ b = 1#1 := by revert a b; decide
/-- A truth value's bit is 1 when it is true. -/
theorem bit_ofBool (b : Bool) : BitVec.ofBool b = 1#1 ↔ b = true := by cases b <;> decide
/-- The bit of a greater-than comparison. -/
theorem bit_ogt (x y : EReal) : Ideal.cmp .ogt x y = 1#1 ↔ y < x := by simp [Ideal.cmp, bit_ofBool]
/-- The bit of a less-than comparison. -/
theorem bit_olt (x y : EReal) : Ideal.cmp .olt x y = 1#1 ↔ x < y := by simp [Ideal.cmp, bit_ofBool]
/-- The bit of an equality comparison. -/
theorem bit_oeq (x y : EReal) : Ideal.cmp .oeq x y = 1#1 ↔ x = y := by simp [Ideal.cmp, bit_ofBool]
/-- No extended real differs from itself. -/
theorem bit_une (x : EReal) : ¬ Ideal.cmp .une x x = 1#1 := by simp [Ideal.cmp, bit_ofBool]

/-- One more position. -/
theorem Best.step {x : Fin 20000 → EReal} {P : Fin 20000 → Prop} {a : Ideal .f32 × BitVec 32} {r : ℕ} (h : Best x P a r) (i : Fin 20000) :
    ∃ r', Best x (fun k => P k ∨ k = i) (reducer_argmax_f32_i32 a (x i, BitVec.ofNat 32 i.val)) r' := by
  have h4 : IntOp.ori (Ideal.cmp .ogt a.1 (x i)) (Ideal.cmp .une a.1 a.1) = 1#1 ↔ x i < a.1 := by
    rw [bit_or, bit_ogt]; exact ⟨fun h => h.resolve_right (bit_une _), .inl⟩
  have h8 : IntOp.ori (IntOp.ori (Ideal.cmp .ogt a.1 (x i)) (Ideal.cmp .une a.1 a.1))
      (IntOp.andi (Ideal.cmp .oeq a.1 (x i)) (IntOp.cmpi .slt a.2 (BitVec.ofNat 32 i.val))) = 1#1 ↔ x i < a.1 ∨ (a.1 = x i ∧ r < i.val) := by
    rw [bit_or, h4, bit_and, bit_oeq, h.word, slt_small r i.val h.lt i.isLt]
  have e : reducer_argmax_f32_i32 a (x i, BitVec.ofNat 32 i.val)
      = (Scalar.select (IntOp.ori (Ideal.cmp .ogt a.1 (x i)) (Ideal.cmp .une a.1 a.1)) a.1 (x i),
        Scalar.select (IntOp.ori (IntOp.ori (Ideal.cmp .ogt a.1 (x i)) (Ideal.cmp .une a.1 a.1))
          (IntOp.andi (Ideal.cmp .oeq a.1 (x i)) (IntOp.cmpi .slt a.2 (BitVec.ofNat 32 i.val)))) a.2 (BitVec.ofNat 32 i.val)) := rfl
  rw [e]
  rcases lt_trichotomy (x i) a.1 with hlt | heq | hgt
  · rw [show Scalar.select _ a.1 (x i) = a.1 from if_pos (h4.mpr hlt), show Scalar.select _ a.2 _ = a.2 from if_pos (h8.mpr (.inl hlt))]
    exact ⟨r, h.lt, h.word, h.val, fun k hk => hk.elim (h.le k) fun e => .inl (e ▸ hlt)⟩
  · rw [show Scalar.select _ a.1 (x i) = x i from if_neg fun h' => absurd (h4.mp h') (by rw [heq]; exact lt_irrefl _)]
    by_cases hr : r < i.val
    · rw [show Scalar.select _ a.2 _ = a.2 from if_pos (h8.mpr (.inr ⟨heq.symm, hr⟩))]
      exact ⟨r, h.lt, h.word, by rw [heq]; exact h.val, fun k hk => by
        rw [heq]
        exact hk.elim (h.le k) fun e => .inr (e ▸ ⟨heq, hr.le⟩)⟩
    · rw [show Scalar.select _ a.2 _ = BitVec.ofNat 32 i.val from if_neg fun h' => (h8.mp h').elim (fun h => by rw [heq] at h; exact lt_irrefl _ h) fun h => hr h.2]
      exact ⟨i.val, i.isLt, rfl, .inl rfl, fun k hk => by
        rcases hk with hk | rfl
        · rcases h.le k hk with h1 | ⟨h1, h2⟩
          · exact .inl (heq ▸ h1)
          · exact .inr ⟨h1.trans heq.symm, by omega⟩
        · exact .inr ⟨rfl, le_rfl⟩⟩
  · rw [show Scalar.select _ a.1 (x i) = x i from if_neg fun h' => absurd (h4.mp h') (lt_asymm hgt),
      show Scalar.select _ a.2 _ = BitVec.ofNat 32 i.val from if_neg fun h' => (h8.mp h').elim (lt_asymm hgt) fun h => hgt.ne h.1]
    exact ⟨i.val, i.isLt, rfl, .inl rfl, fun k hk => by
      rcases hk with hk | rfl
      · rcases h.le k hk with h1 | ⟨h1, _⟩
        · exact .inl (h1.trans hgt)
        · exact .inl (h1 ▸ hgt)
      · exact .inr ⟨rfl, le_rfl⟩⟩

/-- A fold over pairs of a value and its position. -/
theorem Best.fold {x : Fin 20000 → EReal} : ∀ (L : List (Ideal .f32 × BitVec 32)) {P : Fin 20000 → Prop} {a : Ideal .f32 × BitVec 32} {r : ℕ},
    Best x P a r → (∀ p ∈ L, ∃ i, p = (x i, BitVec.ofNat 32 i.val)) →
    ∃ r', Best x (fun k => P k ∨ (x k, BitVec.ofNat 32 k.val) ∈ L) (L.foldl reducer_argmax_f32_i32 a) r'
  | [], P, a, r, h, _ => ⟨r, h.lt, h.word, h.val, fun k hk => h.le k (hk.resolve_right (by simp))⟩
  | p :: L, P, a, r, h, hL => by
    obtain ⟨i, rfl⟩ := hL p List.mem_cons_self
    obtain ⟨r1, h1⟩ := h.step i
    obtain ⟨r2, h2⟩ := Best.fold L h1 fun q hq => hL q (List.mem_cons_of_mem _ hq)
    refine ⟨r2, h2.lt, h2.word, h2.val, fun k hk => h2.le k ?_⟩
    rcases hk with hk | hk
    · exact .inl (.inl hk)
    rcases List.mem_cons.mp hk with e | hk
    · refine .inl (.inr (Fin.ext ?_))
      have := congrArg (fun p : Ideal .f32 × BitVec 32 => p.2.toNat) e
      simp only [BitVec.toNat_ofNat] at this
      have := k.isLt; have := i.isLt
      omega
    · exact .inr hk

/-- The arg-max's position: the first of the greatest. -/
theorem argmax_spec (x : FVec Ideal S20000 .f32) (j : S_.Idx) :
    ∃ r : Fin 20000, (Host.argReduce reducer_argmax_f32_i32 x (iotaInDim S20000 32 0) (constant S_ .f32 0xFF800000#32) (constantI S_ 32 0#32)
        reducesTo_S20000_S_d0 h_S_ j).2 = BitVec.ofNat 32 r.val
      ∧ (∀ i, x (ix1 i) ≤ x (ix1 r)) ∧ ∀ i, i.val < r.val → x (ix1 i) < x (ix1 r) := by
  rw [Ideal.argReduce_eq_reduce2, Host.reduce2_eq_foldl_fiber]
  have hb : (constant (F := Ideal) S_ .f32 0xFF800000#32) (Shape.Idx.first h_S_) = (⊥ : EReal) := by
    show Ideal.ofBits .f32 0xFF800000#32 = ⊥
    simp [Ideal.ofBits, Ideal.ieee]
  have h0 : Best (fun i => x (ix1 i)) (fun _ => False) ((constant (F := Ideal) S_ .f32 0xFF800000#32) (Shape.Idx.first h_S_), (constantI S_ 32 0#32) (Shape.Idx.first h_S_)) 0 :=
    ⟨by omega, rfl, .inr ⟨hb, rfl⟩, fun i h => h.elim⟩
  have hix : ∀ i : S20000.Idx, (x i, iotaInDim S20000 32 0 i) = (x (ix1 (i 0)), BitVec.ofNat 32 (i 0).val) := fun i => by
    have : i = ix1 (i 0) := funext fun a => by
      match a with
      | ⟨0, _⟩ => rfl
    exact Prod.ext (congrArg x this) rfl
  obtain ⟨r, h⟩ := Best.fold (Host.argReduceFiber x (iotaInDim S20000 32 0) reducesTo_S20000_S_d0 j) h0 fun p hp => by
    unfold Host.argReduceFiber at hp
    obtain ⟨n, _, rfl⟩ := List.mem_map.mp hp
    exact ⟨_, hix _⟩
  generalize (Host.argReduceFiber x (iotaInDim S20000 32 0) reducesTo_S20000_S_d0 j).foldl reducer_argmax_f32_i32 _ = a at h
  have all : ∀ i : Fin 20000, x (ix1 i) < a.1 ∨ (x (ix1 i) = a.1 ∧ r ≤ i.val) := fun i => h.le i <| .inr <| by
    unfold Host.argReduceFiber
    refine List.mem_map.mpr ⟨S20000.rowMajor (ix1 i), List.mem_filter.mpr ⟨List.mem_finRange _, ?_⟩, ?_⟩
    · exact decide_eq_true (funext fun k => k.elim0)
    · rw [Equiv.symm_apply_apply]; rfl
  have hv : x (ix1 ⟨r, h.lt⟩) = a.1 := by
    rcases h.val with e | ⟨e, rfl⟩
    · exact e.symm
    · rcases all ⟨0, by omega⟩ with h' | h'
      · exact absurd (e ▸ h') not_lt_bot
      · exact h'.1
  refine ⟨⟨r, h.lt⟩, h.word, fun i => ?_, fun i hi => ?_⟩
  · rw [hv]; exact (all i).elim le_of_lt fun h => h.1.le
  · rw [hv]
    rcases all i with h' | h'
    · exact h'
    · exact absurd h'.2 (not_le.mpr hi)

end Cert.ReferenceIdeal.Trips

end
-- ==== Proof.Lane.lean ====
/- One lane's running best and runner-up: what the pass over the rows knows of the rows it has seen. -/
module

public import Mathlib.Data.EReal.Basic

@[expose] public section

namespace Cert.Nms.Lane

/-- Over the rows of `P`: `v` is the greatest value and `r` the first row attaining it (unless there
    is none above minus infinity), and every other row is at most `w`. -/
structure Best (T : ℕ → EReal) (P : ℕ → Prop) (v : EReal) (r : ℕ) (w : EReal) : Prop where
  le : ∀ i, P i → T i ≤ v
  at_ : v ≠ ⊥ → P r ∧ T r = v
  first : v ≠ ⊥ → ∀ i, P i → i < r → T i < v
  rest : ∀ i, P i → i ≠ r → T i ≤ w

variable {T : ℕ → EReal}

/-- Nothing seen. -/
theorem Best.empty {P : ℕ → Prop} (h : ∀ i, ¬ P i) (r : ℕ) : Best T P ⊥ r ⊥ :=
  ⟨fun i hi => (h i hi).elim, fun hv => (hv rfl).elim, fun hv => (hv rfl).elim, fun i hi => (h i hi).elim⟩

/-- The same rows named otherwise. -/
theorem Best.congr {P Q : ℕ → Prop} {v : EReal} {r : ℕ} {w : EReal} (h : Best T P v r w) (hpq : ∀ i, P i ↔ Q i) : Best T Q v r w :=
  (funext fun i => propext (hpq i) : P = Q) ▸ h

/-- A later row above the best. -/
theorem Best.step_gt {P : ℕ → Prop} {v : EReal} {r : ℕ} {w : EReal} (h : Best T P v r w) {q : ℕ} (hq : ∀ i, P i → i < q)
    (hg : v < T q) : Best T (fun i => P i ∨ i = q) (T q) q v where
  le i hi := by
    rcases hi with hi | rfl
    · exact (h.le i hi).trans hg.le
    · exact le_rfl
  at_ _ := ⟨Or.inr rfl, rfl⟩
  first _ i hi hlt := by
    rcases hi with hi | rfl
    · exact (h.le i hi).trans_lt hg
    · exact absurd hlt (lt_irrefl _)
  rest i hi hne := by
    rcases hi with hi | rfl
    · exact h.le i hi
    · exact absurd rfl hne

/-- A later row not above the best. -/
theorem Best.step_le {P : ℕ → Prop} {v : EReal} {r : ℕ} {w w' : EReal} (h : Best T P v r w) {q : ℕ} (hq : ∀ i, P i → i < q)
    (hg : T q ≤ v) (hw : w ≤ w') (hw' : T q ≤ w') : Best T (fun i => P i ∨ i = q) v r w' where
  le i hi := by
    rcases hi with hi | rfl
    · exact h.le i hi
    · exact hg
  at_ hv := ⟨Or.inl (h.at_ hv).1, (h.at_ hv).2⟩
  first hv i hi hlt := by
    rcases hi with hi | rfl
    · exact h.first hv i hi hlt
    · exact absurd (hq r (h.at_ hv).1) (by omega)
  rest i hi hne := by
    rcases hi with hi | rfl
    · exact (h.rest i hi hne).trans hw
    · exact hw'

/-- Two sets of rows, the second's best first. -/
theorem Best.merge_right {P Q : ℕ → Prop} {v v' : EReal} {r r' : ℕ} {w w' u : EReal} (h : Best T P v r w) (h' : Best T Q v' r' w')
    (hb : v < v' ∨ v' = v ∧ r' < r) (hu : v ≤ u) (hu' : w' ≤ u) : Best T (fun i => P i ∨ Q i) v' r' u where
  le i hi := by
    have hv : v ≤ v' := by rcases hb with hb | hb; exacts [hb.le, hb.1.ge]
    rcases hi with hi | hi
    · exact (h.le i hi).trans hv
    · exact h'.le i hi
  at_ hv := ⟨Or.inr (h'.at_ hv).1, (h'.at_ hv).2⟩
  first hv i hi hlt := by
    rcases hi with hi | hi
    · rcases hb with hb | ⟨rfl, hr⟩
      · exact (h.le i hi).trans_lt hb
      · exact h.first hv i hi (hlt.trans hr)
    · exact h'.first hv i hi hlt
  rest i hi hne := by
    rcases hi with hi | hi
    · exact (h.le i hi).trans hu
    · exact (h'.rest i hi hne).trans hu'

/-- Two sets of rows, the first's best first. -/
theorem Best.merge_left {P Q : ℕ → Prop} {v v' : EReal} {r r' : ℕ} {w w' u : EReal} (h : Best T P v r w) (h' : Best T Q v' r' w')
    (hb : ¬ (v < v' ∨ v' = v ∧ r' < r)) (hu : v' ≤ u) (hu' : w ≤ u) : Best T (fun i => P i ∨ Q i) v r u where
  le i hi := by
    have hv : v' ≤ v := not_lt.mp fun hb' => hb (Or.inl hb')
    rcases hi with hi | hi
    · exact h.le i hi
    · exact (h'.le i hi).trans hv
  at_ hv := ⟨Or.inl (h.at_ hv).1, (h.at_ hv).2⟩
  first hv i hi hlt := by
    rcases hi with hi | hi
    · exact h.first hv i hi hlt
    · rcases lt_or_eq_of_le (not_lt.mp fun hb' => hb (Or.inl hb') : v' ≤ v) with hl | rfl
      · exact (h'.le i hi).trans_lt hl
      · exact h'.first hv i hi (hlt.trans_le (not_lt.mp fun hr => hb (Or.inr ⟨rfl, hr⟩)))
  rest i hi hne := by
    rcases hi with hi | hi
    · exact (h.rest i hi hne).trans hu'
    · exact (h'.le i hi).trans hu

end Cert.Nms.Lane
-- ==== Proof.PassV.lean ====
/- What one pass leaves, over the extended reals, entry by entry: the scores once the waiting boxes have
   suppressed, and of each lane its best. -/
module

public import proofs.«01_k».proof.Proof.Fun
public import proofs.«01_k».proof.Proof.Lane
public import Idealize.ShloMosaic.Lib.Pointwise
public import Idealize.ShloMosaic.Lib.KernelVsHost
public import Idealize.ShloMosaic.PureOps.Ideal

@[expose] public section

set_option maxRecDepth 16384

noncomputable section

namespace Cert.Nms

open Idealize.ShloMosaic
open Cert.KernelIdeal Cert.KernelIdeal.Gen

/-- The suppression's small addend. -/
abbrev eps : EReal := Ideal.ofBits .f32 0x3089705F#32
/-- The suppression's threshold. -/
abbrev half : EReal := Ideal.ofBits .f32 0x3F000000#32

/-- The overlap ratio of a box of area `a` with another. -/
def iouE (x1 y1 x2 y2 a b1 b2 b3 b4 : EReal) : EReal :=
  Ideal.div (max (min x2 b3 - max x1 b1) 0 * max (min y2 b4 - max y1 b2) 0)
    (a + (b3 - b1) * (b4 - b2) - max (min x2 b3 - max x1 b1) 0 * max (min y2 b4 - max y1 b2) 0 + eps)

/-- The one index of a single entry. -/
abbrev z1 : S1x1.Idx := ix2 0 0

/-- The kernel's −∞. -/
theorem ninf_eq : ninf Ideal = (⊥ : EReal) := by
  show Ideal.ofBits .f32 0xFF800000#32 = ⊥
  simp [Ideal.ofBits, Ideal.ieee]
/-- The kernel's zero. -/
theorem zf_eq : zf Ideal = (0 : EReal) := by
  show Ideal.ofBits .f32 0x00000000#32 = 0
  simp [Ideal.ofBits, Ideal.ieee]

/-- A one-entry array has one index. -/
theorem idx1 (i : S1x1.Idx) : i = z1 := by
  funext a
  match a with
  | ⟨0, _⟩ => exact Subsingleton.elim (α := Fin 1) _ _
  | ⟨1, _⟩ => exact Subsingleton.elim (α := Fin 1) _ _

/-- A waiting box suppresses a box. -/
def Pend.Hits (p : Pend Ideal) (x1 y1 x2 y2 a : EReal) : Prop :=
  half < iouE x1 y1 x2 y2 a (p.x1 z1) (p.y1 z1) (p.x2 z1) (p.y2 z1) ∧ p.v z1 ≠ ⊥

/-- A truth value's bit is 1 when it is true. -/
theorem ofBool_one (b : Bool) : BitVec.ofBool b = 1#1 ↔ b = true := by cases b <;> decide

/-- The bit of a not-equal comparison. -/
theorem cmp_one_iff (x y : EReal) : Ideal.cmp .one x y = 1#1 ↔ x ≠ y := by
  simp [Ideal.cmp, ofBool_one]
/-- The bit of a greater-than comparison. -/
theorem cmp_ogt_iff (x y : EReal) : Ideal.cmp .ogt x y = 1#1 ↔ y < x := by
  simp [Ideal.cmp, ofBool_one]
/-- The bit of a less-than comparison. -/
theorem cmp_olt_iff (x y : EReal) : Ideal.cmp .olt x y = 1#1 ↔ x < y := by
  simp [Ideal.cmp, ofBool_one]
/-- The bit of an equality comparison. -/
theorem cmp_oeq_iff (x y : EReal) : Ideal.cmp .oeq x y = 1#1 ↔ x = y := by
  simp [Ideal.cmp, ofBool_one]
/-- A bit `and` is 1 when both are. -/
theorem and_iff (a b : BitVec 1) : a &&& b = 1#1 ↔ a = 1#1 ∧ b = 1#1 := by revert a b; decide
/-- A bit `or` is 1 when either is. -/
theorem or_iff (a b : BitVec 1) : a ||| b = 1#1 ↔ a = 1#1 ∨ b = 1#1 := by revert a b; decide
/-- A bit's complement is 1 when the bit is not. -/
theorem not_iff (a : BitVec 1) : a ^^^ 1#1 = 1#1 ↔ ¬ a = 1#1 := by revert a; decide

/-- A selection whose bit is 1. -/
theorem sel_pos {α : Type} {c : BitVec 1} {x y : α} (h : c = 1#1) : Scalar.select c x y = x := if_pos h
/-- A selection whose bit is not 1. -/
theorem sel_neg {α : Type} {c : BitVec 1} {x y : α} (h : ¬ c = 1#1) : Scalar.select c x y = y := if_neg h

/-- A single entry spread over a shape. -/
theorem bto_apply {α : Type} {t : Shape} (x : S1x1.Idx → α) (h : S1x1.Broadcasts t) (j : t.Idx) : broadcastTo t x h j = x z1 := by
  unfold broadcastTo
  exact congrArg x (idx1 _)

/-- A waiting box suppresses an entry when it hits it. -/
theorem supBy_apply (X1 Y1 X2 Y2 A : FVec Ideal S8x128 .f32) (p : Pend Ideal) (j : S8x128.Idx) :
    supBy X1 Y1 X2 Y2 A p j = 1#1 ↔ p.Hits (X1 j) (Y1 j) (X2 j) (Y2 j) (A j) := by
  have e : supBy X1 Y1 X2 Y2 A p j
      = Ideal.cmp .ogt (iouE (X1 j) (Y1 j) (X2 j) (Y2 j) (A j) (p.x1 z1) (p.y1 z1) (p.x2 z1) (p.y2 z1)) half
        &&& Ideal.cmp .one (p.v z1) ⊥ := by
    unfold supBy iouE
    simp only [andi, cmpf, divf, mulf, maximumf, subf, minimumf, addf, broadcast, bto_apply, Pend.area, Pend.valid, zf_eq, ninf_eq]
    rfl
  rw [e, and_iff, cmp_ogt_iff, cmp_one_iff]
  rfl

/-- The scores after suppression, at an entry. -/
theorem blockNew_apply (X1 Y1 X2 Y2 A W : FVec Ideal S8x128 .f32) (p1 p2 p3 p4 : Pend Ideal) (j : S8x128.Idx) :
    blockNew X1 Y1 X2 Y2 A W p1 p2 p3 p4 j
      = (open Classical in if (∃ p, (p = p1 ∨ p = p2 ∨ p = p3 ∨ p = p4) ∧ p.Hits (X1 j) (Y1 j) (X2 j) (Y2 j) (A j)) then (⊥ : EReal) else W j) := by
  unfold blockNew
  have e : (ori (ori (ori (supBy X1 Y1 X2 Y2 A p1) (supBy X1 Y1 X2 Y2 A p2)) (supBy X1 Y1 X2 Y2 A p3)) (supBy X1 Y1 X2 Y2 A p4)) j
      = ((supBy X1 Y1 X2 Y2 A p1 j ||| supBy X1 Y1 X2 Y2 A p2 j) ||| supBy X1 Y1 X2 Y2 A p3 j) ||| supBy X1 Y1 X2 Y2 A p4 j := rfl
  have h : ((ori (ori (ori (supBy X1 Y1 X2 Y2 A p1) (supBy X1 Y1 X2 Y2 A p2)) (supBy X1 Y1 X2 Y2 A p3)) (supBy X1 Y1 X2 Y2 A p4)) j = 1#1)
      ↔ (∃ p, (p = p1 ∨ p = p2 ∨ p = p3 ∨ p = p4) ∧ p.Hits (X1 j) (Y1 j) (X2 j) (Y2 j) (A j)) := by
    rw [e, or_iff, or_iff, or_iff]
    simp only [supBy_apply]
    constructor
    · rintro (((h | h) | h) | h)
      exacts [⟨_, Or.inl rfl, h⟩, ⟨_, Or.inr (Or.inl rfl), h⟩, ⟨_, Or.inr (Or.inr (Or.inl rfl)), h⟩, ⟨_, Or.inr (Or.inr (Or.inr rfl)), h⟩]
    · rintro ⟨p, rfl | rfl | rfl | rfl, h⟩
      exacts [Or.inl (Or.inl (Or.inl h)), Or.inl (Or.inl (Or.inr h)), Or.inl (Or.inr h), Or.inr h]
  rw [← ninf_eq]
  by_cases hh : (∃ p, (p = p1 ∨ p = p2 ∨ p = p3 ∨ p = p4) ∧ p.Hits (X1 j) (Y1 j) (X2 j) (Y2 j) (A j))
  · rw [if_pos hh]; exact sel_pos (h.mpr hh)
  · rw [if_neg hh]; exact sel_neg (fun h' => hh (h.mp h'))

/-! ### The whole pass -/

/-- A lane of an array, by its row. -/
def lane (W : FVec Ideal S160x128 .f32) (l : Fin 128) (r : ℕ) : EReal := if h : r < 160 then W (ix2 ⟨r, h⟩ l) else ⊥

/-- A lane's value at a row of the array. -/
theorem lane_val (W : FVec Ideal S160x128 .f32) (l : Fin 128) (r : ℕ) (h : r < 160) : lane W l r = W (ix2 ⟨r, h⟩ l) := dif_pos h

open Classical in
/-- The scores once the waiting boxes have suppressed. -/
def supW (A : Boxes Ideal) (s : Carry Ideal) (W : FVec Ideal S160x128 .f32) : FVec Ideal S160x128 .f32 := fun i =>
  if (∃ p, (p = s.p1 ∨ p = s.p2 ∨ p = s.p3 ∨ p = s.p4) ∧ p.Hits (A.x1 i) (A.y1 i) (A.x2 i) (A.y2 i) (A.ar i)) then (⊥ : EReal) else W i

/-- The same above block `v`, the scores as they were from there on. -/
def mix (A : Boxes Ideal) (s : Carry Ideal) (W : FVec Ideal S160x128 .f32) (v : ℕ) : FVec Ideal S160x128 .f32 := fun i =>
  if (i 0).val < 8 * v then supW A s W i else W i

/-- An entry of a block. -/
theorem win_apply (v : ℕ) (h : v < 20) (X : FVec Ideal S160x128 .f32) (q : Fin 8) (l : Fin 128) :
    win v h X (ix2 q l) = X (ix2 ⟨8 * v + q.val, by omega⟩ l) := by
  unfold win VecWindow.window
  refine congrArg X (funext fun a => Fin.ext ?_)
  match a with
  | ⟨0, _⟩ => show 8 * v + 1 * q.val = 8 * v + q.val; omega
  | ⟨1, _⟩ => show 0 + 1 * l.val = l.val; omega

/-- A reshape to the same shape changes nothing. -/
theorem sc_eq (x : FVec Ideal S8x128 .f32) : sc x = x := shapeCast_self x _

/-- The same with the cast. -/
theorem sc_win (v : ℕ) (h : v < 20) (X : FVec Ideal S160x128 .f32) (q : Fin 8) (l : Fin 128) :
    sc (win v h X) (ix2 q l) = X (ix2 ⟨8 * v + q.val, by omega⟩ l) := by rw [sc_eq, win_apply]

/-- A block's new scores, entry by entry. -/
theorem newB_apply (A : Boxes Ideal) (s : Carry Ideal) (W : FVec Ideal S160x128 .f32) (v : ℕ) (h : v < 20) (q : Fin 8) (l : Fin 128) :
    newB A s v h (mix A s W v) (ix2 q l) = supW A s W (ix2 ⟨8 * v + q.val, by omega⟩ l) := by
  unfold newB
  rw [blockNew_apply, sc_win v h A.x1, sc_win v h A.y1, sc_win v h A.x2, sc_win v h A.y2, win_apply v h A.ar, win_apply v h (mix A s W v)]
  unfold supW mix
  rw [if_neg (show ¬ ((ix2 (⟨8 * v + q.val, by omega⟩ : Fin 160) l : S160x128.Idx) 0).val < 8 * v from by
    show ¬ (8 * v + q.val < 8 * v); omega)]

/-- Writing a block's new scores extends the rows already suppressed by that block. -/
theorem putB_mix (A : Boxes Ideal) (s : Carry Ideal) (W : FVec Ideal S160x128 .f32) (v : ℕ) (h : v < 20) :
    putB v (mix A s W v) (sc (newB A s v h (mix A s W v))) = mix A s W (v + 1) := by
  funext i
  rw [sc_eq]
  unfold putB VecWindow.put
  have e0 : (i 0).val < 160 := (i 0).isLt
  have e1 : (i 1).val < 128 := (i 1).isLt
  split
  · next hi =>
    have hi0 : 8 * v ≤ (i 0).val ∧ (i 0).val < 8 * v + 8 := hi 0
    have ej : (Rect.unitLocal (s := S160x128) (off := ![8 * v, 0]) (size := S8x128.size) i hi : S8x128.Idx)
        = ix2 (⟨(i 0).val - 8 * v, by omega⟩ : Fin 8) (⟨(i 1).val, e1⟩ : Fin 128) := by
      funext a
      match a with
      | ⟨0, _⟩ => rfl
      | ⟨1, _⟩ => exact Fin.ext (by show (i 1).val - 0 = (i 1).val; omega)
    rw [ej, newB_apply]
    have ei : (ix2 (⟨8 * v + ((i 0).val - 8 * v), by omega⟩ : Fin 160) (⟨(i 1).val, e1⟩ : Fin 128) : S160x128.Idx) = i := by
      funext a
      match a with
      | ⟨0, _⟩ => exact Fin.ext (by show 8 * v + ((i 0).val - 8 * v) = (i 0).val; omega)
      | ⟨1, _⟩ => rfl
    rw [ei]
    unfold mix
    rw [if_pos (by omega)]
  · next hi =>
    have hn : ¬ (8 * v ≤ (i 0).val ∧ (i 0).val < 8 * v + 8) := fun hh => hi fun a => by
      match a with
      | ⟨0, _⟩ => exact hh
      | ⟨1, _⟩ => exact ⟨Nat.zero_le _, by show (i 1).val < 0 + 128; omega⟩
    unfold mix
    by_cases hl : (i 0).val < 8 * v
    · rw [if_pos hl, if_pos (by omega)]
    · rw [if_neg hl, if_neg (by omega)]

/-- What an accumulator entry says of the rows `P` of its lane. -/
structure AccAt (A : Boxes Ideal) (T : FVec Ideal S160x128 .f32) (a : Acc Ideal) (q : Fin 8) (l : Fin 128) (P : ℕ → Prop) : Prop where
  best : Lane.Best (lane T l) P (a.v (ix2 q l)) (a.r (ix2 q l)).toNat (a.v2 (ix2 q l))
  rlt : (a.r (ix2 q l)).toNat < 160
  r2lt : (a.r2 (ix2 q l)).toNat < 160
  x1 : a.v (ix2 q l) ≠ ⊥ → a.x1 (ix2 q l) = lane A.x1 l (a.r (ix2 q l)).toNat
  y1 : a.v (ix2 q l) ≠ ⊥ → a.y1 (ix2 q l) = lane A.y1 l (a.r (ix2 q l)).toNat
  x2 : a.v (ix2 q l) ≠ ⊥ → a.x2 (ix2 q l) = lane A.x2 l (a.r (ix2 q l)).toNat
  y2 : a.v (ix2 q l) ≠ ⊥ → a.y2 (ix2 q l) = lane A.y2 l (a.r (ix2 q l)).toNat

/-- What an accumulator knows depends on the rows seen only. -/
theorem AccAt.congr {A : Boxes Ideal} {T : FVec Ideal S160x128 .f32} {a : Acc Ideal} {q : Fin 8} {l : Fin 128} {P Q : ℕ → Prop}
    (h : AccAt A T a q l P) (hpq : ∀ i, P i ↔ Q i) : AccAt A T a q l Q :=
  (funext fun i => propext (hpq i) : P = Q) ▸ h

/-- Before the first block nothing is known. -/
theorem AccAt.init (A : Boxes Ideal) (T : FVec Ideal S160x128 .f32) (q : Fin 8) (l : Fin 128) (P : ℕ → Prop) (hP : ∀ i, ¬ P i) :
    AccAt A T Acc.init q l P := by
  have hv : (Acc.init (F := Ideal)).v (ix2 q l) = (⊥ : EReal) := ninf_eq
  have hv2 : (Acc.init (F := Ideal)).v2 (ix2 q l) = (⊥ : EReal) := ninf_eq
  refine ⟨?_, show (0#32 : BitVec 32).toNat < 160 by decide, show (0#32 : BitVec 32).toNat < 160 by decide, fun h => (h hv).elim, fun h => (h hv).elim, fun h => (h hv).elim, fun h => (h hv).elim⟩
  rw [hv, hv2]
  exact Lane.Best.empty hP _

/-- The rows of the blocks above block `v` in sublane `q`. -/
def above (v : ℕ) (q : Fin 8) (i : ℕ) : Prop := i < 8 * v ∧ i % 8 = q.val

/-- One block more is known after its step. -/
theorem step_at {A : Boxes Ideal} {s : Carry Ideal} {W : FVec Ideal S160x128 .f32} {v : ℕ} (h : v < 20) {a : Acc Ideal} {q : Fin 8} {l : Fin 128}
    (v24 : IVec S8x128 32) (hv24 : v24 (ix2 q l) = BitVec.ofNat 32 q.val)
    (ha : AccAt A (supW A s W) a q l (above v q)) :
    AccAt A (supW A s W) (accB A v24 v h (newB A s v h (mix A s W v)) a) q l (above (v + 1) q) := by
  have hT : newB A s v h (mix A s W v) (ix2 q l) = lane (supW A s W) l (8 * v + q.val) := by
    rw [newB_apply, lane_val]
  have hrow : (addi v24 (broadcast S8x128 (BitVec.ofNat 32 (8 * v))) (ix2 q l)) = BitVec.ofNat 32 (8 * v + q.val) := by
    show v24 (ix2 q l) + BitVec.ofNat 32 (8 * v) = _
    rw [hv24]
    apply BitVec.eq_of_toNat_eq
    rw [BitVec.toNat_add, BitVec.toNat_ofNat, BitVec.toNat_ofNat, BitVec.toNat_ofNat]
    omega
  have hq : ∀ i, above v q i → i < 8 * v + q.val := fun i hi => by unfold above at hi; omega
  have hcov : ∀ i, (above v q i ∨ i = 8 * v + q.val) ↔ above (v + 1) q i := fun i => by unfold above; omega
  have hN : (BitVec.ofNat 32 (8 * v + q.val)).toNat = 8 * v + q.val := by rw [BitVec.toNat_ofNat]; omega
  have hlt : 8 * v + q.val < 160 := by omega
  refine AccAt.congr ?_ hcov
  by_cases hg : a.v (ix2 q l) < newB A s v h (mix A s W v) (ix2 q l)
  · have hc : cmpf .ogt (newB A s v h (mix A s W v)) a.v (ix2 q l) = 1#1 := (cmp_ogt_iff _ _).mpr hg
    have ev : (accB A v24 v h (newB A s v h (mix A s W v)) a).v (ix2 q l) = lane (supW A s W) l (8 * v + q.val) := (sel_pos hc).trans hT
    have er : (accB A v24 v h (newB A s v h (mix A s W v)) a).r (ix2 q l) = BitVec.ofNat 32 (8 * v + q.val) := (sel_pos hc).trans hrow
    have ev2 : (accB A v24 v h (newB A s v h (mix A s W v)) a).v2 (ix2 q l) = a.v (ix2 q l) := sel_pos hc
    have er2 : (accB A v24 v h (newB A s v h (mix A s W v)) a).r2 (ix2 q l) = a.r (ix2 q l) := sel_pos hc
    have hw : ∀ X : FVec Ideal S160x128 .f32, sc (win v h X) (ix2 q l) = lane X l (8 * v + q.val) := fun X => by
      rw [sc_eq, win_apply, lane_val]
    refine ⟨?_, ?_, ?_, fun _ => ?_, fun _ => ?_, fun _ => ?_, fun _ => ?_⟩
    · rw [ev, er, ev2, hN]
      exact ha.best.step_gt hq (hT ▸ hg)
    · rw [er, hN]; exact hlt
    · rw [er2]; exact ha.rlt
    · rw [er, hN]; exact (sel_pos hc).trans (hw _)
    · rw [er, hN]; exact (sel_pos hc).trans (hw _)
    · rw [er, hN]; exact (sel_pos hc).trans (hw _)
    · rw [er, hN]; exact (sel_pos hc).trans (hw _)
  · have hc : ¬ cmpf .ogt (newB A s v h (mix A s W v)) a.v (ix2 q l) = 1#1 := fun h' => hg ((cmp_ogt_iff _ _).mp h')
    have ev : (accB A v24 v h (newB A s v h (mix A s W v)) a).v (ix2 q l) = a.v (ix2 q l) := sel_neg hc
    have er : (accB A v24 v h (newB A s v h (mix A s W v)) a).r (ix2 q l) = a.r (ix2 q l) := sel_neg hc
    have hT' : lane (supW A s W) l (8 * v + q.val) ≤ a.v (ix2 q l) := hT ▸ not_lt.mp hg
    have hv2 : (accB A v24 v h (newB A s v h (mix A s W v)) a).v2 (ix2 q l) = max (a.v2 (ix2 q l)) (lane (supW A s W) l (8 * v + q.val)) := by
      refine (sel_neg hc).trans ?_
      by_cases hg2 : a.v2 (ix2 q l) < newB A s v h (mix A s W v) (ix2 q l)
      · refine (sel_pos ((and_iff _ _).mpr ⟨(not_iff _).mpr hc, (cmp_ogt_iff _ _).mpr hg2⟩)).trans ?_
        rw [hT] at hg2 ⊢
        exact (max_eq_right hg2.le).symm
      · refine (sel_neg fun h' => hg2 ((cmp_ogt_iff _ _).mp ((and_iff _ _).mp h').2)).trans ?_
        rw [hT] at hg2
        exact (max_eq_left (not_lt.mp hg2)).symm
    have hr2 : ((accB A v24 v h (newB A s v h (mix A s W v)) a).r2 (ix2 q l)).toNat < 160 := by
      have e : (accB A v24 v h (newB A s v h (mix A s W v)) a).r2 (ix2 q l) = _ := sel_neg hc
      rw [e]
      show (Scalar.select _ _ _ : BitVec 32).toNat < 160
      unfold Scalar.select
      split
      · rw [hrow, hN]; exact hlt
      · exact ha.r2lt
    refine ⟨?_, by rw [er]; exact ha.rlt, hr2, fun hv => ?_, fun hv => ?_, fun hv => ?_, fun hv => ?_⟩
    · rw [ev, er, hv2]
      exact ha.best.step_le hq hT' (le_max_left _ _) (le_max_right _ _)
    · rw [er]; rw [ev] at hv; exact (sel_neg hc).trans (ha.x1 hv)
    · rw [er]; rw [ev] at hv; exact (sel_neg hc).trans (ha.y1 hv)
    · rw [er]; rw [ev] at hv; exact (sel_neg hc).trans (ha.x2 hv)
    · rw [er]; rw [ev] at hv; exact (sel_neg hc).trans (ha.y2 hv)

/-- Several blocks. -/
theorem blocksF_spec {A : Boxes Ideal} {s : Carry Ideal} {W : FVec Ideal S160x128 .f32} (v24 : IVec S8x128 32)
    (hv24 : ∀ q l, v24 (ix2 q l) = BitVec.ofNat 32 q.val) :
    ∀ (k v : ℕ) (h : v + k ≤ 20) (a : Acc Ideal), (∀ q l, AccAt A (supW A s W) a q l (above v q)) →
      (blocksF A v24 s k v h (mix A s W v) a).1 = mix A s W (v + k)
        ∧ ∀ q l, AccAt A (supW A s W) (blocksF A v24 s k v h (mix A s W v) a).2 q l (above (v + k) q)
  | 0, v, h, a, ha => ⟨rfl, ha⟩
  | k + 1, v, h, a, ha => by
    rw [blocksF, putB_mix, show v + (k + 1) = v + 1 + k from by omega]
    exact blocksF_spec v24 hv24 k (v + 1) (by omega) (accB A v24 v (by omega) (newB A s v (by omega) (mix A s W v)) a)
      fun q l => step_at (by omega) v24 (hv24 q l) (ha q l)

/-- The whole pass. -/
theorem pass_spec (A : Boxes Ideal) (v24 : IVec S8x128 32) (hv24 : ∀ q l, v24 (ix2 q l) = BitVec.ofNat 32 q.val) (m : Mem Ideal) :
    (pass A v24 m).1 = supW A m.s m.w
      ∧ ∀ q l, AccAt A (supW A m.s m.w) (pass A v24 m).2 q l (above 20 q) := by
  have h0 : mix A m.s m.w 0 = m.w := funext fun i => if_neg (by omega)
  have h20 : mix A m.s m.w (0 + 20) = supW A m.s m.w := funext fun i => if_pos (by have : (i 0).val < 160 := (i 0).isLt; omega)
  have := blocksF_spec (A := A) (s := m.s) (W := m.w) v24 hv24 20 0 (by omega) Acc.init
    fun q l => AccAt.init A _ q l _ fun i hi => by unfold above at hi; omega
  rw [h0, h20] at this
  exact this

end Cert.Nms

end
-- ==== Proof.TripV.lean ====
module

public import proofs.«01_k».proof.Proof.ArgV
public import proofs.«01_k».proof.Proof.PassV
public import Idealize.ShloMosaic.Lib.Pointwise
public import Idealize.ShloMosaic.PureOps.Ideal.Laws

/-! One trip of the reference over the extended reals. -/

@[expose] public section

set_option maxRecDepth 16384

noncomputable section

namespace Cert.ReferenceIdeal.Trips

open Idealize.ShloMosaic Idealize.ShloMosaic.TcCoe
open Cert.ReferenceIdeal Cert.ReferenceIdeal.Gen
open Idealize.ShloMosaic.StableHlo

/-- A position below the extent is not wrapped. -/
theorem wrap (r : ℕ) (hr : r < 20000) :
    Scalar.select (IntOp.cmpi .slt (BitVec.ofNat 32 r) 0#32) (IntOp.addi (BitVec.ofNat 32 r) 20000#32) (BitVec.ofNat 32 r) = BitVec.ofNat 32 r :=
  if_neg fun h => absurd ((slt_small r 0 hr (by omega)).mp h) (by omega)

/-- A small word as a signed number. -/
theorem toInt_small (r : ℕ) (hr : r < 20000) : (BitVec.ofNat 32 r).toInt = r := by
  rw [BitVec.toInt_eq_toNat_cond, BitVec.toNat_ofNat]; split <;> omega

variable (V : Valuation τ sig (Elt Ideal)) (r : Fin 20000)

/-- The carried corners, areas and scores, and the best's score, as numbers. -/
abbrev X1 (i : Fin 20000) : EReal := V (Proc.devRef .tc main_v16_1) (ix1 i)
/-- Upper edges. -/
abbrev Y1 (i : Fin 20000) : EReal := V (Proc.devRef .tc main_v16_2) (ix1 i)
/-- Right edges. -/
abbrev X2 (i : Fin 20000) : EReal := V (Proc.devRef .tc main_v16_3) (ix1 i)
/-- Lower edges. -/
abbrev Y2 (i : Fin 20000) : EReal := V (Proc.devRef .tc main_v16_4) (ix1 i)
/-- Areas. -/
abbrev AR (i : Fin 20000) : EReal := V (Proc.devRef .tc main_v16_5) (ix1 i)
/-- Scores. -/
abbrev Sc (i : Fin 20000) : EReal := V (Proc.devRef .tc main_v16_7) (ix1 i)
/-- Intersections. -/
abbrev N75 (i : Fin 20000) : EReal := V (Proc.devRef .tc main_while0b_v75) (ix1 i)
/-- The best box's area. -/
abbrev N87 (i : Fin 20000) : EReal := V (Proc.devRef .tc main_while0b_v87) (ix1 i)
/-- The best score. -/
abbrev N44 : EReal := V (Proc.devRef .tc main_while0b_v44) ix0

/-- The position of the best score, corrected when negative. -/
theorem v42_at (h : V (Proc.devRef .tc main_while0b_v39) = fun _ => BitVec.ofNat 32 r.val) (j : S_.Idx) :
    upto headOps1 V 5 (Proc.devRef .tc main_while0b_v42) j = BitVec.ofNat 32 r.val := by
  after_reads_simp
  rw [h]
  exact wrap r.val r.isLt

/-- The position of the best box, corrected when negative. -/
theorem v47_at (h : V (Proc.devRef .tc main_while0b_v39) = fun _ => BitVec.ofNat 32 r.val) (j : S_.Idx) :
    upto headOps1 V 20 (Proc.devRef .tc main_while0b_v47) j = BitVec.ofNat 32 r.val := by
  after_reads_simp
  rw [h]
  exact wrap r.val r.isLt

/-- The first column of the best box. -/
theorem v50_at (j : S_.Idx) : upto headOps1 V 20 (Proc.devRef .tc main_while0b_v50) j = 0#32 := by
  after_reads_simp
  rfl

/-- The start of the best score's slice is a word. -/
theorem bestT (k : Fin 1) : ((![main_while0b_v42] : Fin 1 → Ref sig .tc) k).ty = ⟨S_, .i32⟩ := by
  match k with
  | ⟨0, _⟩ => rfl

/-- Where the best score is read. -/
abbrev bestStart : Fin 1 → Int := fun k => BitVec.toInt ((cast (congrArg (fun U : BufTy => U.Contents (Elt Ideal)) (bestT k))
  (upto headOps1 V 5 (Proc.devRef .tc ((![main_while0b_v42] : Fin 1 → Ref sig .tc) k))) : IVec S_ 32) (Shape.Idx.first h_S_))

/-- Where the best score is read. -/
theorem startB (h : V (Proc.devRef .tc main_while0b_v39) = fun _ => BitVec.ofNat 32 r.val) :
    Host.clampedStart S20000 S1 rfl (bestStart V) 0 = r.val := by
  refine Host.clampedStart_of_le (s := S20000) (t := S1) rfl _ 0 r.val ?_ (by show r.val + 1 ≤ 20000; omega)
  exact (congrArg BitVec.toInt (v42_at V r h _)).trans (toInt_small r.val r.isLt)

/-- The best score. -/
theorem v44_at (h : V (Proc.devRef .tc main_while0b_v39) = fun _ => BitVec.ofNat 32 r.val) (j : S_.Idx) :
    after headOps1 V (Proc.devRef .tc main_while0b_v44) j = Sc V r := by
  have e0 := startB V r h
  after_reads_at
  simp only [e0]

/-- The starts of the best box's slice are words. -/
theorem boxT (k : Fin 2) : ((![main_while0b_v47, main_while0b_v50] : Fin 2 → Ref sig .tc) k).ty = ⟨S_, .i32⟩ := by
  match k with
  | ⟨0, _⟩ => rfl
  | ⟨1, _⟩ => rfl

/-- Where the best box is read. -/
abbrev boxStart : Fin 2 → Int := fun k => BitVec.toInt ((cast (congrArg (fun U : BufTy => U.Contents (Elt Ideal)) (boxT k))
  (upto headOps1 V 20 (Proc.devRef .tc ((![main_while0b_v47, main_while0b_v50] : Fin 2 → Ref sig .tc) k))) : IVec S_ 32) (Shape.Idx.first h_S_))

/-- The row where the best box is read. -/
theorem start0 (h : V (Proc.devRef .tc main_while0b_v39) = fun _ => BitVec.ofNat 32 r.val) :
    Host.clampedStart S20000x4 S1x4 rfl (boxStart V) 0 = r.val := by
  refine Host.clampedStart_of_le (s := S20000x4) (t := S1x4) rfl _ 0 r.val ?_ (by show r.val + 1 ≤ 20000; omega)
  exact (congrArg BitVec.toInt (v47_at V r h _)).trans (toInt_small r.val r.isLt)

/-- The column where the best box is read. -/
theorem start1 : Host.clampedStart S20000x4 S1x4 rfl (boxStart V) 1 = 0 := by
  refine Host.clampedStart_of_le (s := S20000x4) (t := S1x4) rfl _ 1 0 ?_ (by decide)
  exact congrArg BitVec.toInt (v50_at V _)

/-- The best box's corners. -/
abbrev B (k : Fin 4) : EReal := V (Proc.devRef .tc main_v16_0) (ix2 r k)

/-- The best box's area. -/
theorem v87_at (h : V (Proc.devRef .tc main_while0b_v39) = fun _ => BitVec.ofNat 32 r.val) (i : Fin 20000) :
    after headOps1 V (Proc.devRef .tc main_while0b_v87) (ix1 i) = ((B V r 2 - B V r 0) * (B V r 3 - B V r 1) : EReal) := by
  have e0 := start0 V r h
  have e1 := start1 V
  after_reads_at
  simp only [e0, e1]
  rfl

/-- The best box's overlap with each. -/
theorem v75_at (h : V (Proc.devRef .tc main_while0b_v39) = fun _ => BitVec.ofNat 32 r.val) (i : Fin 20000) :
    after headOps1 V (Proc.devRef .tc main_while0b_v75) (ix1 i)
      = (max (min (X2 V i) (B V r 2) - max (X1 V i) (B V r 0)) 0 * max (min (Y2 V i) (B V r 3) - max (Y1 V i) (B V r 1)) 0 : EReal) := by
  have e0 := start0 V r h
  have e1 := start1 V
  have ez : Ideal.ofBits .f32 0x00000000#32 = (0 : EReal) := Cert.Nms.zf_eq
  after_reads_at
  simp only [e0, e1, ez]
  rfl

/-- Whether the best is a score at all. -/
theorem v95_at : after tailOps1 V (Proc.devRef .tc main_while0b_v95) ix0 = 1#1
    ↔ ⊥ < N44 V ∧ N44 V < ⊤ := by
  have eb : Ideal.ofBits .f32 0xFF800000#32 = (⊥ : EReal) := Cert.Nms.ninf_eq
  have et : Ideal.ofBits .f32 0x7F800000#32 = (⊤ : EReal) := by simp [Ideal.ofBits, Ideal.ieee]
  after_reads_at
  rw [bit_and, bit_ofBool, bit_ofBool, decide_eq_true_iff, decide_eq_true_iff]
  simp only [eb, et]

/-- What is suppressed. -/
theorem v99_at (i : Fin 20000) : after tailOps1 V (Proc.devRef .tc main_while0b_v99) (ix1 i) = 1#1
    ↔ Cert.Nms.half < Ideal.div (N75 V i) (AR V i + N87 V i - N75 V i + Cert.Nms.eps)
      ∧ ⊥ < N44 V ∧ N44 V < ⊤ := by
  have eb : Ideal.ofBits .f32 0xFF800000#32 = (⊥ : EReal) := Cert.Nms.ninf_eq
  have et : Ideal.ofBits .f32 0x7F800000#32 = (⊤ : EReal) := by simp [Ideal.ofBits, Ideal.ieee]
  after_reads_at
  rw [bit_and, bit_and, bit_ofBool, bit_ofBool, bit_ofBool, decide_eq_true_iff, decide_eq_true_iff, decide_eq_true_iff]
  simp only [eb, et]

/-- The score of a suppressed box. -/
theorem cst33_at (j : S_.Idx) : after tailOps1 V (Proc.devRef .tc main_while0b_cst_33) j = (⊥ : EReal) := by
  have eb : Ideal.ofBits .f32 0xFF800000#32 = (⊥ : EReal) := Cert.Nms.ninf_eq
  after_reads_at
  exact eb

/-- The scores after suppression. -/
theorem v100_at (i : Fin 20000) :
    after (where0Ops (.of main_while0b_v99) (.of main_while0b_cst_33) (.of main_v16_7) main_while0b_call2) V (Proc.devRef .tc main_while0b_v100) (ix1 i)
      = Scalar.select (V (Proc.devRef .tc main_while0b_v99) (ix1 i)) (V (Proc.devRef .tc main_while0b_cst_33) ix0) (V (Proc.devRef .tc main_v16_7) (ix1 i)) := by
  after_reads_at
  rfl

/-- The best's position. -/
theorem v39_at : after (argmaxOps (.of main_v16_7) main_while0b_call1) V (Proc.devRef .tc main_while0b_v39)
    = fun j => (Host.argReduce reducer_argmax_f32_i32 (V (Proc.devRef .tc main_v16_7)) (iotaInDim S20000 32 0) (constant (F := Ideal) S_ .f32 0xFF800000#32)
      (constantI S_ 32 0#32) reducesTo_S20000_S_d0 h_S_ j).2 := by
  after_reads_simp
  rfl

/-- The record of positions. -/
theorem v101_at (k : ℕ) (hk : k < 100) (h : V (Proc.devRef .tc main_v16_6) = fun _ => BitVec.ofNat 32 k) (i : Fin 100) :
    after (updOps (.of main_v16_8) (.of main_while0b_v39) (.of main_v16_6) main_while0b_call3) V (Proc.devRef .tc main_while0b_v101) (ix1 i)
      = if i.val = k then V (Proc.devRef .tc main_while0b_v39) ix0 else V (Proc.devRef .tc main_v16_8) (ix1 i) := by
  have e : ∀ st : Fin 1 → Int, st 0 = k → Host.clampedStart S100 S1 rfl st 0 = k := fun st hs =>
    Host.clampedStart_of_le (s := S100) (t := S1) rfl _ 0 k hs (by show k + 1 ≤ 100; omega)
  have hu : upto (updOps (.of main_v16_8) (.of main_while0b_v39) (.of main_v16_6) main_while0b_call3) V 1 (Proc.devRef .tc main_v16_6)
      = V (Proc.devRef .tc main_v16_6) := by after_reads_simp
  have hs := (congrArg (fun f : IVec S_ 32 => BitVec.toInt (f (Shape.Idx.first h_S_))) (hu.trans h)).trans (toInt_small k (by omega))
  after_reads_at
  by_cases hi : i.val = k
  · rw [if_pos hi]
    exact dif_pos (by rw [e _ hs]; omega)
  · rw [if_neg hi]
    exact dif_neg (by rw [e _ hs]; omega)

/-- The record of validity. -/
theorem v102_at (k : ℕ) (hk : k < 100) (h : V (Proc.devRef .tc main_v16_6) = fun _ => BitVec.ofNat 32 k) (i : Fin 100) :
    after (upd1Ops (.of main_v16_9) (.of main_while0b_v95) (.of main_v16_6) main_while0b_call4) V (Proc.devRef .tc main_while0b_v102) (ix1 i)
      = if i.val = k then V (Proc.devRef .tc main_while0b_v95) ix0 else V (Proc.devRef .tc main_v16_9) (ix1 i) := by
  have e : ∀ st : Fin 1 → Int, st 0 = k → Host.clampedStart S100 S1 rfl st 0 = k := fun st hs =>
    Host.clampedStart_of_le (s := S100) (t := S1) rfl _ 0 k hs (by show k + 1 ≤ 100; omega)
  have hu : upto (upd1Ops (.of main_v16_9) (.of main_while0b_v95) (.of main_v16_6) main_while0b_call4) V 1 (Proc.devRef .tc main_v16_6)
      = V (Proc.devRef .tc main_v16_6) := by after_reads_simp
  have hs := (congrArg (fun f : IVec S_ 32 => BitVec.toInt (f (Shape.Idx.first h_S_))) (hu.trans h)).trans (toInt_small k (by omega))
  after_reads_at
  by_cases hi : i.val = k
  · rw [if_pos hi]
    exact dif_pos (by rw [e _ hs]; omega)
  · rw [if_neg hi]
    exact dif_neg (by rw [e _ hs]; omega)

end Cert.ReferenceIdeal.Trips

end
-- ==== Proof.StepV.lean ====
module

public import proofs.«01_k».proof.Proof.TripV
public import Idealize.ShloMosaic.Lib.Pointwise
public import Idealize.ShloMosaic.PureOps.Ideal.Laws

/-! One whole trip of the reference, in numbers. -/

@[expose] public section

set_option maxRecDepth 16384

noncomputable section

namespace Cert.ReferenceIdeal.Trips

open Idealize.ShloMosaic Idealize.ShloMosaic.TcCoe
open Cert.ReferenceIdeal Cert.ReferenceIdeal.Gen
open Idealize.ShloMosaic.StableHlo

/-! ### The whole trip -/

open Classical in
/-- A trip's new scores, by the arg-max's position. -/
theorem trip_scores (V : Valuation τ sig (Elt Ideal)) : ∃ r : Fin 20000,
    (∀ i, Sc V i ≤ Sc V r) ∧ (∀ i, i.val < r.val → Sc V i < Sc V r)
    ∧ (∀ i, Sc (afterL bodyI V) i = if Cert.Nms.half < Cert.Nms.iouE (X1 V i) (Y1 V i) (X2 V i) (Y2 V i) (AR V i) (B V r 0) (B V r 1) (B V r 2) (B V r 3)
        ∧ ⊥ < Sc V r ∧ Sc V r < ⊤ then ⊥ else Sc V i)
    ∧ ∀ k < 100, V (Proc.devRef .tc main_v16_6) = (fun _ => BitVec.ofNat 32 k) → ∀ j : Fin 100,
        afterL bodyI V (Proc.devRef .tc main_v16_8) (ix1 j) = (if j.val = k then BitVec.ofNat 32 r.val else V (Proc.devRef .tc main_v16_8) (ix1 j))
        ∧ (afterL bodyI V (Proc.devRef .tc main_v16_9) (ix1 j) = 1#1 ↔ if j.val = k then ⊥ < Sc V r ∧ Sc V r < ⊤ else V (Proc.devRef .tc main_v16_9) (ix1 j) = 1#1) := by
  obtain ⟨r, hr, hle, hlt⟩ := argmax_spec (V (Proc.devRef .tc main_v16_7)) ix0
  refine ⟨r, hle, hlt, ?_⟩
  simp only [afterL_cons, afterL_nil]
  -- the contents between the stretches
  have h1 := @argmax_keep Ideal _ V
  have h39 : after (argmaxOps (.of main_v16_7) main_while0b_call1) V (Proc.devRef .tc main_while0b_v39) = fun _ => BitVec.ofNat 32 r.val := by
    rw [v39_at]
    funext j
    have e : j = ix0 := funext fun k => k.elim0
    rw [e]
    exact hr
  generalize hV1 : after (argmaxOps (.of main_v16_7) main_while0b_call1) V = V1 at *
  have h2 := @head_keep Ideal _ V1
  have h44 := v44_at V1 r h39
  have h75 := v75_at V1 r h39
  have h87 := v87_at V1 r h39
  generalize hV2 : after headOps1 V1 = V2 at *
  have h3 := @tail1_keep Ideal _ V2
  have h95 := v95_at V2
  have h99 := v99_at V2
  have h33 := cst33_at V2
  generalize hV3 : after tailOps1 V2 = V3 at *
  have h4 := @where0_keep Ideal _ V3
  have h100 := v100_at V3
  generalize hV4 : after (where0Ops (.of main_while0b_v99) (.of main_while0b_cst_33) (.of main_v16_7) main_while0b_call2) V3 = V4 at *
  have h5 := @upd_keep Ideal _ V4
  have h101 := v101_at V4
  generalize hV5 : after (updOps (.of main_v16_8) (.of main_while0b_v39) (.of main_v16_6) main_while0b_call3) V4 = V5 at *
  have h6 := @upd1_keep Ideal _ V5
  have h102 := v102_at V5
  generalize hV6 : after (upd1Ops (.of main_v16_9) (.of main_while0b_v95) (.of main_v16_6) main_while0b_call4) V5 = V6 at *
  have t7 : after tailOps2 V6 (Proc.devRef .tc main_v16_7) = V6 (Proc.devRef .tc main_while0b_v100) := by
    after_reads_simp
    rfl
  have t8 : after tailOps2 V6 (Proc.devRef .tc main_v16_8) = V6 (Proc.devRef .tc main_while0b_v101) := by
    after_reads_simp
    rfl
  have t9 : after tailOps2 V6 (Proc.devRef .tc main_v16_9) = V6 (Proc.devRef .tc main_while0b_v102) := by
    after_reads_simp
    rfl
  have b44 : N44 V2 = Sc V r := (h44 ix0).trans (congrFun (h1 (a := main_v16_7) (by decide)) _)
  have k8 : ∀ a ∈ [main_v16_0, main_v16_1, main_v16_2, main_v16_3, main_v16_4, main_v16_5, main_v16_6, main_v16_7, main_v16_8, main_v16_9],
      V1 (Proc.devRef .tc a) = V (Proc.devRef .tc a) ∧ V2 (Proc.devRef .tc a) = V (Proc.devRef .tc a) ∧ V3 (Proc.devRef .tc a) = V (Proc.devRef .tc a)
        ∧ V4 (Proc.devRef .tc a) = V (Proc.devRef .tc a) ∧ V5 (Proc.devRef .tc a) = V (Proc.devRef .tc a) := fun a ha => by
    have n : ∀ a ∈ [main_v16_0, main_v16_1, main_v16_2, main_v16_3, main_v16_4, main_v16_5, main_v16_6, main_v16_7, main_v16_8, main_v16_9],
        a ∉ [main_while0b_call1_v0, main_while0b_call1_cst, main_while0b_call1_c, main_while0b_call1_v1_0, main_while0b_v39]
        ∧ a ∉ headOps1_W ∧ a ∉ tailOps1_W ∧ a ∉ [main_while0b_call2_v0, main_while0b_call2_v1, main_while0b_v100]
        ∧ a ∉ [main_while0b_call3_v0, main_while0b_v101] := by decide
    obtain ⟨n1, n2, n3, n4, n5⟩ := n a ha
    have e1 := h1 n1
    have e2 := (h2 n2).trans e1
    have e3 := (h3 n3).trans e2
    have e4 := (h4 n4).trans e3
    exact ⟨e1, e2, e3, e4, (h5 n5).trans e4⟩
  have c0 := (k8 main_v16_0 (by decide)).1
  have c1 := (k8 main_v16_1 (by decide)).1
  have c2 := (k8 main_v16_2 (by decide)).1
  have c3 := (k8 main_v16_3 (by decide)).1
  have c4 := (k8 main_v16_4 (by decide)).1
  have c5 := (k8 main_v16_5 (by decide)).2.1
  have c7 := (k8 main_v16_7 (by decide)).2.2.1
  have hB : ∀ k, B V1 r k = B V r k := fun k => congrFun c0 _
  have valid : V3 (Proc.devRef .tc main_while0b_v95) ix0 = 1#1 ↔ ⊥ < Sc V r ∧ Sc V r < ⊤ := by rw [h95, b44]
  have sup : ∀ i, V3 (Proc.devRef .tc main_while0b_v99) (ix1 i) = 1#1
      ↔ Cert.Nms.half < Cert.Nms.iouE (X1 V i) (Y1 V i) (X2 V i) (Y2 V i) (AR V i) (B V r 0) (B V r 1) (B V r 2) (B V r 3) ∧ ⊥ < Sc V r ∧ Sc V r < ⊤ := fun i => by
    have e75 : N75 V2 i = (max (min (X2 V i) (B V r 2) - max (X1 V i) (B V r 0)) 0 * max (min (Y2 V i) (B V r 3) - max (Y1 V i) (B V r 1)) 0 : EReal) := by
      rw [← hB, ← hB, ← hB, ← hB, ← show X1 V1 i = X1 V i from congrFun c1 _, ← show Y1 V1 i = Y1 V i from congrFun c2 _,
        ← show X2 V1 i = X2 V i from congrFun c3 _, ← show Y2 V1 i = Y2 V i from congrFun c4 _]
      exact h75 i
    have e87 : N87 V2 i = ((B V r 2 - B V r 0) * (B V r 3 - B V r 1) : EReal) := by
      rw [← hB, ← hB, ← hB, ← hB]
      exact h87 i
    rw [h99, b44, e75, e87, show AR V2 i = AR V i from congrFun c5 _]
    rfl
  refine ⟨fun i => ?_, fun k hk hc j => ?_⟩
  · have e : Sc (after tailOps2 V6) i = Scalar.select (V3 (Proc.devRef .tc main_while0b_v99) (ix1 i)) (V3 (Proc.devRef .tc main_while0b_cst_33) ix0)
        (V3 (Proc.devRef .tc main_v16_7) (ix1 i)) :=
      (congrFun (t7.trans ((h6 (a := main_while0b_v100) (by decide)).trans (h5 (a := main_while0b_v100) (by decide)))) _).trans (h100 i)
    rw [e]
    by_cases hs : V3 (Proc.devRef .tc main_while0b_v99) (ix1 i) = 1#1
    · rw [if_pos ((sup i).mp hs)]
      exact (if_pos hs).trans (h33 ix0)
    · rw [if_neg fun h => hs ((sup i).mpr h)]
      exact (if_neg hs).trans (congrFun c7 _)
  · have p4 : V4 (Proc.devRef .tc main_v16_6) = fun _ => BitVec.ofNat 32 k := (k8 main_v16_6 (by decide)).2.2.2.1.trans hc
    have p5 : V5 (Proc.devRef .tc main_v16_6) = fun _ => BitVec.ofNat 32 k := (k8 main_v16_6 (by decide)).2.2.2.2.trans hc
    have e39 : V4 (Proc.devRef .tc main_while0b_v39) ix0 = BitVec.ofNat 32 r.val :=
      congrFun ((h4 (a := main_while0b_v39) (by decide)).trans ((h3 (a := main_while0b_v39) (by decide)).trans ((h2 (a := main_while0b_v39) (by decide)).trans h39))) _
    have e95 : V5 (Proc.devRef .tc main_while0b_v95) ix0 = V3 (Proc.devRef .tc main_while0b_v95) ix0 :=
      congrFun ((h5 (a := main_while0b_v95) (by decide)).trans (h4 (a := main_while0b_v95) (by decide))) _
    constructor
    · refine (congrFun (t8.trans (h6 (a := main_while0b_v101) (by decide))) _).trans ((h101 k hk p4 j).trans ?_)
      rw [e39, congrFun (k8 main_v16_8 (by decide)).2.2.2.1 (ix1 j)]
    · rw [(congrFun t9 _).trans (h102 k hk p5 j), e95, congrFun (k8 main_v16_9 (by decide)).2.2.2.2 (ix1 j)]
      by_cases hj : j.val = k
      · rw [if_pos hj, if_pos hj]; exact valid
      · rw [if_neg hj, if_neg hj]

end Cert.ReferenceIdeal.Trips

end
-- ==== Proof.LastV.lean ====
module

public import proofs.«01_k».proof.Proof.Ref
public import proofs.«01_k».proof.Proof.TripV
public import Idealize.ShloMosaic.Lib.Pointwise
public import Idealize.ShloMosaic.PureOps.Ideal.Laws
public import Idealize.ShloMosaic.Lib.Routing.OpsSet
public import Idealize.ShloMosaic.Lib.Routing.Ops

/-! What the reference computes before its trips, and from the recorded positions after them. -/

@[expose] public section

set_option maxRecDepth 16384

noncomputable section

namespace Cert.ReferenceIdeal.Trips

open Idealize.ShloMosaic Idealize.ShloMosaic.TcCoe
open Cert.ReferenceIdeal Cert.ReferenceIdeal.Gen
open Idealize.ShloMosaic.StableHlo

/-- The gather's correction of negative positions does nothing here. -/
theorem wrap' (r : ℕ) (hr : r < 20000) :
    Scalar.select (IntOp.cmpi .slt (BitVec.ofNat 32 r) 0#32) (IntOp.addi (BitVec.ofNat 32 r) 20000#32) (BitVec.ofNat 32 r) = BitVec.ofNat 32 r :=
  if_neg fun h => absurd ((slt_small r 0 hr (by omega)).mp h) (by omega)

variable (V : Valuation τ sig (Elt Ideal))

/-- A box's corner, and a box's score, as given. -/
abbrev G0 (r : Fin 20000) (l : Fin 4) : EReal := V (Proc.devRef .tc main_arg0) (ix2 r l)
/-- A box's score as given. -/
abbrev G1 (r : Fin 20000) : EReal := V (Proc.devRef .tc main_arg1) (ix1 r)

/-- A row of positions as a column. -/
theorem column (f : S100.Idx → BitVec 32) (k : Fin 100) : broadcastInDim S100x1 ![0] bcast_S100_S100x1_0 f (ix2 k 0) = f (ix1 k) :=
  congrArg f (funext fun a => by
    match a with
    | ⟨0, _⟩ => rfl)

/-- The result's box entries. -/
theorem v27_at (k : Fin 100) (l : Fin 4) (r : Fin 20000) (h : V (Proc.devRef .tc main_v16_8) (ix1 k) = BitVec.ofNat 32 r.val) :
    after mainOps3 V (Proc.devRef .tc main_v27) (ix2 k l)
      = (G0 V r l * FloatOps.uitofp (F := Ideal) .f32 (V (Proc.devRef .tc main_v16_9) (ix1 k)) : EReal) := by
  after_reads_at
  refine congrArg (fun x : EReal => x * (FloatOps.uitofp (F := Ideal) .f32 (V (Proc.devRef .tc main_v16_9) (ix1 k)) : EReal)) ?_
  refine Routing.gather_row (nb := 20000) (B := 4) (n := 100) gather_S20000x4_S100x1_S100x4_1_0_n_n_0_1_14 rfl rfl rfl rfl rfl _ _ k l r ?_ (by omega)
  refine (column _ k).trans (Eq.trans ?_ (wrap' r.val r.isLt))
  rw [← h]
  rfl

/-- The result's score. -/
theorem v34_at (k : Fin 100) (r : Fin 20000) (h : V (Proc.devRef .tc main_v16_8) (ix1 k) = BitVec.ofNat 32 r.val) :
    after mainOps3 V (Proc.devRef .tc main_v34) (ix1 k) = V (Proc.devRef .tc main_arg1) (ix1 r) := by
  after_reads_at
  refine Routing.gather_take1 (N := 20000) (n := 100) gather_S20000_S100x1_S100_n_0_n_n_0_1_1 rfl rfl rfl rfl _ _ k r ?_ (by omega)
  refine (column _ k).trans (Eq.trans ?_ (wrap' r.val r.isLt))
  rw [← h]
  rfl

/-- The score of a row without a box. -/
theorem cst7_at (j : S_.Idx) : after mainOps3 V (Proc.devRef .tc main_cst_7) j = (0 : EReal) := by
  after_reads_at

/-- The result's score, or zero when the row has no box. -/
theorem v35_at (k : Fin 100) : after (where2Ops (.of main_v16_9) (.of main_v34) (.of main_cst_7) main_call5) V (Proc.devRef .tc main_v35) (ix1 k)
    = Scalar.select (V (Proc.devRef .tc main_v16_9) (ix1 k)) (V (Proc.devRef .tc main_v34) (ix1 k)) (V (Proc.devRef .tc main_cst_7) ix0) := by
  after_reads_at
  rfl

/-- The result's columns. -/
theorem v38_at (k : Fin 100) (l : Fin 128) : after mainOps4 V (Proc.devRef .tc main_v38) (ix2 k l)
    = if h : l.val < 4 then V (Proc.devRef .tc main_v27) (ix2 k ⟨l.val, h⟩)
      else if l.val = 4 then V (Proc.devRef .tc main_v35) (ix1 k) else (0 : EReal) := by
  after_reads_at
  by_cases h4 : l.val < 4
  · rw [dif_pos h4, dif_pos h4]
  rw [dif_neg h4, dif_neg h4]
  by_cases h5 : l.val = 4
  · rw [dif_pos (by omega), if_pos h5]
    refine (congrFun (unary_result' (y := main_v37) _ _ _ _) _).trans ?_
    exact congrArg (V (Proc.devRef .tc main_v35)) (funext fun a => by
      match a with
      | ⟨0, _⟩ => rfl)
  · rw [dif_neg (by omega), if_neg h5]
    refine (congrFun (unary_result' (y := main_v36) _ _ _ _) _).trans ?_
    exact Cert.Nms.zf_eq

variable (m : (ℓ : Loc nD τ sig) → Buf (Elt Ideal) ℓ) (c : Dev nD)

/-- The boxes' corners and scores as launched. -/
abbrev gb (i : Fin 20000) (l : Fin 4) : EReal := m ((c : Thread nD τ).loc main_arg0) (ix2 i l)
/-- A box's score as launched. -/
abbrev gs (i : Fin 20000) : EReal := m ((c : Thread nD τ).loc main_arg1) (ix1 i)

/-- Left edges before the first trip. -/
theorem e1 (i : Fin 20000) : Wk m 0 c (Proc.devRef .tc main_v16_1) (ix1 i) = m ((c : Thread nD τ).loc main_arg0) (ix2 i 0) := by
  simp only [Wk, atTrip_zero, entryContents, afterL_cons, afterL_nil]
  after_reads_at
  rfl

/-- Upper edges before the first trip. -/
theorem e2 (i : Fin 20000) : Wk m 0 c (Proc.devRef .tc main_v16_2) (ix1 i) = m ((c : Thread nD τ).loc main_arg0) (ix2 i 1) := by
  simp only [Wk, atTrip_zero, entryContents, afterL_cons, afterL_nil]
  after_reads_at
  rfl

/-- Right edges before the first trip. -/
theorem e3 (i : Fin 20000) : Wk m 0 c (Proc.devRef .tc main_v16_3) (ix1 i) = m ((c : Thread nD τ).loc main_arg0) (ix2 i 2) := by
  simp only [Wk, atTrip_zero, entryContents, afterL_cons, afterL_nil]
  after_reads_at
  rfl

/-- Lower edges before the first trip. -/
theorem e4 (i : Fin 20000) : Wk m 0 c (Proc.devRef .tc main_v16_4) (ix1 i) = m ((c : Thread nD τ).loc main_arg0) (ix2 i 3) := by
  simp only [Wk, atTrip_zero, entryContents, afterL_cons, afterL_nil]
  after_reads_at
  rfl

/-- Boxes before the first trip. -/
theorem e00 : Wk m 0 c (Proc.devRef .tc main_v16_0) = m ((c : Thread nD τ).loc main_arg0) := by
  simp only [Wk, atTrip_zero, entryContents, afterL_cons, afterL_nil]
  after_reads_simp
  rfl

/-- Areas before the first trip. -/
theorem e5 (i : Fin 20000) : Wk m 0 c (Proc.devRef .tc main_v16_5) (ix1 i)
    = ((X2 (Wk m 0 c) i - X1 (Wk m 0 c) i) * (Y2 (Wk m 0 c) i - Y1 (Wk m 0 c) i) : EReal) := by
  rw [X1, Y1, X2, Y2, e1, e2, e3, e4]
  simp only [Wk, atTrip_zero, entryContents, afterL_cons, afterL_nil]
  after_reads_at
  rfl

/-- Scores before the first trip. -/
theorem e7 (i : Fin 20000) : Sc (Wk m 0 c) i
    = if Ideal.ofBits .f32 1028443341#32 < gs m c i then gs m c i else ⊥ := by
  unfold Sc
  simp only [Wk, atTrip_zero, entryContents, afterL_cons, afterL_nil]
  rw [← Cert.Nms.ninf_eq]
  after_reads_at
  refine Eq.trans ?_ (if_congr (bit_ogt (m ((c : Thread nD τ).loc main_arg1) (ix1 i)) (Ideal.ofBits .f32 1028443341#32)) rfl rfl)
  rfl

end Cert.ReferenceIdeal.Trips

end
-- ==== Proof.MaxV.lean ====
/- The greatest entry of a row of lanes, one row at a time and eight at a time, over the extended reals. -/
module

public import proofs.«01_k».proof.Proof.PassV

@[expose] public section

set_option maxRecDepth 16384

noncomputable section

namespace Cert.Nms

open Idealize.ShloMosaic
open Cert.KernelIdeal Cert.KernelIdeal.Gen

/-- `m` is the greatest entry of a row. -/
structure IsMax (x : Fin 128 → EReal) (m : EReal) : Prop where
  le : ∀ l, x l ≤ m
  ex : ∃ l, x l = m

/-- A supremum over lanes that reach it is the maximum. -/
theorem sup_isMax {ι : Type} (s : Finset ι) (f : ι → EReal) (x : Fin 128 → EReal) (g : Fin 128 → ι) (hg : ∀ l, g l ∈ s ∧ f (g l) = x l)
    (hs : ∀ i ∈ s, ∃ l, g l = i) : IsMax x (s.fold max ⊥ f) := by
  have e : s.fold max ⊥ f = s.sup f := rfl
  rw [e]
  refine ⟨fun l => (hg l).2 ▸ Finset.le_sup (hg l).1, ?_⟩
  obtain ⟨i, hi, h⟩ := Finset.exists_mem_eq_sup s ⟨g 0, (hg 0).1⟩ f
  obtain ⟨l, rfl⟩ := hs i hi
  exact ⟨l, (hg l).2.symm.trans h.symm⟩

/-- The maximum over the lanes is one. -/
theorem maxOf_spec (x : FVec Ideal S1x128 .f32) : IsMax (fun l => x (ix2 0 l)) (maxOf x z1) := by
  unfold maxOf
  have e : ∀ (y : FVec Ideal S1 .f32), shapeCast S1x1 y shapeCasts_S1_S1x1 z1 = y (ix1 0) := fun y =>
    congrArg y (funext fun a => by
      match a with
      | ⟨0, _⟩ => exact Subsingleton.elim (α := Fin 1) _ _)
  refine (congrArg (IsMax _) ((e _).trans (multiReduction_maximumf_eq_fold _ _ _ _ _ _))).mpr ?_
  have hb : (FloatOps.ofBits .f32 0xFF800000#32 : Ideal .f32) = (⊥ : EReal) := ninf_eq
  rw [hb]
  refine sup_isMax _ _ _ (fun l => ix2 0 l) (fun l => ⟨?_, rfl⟩) fun i hi => ⟨i 1, ?_⟩
  · exact Finset.mem_filter.mpr ⟨Finset.mem_univ _, funext fun a => by
      match a with
      | ⟨0, _⟩ => exact Subsingleton.elim (α := Fin 1) _ _⟩
  · funext a
    match a with
    | ⟨0, _⟩ => exact Subsingleton.elim (α := Fin 1) _ _
    | ⟨1, _⟩ => rfl

/-- One row cut out of eight. -/
theorem cut_apply {α : Type} (k : Fin 8) (x : S8x1.Idx → α) (h : S8x1.Slices ![k.val, 0] S1x1) :
    extractStridedSlice S1x1 ![k.val, 0] x h z1 = x (ix2 k 0) := by
  unfold extractStridedSlice
  refine congrArg x (funext fun a => Fin.ext ?_)
  match a with
  | ⟨0, _⟩ => rfl
  | ⟨1, _⟩ => rfl

/-- The maximum over the lanes of each of eight rows. -/
theorem max8_spec (r : Fin 8 → FVec Ideal S1x128 .f32) (k : Fin 8) :
    IsMax (fun l => r k (ix2 0 l)) (max8 (r 0) (r 1) (r 2) (r 3) (r 4) (r 5) (r 6) (r 7) (ix2 k 0)) := by
  unfold max8
  have e : ∀ (y : FVec Ideal S8 .f32), shapeCast S8x1 y shapeCasts_S8_S8x1 (ix2 k 0) = y (ix1 k) := fun y => by
    pointwise
  refine (congrArg (IsMax _) ((e _).trans (multiReduction_maximumf_eq_fold _ _ _ _ _ _))).mpr ?_
  have hb : (FloatOps.ofBits .f32 0xFF800000#32 : Ideal .f32) = (⊥ : EReal) := ninf_eq
  rw [hb]
  refine sup_isMax _ _ _ (fun l => ix2 k l) (fun l => ⟨?_, ?_⟩) fun i hi => ⟨i 1, ?_⟩
  · exact Finset.mem_filter.mpr ⟨Finset.mem_univ _, funext fun a => by
      match a with
      | ⟨0, _⟩ => rfl⟩
  · match k with
    | ⟨0, _⟩ => pointwise
    | ⟨1, _⟩ => pointwise
    | ⟨2, _⟩ => pointwise
    | ⟨3, _⟩ => pointwise
    | ⟨4, _⟩ => pointwise
    | ⟨5, _⟩ => pointwise
    | ⟨6, _⟩ => pointwise
    | ⟨7, _⟩ => pointwise
  · have h := congrFun (Finset.mem_filter.mp hi).2 (0 : Fin 1)
    funext a
    match a with
    | ⟨0, _⟩ => exact h.symm
    | ⟨1, _⟩ => rfl

end Cert.Nms

end
-- ==== Proof.CandV.lean ====
/- A candidate of a round, over the extended reals: the lanes attaining the greatest value, the first position among
   them, and when there is only one, its corners. -/
module

public import proofs.«01_k».proof.Proof.MaxV

@[expose] public section

set_option maxRecDepth 16384

noncomputable section

namespace Cert.Nms

open Idealize.ShloMosaic
open Cert.KernelIdeal Cert.KernelIdeal.Gen

/-- What a candidate says of the lanes: `mv` their values, `fl` their flat positions, `fresh` the lanes whose corners it
    may read, `l0` the lane of the first position attaining the greatest value. -/
structure CandAt (c : Col Ideal) (mv : Fin 128 → EReal) (fl : Fin 128 → ℕ) (fresh : Fin 128 → Prop) (k : Cand Ideal) (l0 : Fin 128) : Prop where
  max : IsMax mv (k.m z1)
  at_ : mv l0 = k.m z1
  first : ∀ l, mv l = k.m z1 → fl l0 ≤ fl l
  neg : k.negf z1 = (((-(fl l0 : ℝ)) : ℝ) : EReal)
  tie : k.tie z1 = 1#1 ↔ ∃ l, l ≠ l0 ∧ mv l = k.m z1
  lane : k.lane z1 = ((l0.val : ℝ) : EReal)
  sel : ∀ l, k.sel (ix2 0 l) = 1#1 ↔ mv l = k.m z1
  corner : (∀ l, mv l = k.m z1 → l = l0) → fresh l0 →
    k.x1 z1 = c.x1 (ix2 0 l0) ∧ k.y1 z1 = c.y1 (ix2 0 l0) ∧ k.x2 z1 = c.x2 (ix2 0 l0) ∧ k.y2 z1 = c.y2 (ix2 0 l0)

/-- A selected lane keeps its value. -/
theorem keep_pos {s : IVec S1x128 1} {x : FVec Ideal S1x128 .f32} {l : Fin 128} (h : s (ix2 0 l) = 1#1) :
    keep s x (ix2 0 l) = x (ix2 0 l) := sel_pos h
/-- A lane not selected becomes −∞. -/
theorem keep_neg {s : IVec S1x128 1} {x : FVec Ideal S1x128 .f32} {l : Fin 128} (h : ¬ s (ix2 0 l) = 1#1) :
    keep s x (ix2 0 l) = (⊥ : EReal) := (sel_neg h).trans ninf_eq

/-- The greatest of the kept finite entries is one of them. -/
theorem keep_max {s : IVec S1x128 1} {x : FVec Ideal S1x128 .f32} {m : EReal} (h : IsMax (fun l => keep s x (ix2 0 l)) m)
    {g : Fin 128 → ℝ} (hx : ∀ l, x (ix2 0 l) = ((g l : ℝ) : EReal)) {l1 : Fin 128} (h1 : s (ix2 0 l1) = 1#1) :
    ∃ l0, s (ix2 0 l0) = 1#1 ∧ m = ((g l0 : ℝ) : EReal) ∧ ∀ l, s (ix2 0 l) = 1#1 → g l ≤ g l0 := by
  obtain ⟨l0, h0⟩ := h.ex
  have hs : s (ix2 0 l0) = 1#1 := by
    by_contra hn
    have := h.le l1
    rw [← h0] at this
    simp only [keep_neg hn, keep_pos h1, hx] at this
    exact absurd (le_bot_iff.mp this) (EReal.coe_ne_bot _)
  have hm : m = ((g l0 : ℝ) : EReal) := by
    rw [← h0, ← hx]; exact keep_pos hs
  refine ⟨l0, hs, hm, fun l hl => ?_⟩
  have := h.le l
  simp only [keep_pos hl, hx, hm] at this
  exact EReal.coe_le_coe_iff.mp this

/-- The greatest of one kept entry. -/
theorem keep_one {s : IVec S1x128 1} {x : FVec Ideal S1x128 .f32} {m : EReal} (h : IsMax (fun l => keep s x (ix2 0 l)) m)
    {l0 : Fin 128} (h0 : s (ix2 0 l0) = 1#1) (h1 : ∀ l, s (ix2 0 l) = 1#1 → l = l0) : m = x (ix2 0 l0) := by
  apply le_antisymm
  · obtain ⟨l, hl⟩ := h.ex
    rw [← hl]
    by_cases hs : s (ix2 0 l) = 1#1
    · have e := h1 l hs
      subst e
      exact (keep_pos hs).le
    · simp only [keep_neg hs]; exact bot_le
  · have := h.le l0
    rw [← keep_pos (x := x) h0]; exact this

/-- A lane is selected when it holds the maximum. -/
theorem selOf_iff (mv : FVec Ideal S1x128 .f32) (l : Fin 128) : selOf mv (ix2 0 l) = 1#1 ↔ mv (ix2 0 l) = maxOf mv z1 := by
  have e : selOf mv (ix2 0 l) = Ideal.cmp .oeq (mv (ix2 0 l)) (maxOf mv z1) := by
    unfold selOf
    show Ideal.cmp .oeq (mv (ix2 0 l)) (broadcastTo S1x128 (maxOf mv) broadcasts_S1x1_S1x128 (ix2 0 l)) = _
    rw [bto_apply]
  rw [e, cmp_oeq_iff]

/-- The constant 128. -/
theorem c128_eq : (Scalar.ofBits .f32 0x43000000#32 : Ideal .f32) = ((128 : ℝ) : EReal) := by
  show Ideal.ofBits .f32 0x43000000#32 = _
  simp [Ideal.ofBits, Ideal.ieee, -EReal.coe_mul]
  norm_num

/-- The integer part of a quotient. -/
theorem floor_quot (n d : ℕ) (h : 0 < d) : (⌊(n : ℝ) / d⌋ : ℤ) = ((n / d : ℕ) : ℤ) := by
  have hd : (n : ℝ) = d * ((n / d : ℕ) : ℝ) + ((n % d : ℕ) : ℝ) := by exact_mod_cast (Nat.div_add_mod n d).symm
  have h0 : (0 : ℝ) ≤ ((n % d : ℕ) : ℝ) := Nat.cast_nonneg _
  have h1 : ((n % d : ℕ) : ℝ) < d := by exact_mod_cast Nat.mod_lt n h
  have hp : (0 : ℝ) < d := by exact_mod_cast h
  generalize n / d = q at *
  generalize n % d = r at *
  rw [Int.floor_eq_iff, Int.cast_natCast]
  exact ⟨by rw [le_div_iff₀ hp]; linarith, by rw [div_lt_iff₀ hp]; linarith⟩

/-- The remainder. -/
theorem rem_quot (n d : ℕ) (h : 0 < d) : (n : ℝ) - (⌊(n : ℝ) / d⌋ : ℤ) * d = ((n % d : ℕ) : ℝ) := by
  have hd : (n : ℝ) = d * ((n / d : ℕ) : ℝ) + ((n % d : ℕ) : ℝ) := by exact_mod_cast (Nat.div_add_mod n d).symm
  rw [floor_quot n d h, Int.cast_natCast]
  linarith

/-- The remainder by the number of lanes. -/
theorem mod128 (n : ℕ) : (n : ℝ) - (⌊(n : ℝ) / 128⌋ : ℤ) * 128 = ((n % 128 : ℕ) : ℝ) := by
  have := rem_quot n 128 (by omega)
  rwa [Nat.cast_ofNat] at this

/-- The greatest entry, where one number is cut out of a column. -/
theorem IsMax.cut {x : Fin 128 → EReal} (k : Fin 8) {q : FVec Ideal S8x1 .f32} {hs : S8x1.Slices ![k.val, 0] S1x1} (h : IsMax x (q (ix2 k 0))) :
    IsMax x (extractStridedSlice S1x1 ![k.val, 0] q hs z1) := by
  rw [cut_apply]; exact h

/-- What a candidate is, from what its lane knows. -/
theorem candAt (c : Col Ideal) (mv mf : FVec Ideal S1x128 .f32) (fr : IVec S1x128 1 → IVec S1x128 1) (fl : Fin 128 → ℕ)
    (fresh : Fin 128 → Prop) (hmf : ∀ l, mf (ix2 0 l) = (((fl l : ℝ)) : EReal)) (hfl : ∀ l, fl l % 128 = l.val)
    (hfr : ∀ s l, fr s (ix2 0 l) = 1#1 ↔ s (ix2 0 l) = 1#1 ∧ fresh l) :
    ∃ l0, CandAt c (fun l => mv (ix2 0 l)) fl fresh (Cand.of c mv mf fr) l0 := by
  have hM := maxOf_spec mv
  obtain ⟨la, hla⟩ := hM.ex
  have hsa := (selOf_iff mv la).mpr hla
  have hq := max8_spec ![keep (selOf mv) (subf (broadcast S1x128 (zf Ideal)) mf), keep (fr (selOf mv)) c.x1, keep (fr (selOf mv)) c.y1,
    keep (fr (selOf mv)) c.x2, keep (fr (selOf mv)) c.y2, keep (selOf mv) mf, keep (selOf mv) mf, keep (selOf mv) mf]
  have q0 : IsMax (fun l => keep (selOf mv) (subf (broadcast S1x128 (zf Ideal)) mf) (ix2 0 l)) ((Cand.of c mv mf fr).negf z1) :=
    IsMax.cut 0 (hs := slices_S8x1_o0_0_S1x1) (q := pack c mf (selOf mv) (fr (selOf mv))) (hq 0)
  have q1 : IsMax (fun l => keep (fr (selOf mv)) c.x1 (ix2 0 l)) ((Cand.of c mv mf fr).x1 z1) :=
    IsMax.cut 1 (hs := slices_S8x1_o1_0_S1x1) (q := pack c mf (selOf mv) (fr (selOf mv))) (hq 1)
  have q2 : IsMax (fun l => keep (fr (selOf mv)) c.y1 (ix2 0 l)) ((Cand.of c mv mf fr).y1 z1) :=
    IsMax.cut 2 (hs := slices_S8x1_o2_0_S1x1) (q := pack c mf (selOf mv) (fr (selOf mv))) (hq 2)
  have q3 : IsMax (fun l => keep (fr (selOf mv)) c.x2 (ix2 0 l)) ((Cand.of c mv mf fr).x2 z1) :=
    IsMax.cut 3 (hs := slices_S8x1_o3_0_S1x1) (q := pack c mf (selOf mv) (fr (selOf mv))) (hq 3)
  have q4 : IsMax (fun l => keep (fr (selOf mv)) c.y2 (ix2 0 l)) ((Cand.of c mv mf fr).y2 z1) :=
    IsMax.cut 4 (hs := slices_S8x1_o4_0_S1x1) (q := pack c mf (selOf mv) (fr (selOf mv))) (hq 4)
  have q5 : IsMax (fun l => keep (selOf mv) mf (ix2 0 l)) ((Cand.of c mv mf fr).posf z1) :=
    IsMax.cut 5 (hs := slices_S8x1_o5_0_S1x1) (q := pack c mf (selOf mv) (fr (selOf mv))) (hq 5)
  obtain ⟨l0, s0, n0, f0⟩ := keep_max q0 (g := fun l => -(fl l : ℝ)) (fun l => by
    show (zf Ideal : EReal) - mf (ix2 0 l) = _
    rw [zf_eq, hmf, zero_sub, EReal.coe_neg]) hsa
  obtain ⟨l5, s5, n5, f5⟩ := keep_max q5 (g := fun l => (fl l : ℝ)) hmf hsa
  have first : ∀ l, mv (ix2 0 l) = maxOf mv z1 → fl l0 ≤ fl l := fun l hl => by
    have := f0 l ((selOf_iff mv l).mpr hl)
    simp only [neg_le_neg_iff, Nat.cast_le] at this
    exact this
  refine ⟨l0, hM, (selOf_iff mv l0).mp s0, first, n0, ?_, ?_, fun l => selOf_iff mv l, fun hu hf => ?_⟩
  · have e : (Cand.of c mv mf fr).tie z1 = Ideal.cmp .one (((fl l5 : ℝ) : EReal) + (((-(fl l0 : ℝ)) : ℝ) : EReal)) 0 := by
      rw [← n5, ← n0, ← zf_eq]; rfl
    rw [e, cmp_one_iff, ← EReal.coe_add]
    constructor
    · intro h
      refine ⟨l5, fun hl => h ?_, (selOf_iff mv l5).mp s5⟩
      rw [hl]; simp
    · rintro ⟨l, hne, hl⟩ h
      have h' : (fl l5 : ℝ) + -(fl l0 : ℝ) = 0 := by exact_mod_cast h
      have h5 : fl l5 = fl l0 := by
        have : (fl l5 : ℝ) = fl l0 := by linarith
        exact_mod_cast this
      have h6 : fl l ≤ fl l5 := by exact_mod_cast f5 l ((selOf_iff mv l).mpr hl)
      have h7 := first l hl
      have h8 : fl l = fl l0 := by omega
      exact hne (Fin.ext (by rw [← hfl l, ← hfl l0, h8]))
  · have e : (Cand.of c mv mf fr).lane z1 = ((0 : EReal) - (((-(fl l0 : ℝ)) : ℝ) : EReal)) - Ideal.liftRound Int.floor (Ideal.div ((0 : EReal) - (((-(fl l0 : ℝ)) : ℝ) : EReal)) ((128 : ℝ) : EReal)) * ((128 : ℝ) : EReal) := by
      rw [← n0, ← c128_eq, ← zf_eq]; rfl
    rw [e, zero_sub, ← EReal.coe_neg, neg_neg]
    rw [Ideal.div_coe (by norm_num), ← EReal.coe_mul, mul_one_div, Ideal.liftRound_coe, ← EReal.coe_mul, ← EReal.coe_sub, mod128, hfl]
  · have one : ∀ l, fr (selOf mv) (ix2 0 l) = 1#1 → l = l0 := fun l hl => hu l ((selOf_iff mv l).mp ((hfr _ _).mp hl).1)
    have h0 := (hfr (selOf mv) l0).mpr ⟨s0, hf⟩
    exact ⟨keep_one q1 h0 one, keep_one q2 h0 one, keep_one q3 h0 one, keep_one q4 h0 one⟩

end Cert.Nms

end
-- ==== Proof.FlagV.lean ====
/- The flags of a round, packed into one number and read back by remainders, over the extended reals; and the first
   candidate's corners, tied or not. -/
module

public import proofs.«01_k».proof.Proof.CandV

@[expose] public section

set_option maxRecDepth 16384

noncomputable section

namespace Cert.Nms

open Idealize.ShloMosaic
open Cert.KernelIdeal Cert.KernelIdeal.Gen

/-- The constant 1. -/
theorem c1_eq : (Scalar.ofBits .f32 0x3F800000#32 : Ideal .f32) = (((1 : ℕ) : ℝ) : EReal) := by
  show Ideal.ofBits .f32 0x3F800000#32 = _
  simp [Ideal.ofBits, Ideal.ieee, -EReal.coe_mul]
  norm_num
/-- The constant 2. -/
theorem c2_eq : (Scalar.ofBits .f32 0x40000000#32 : Ideal .f32) = (((2 : ℕ) : ℝ) : EReal) := by
  show Ideal.ofBits .f32 0x40000000#32 = _
  simp [Ideal.ofBits, Ideal.ieee, -EReal.coe_mul]
  norm_num
/-- The constant 4. -/
theorem c4_eq : (Scalar.ofBits .f32 0x40800000#32 : Ideal .f32) = (((4 : ℕ) : ℝ) : EReal) := by
  show Ideal.ofBits .f32 0x40800000#32 = _
  simp [Ideal.ofBits, Ideal.ieee, -EReal.coe_mul]
  norm_num
/-- The constant 8. -/
theorem c8_eq : (Scalar.ofBits .f32 0x41000000#32 : Ideal .f32) = (((8 : ℕ) : ℝ) : EReal) := by
  show Ideal.ofBits .f32 0x41000000#32 = _
  simp [Ideal.ofBits, Ideal.ieee, -EReal.coe_mul]
  norm_num

/-- A flag is one or zero. -/
theorem toNat1 (b : BitVec 1) : (b = 1#1 ∧ b.toNat = 1) ∨ (b = 0#1 ∧ b.toNat = 0) := by revert b; decide

/-- The remainder of two natural numbers, as the kernel writes it. -/
theorem modf_nat (n d : ℕ) (hd : 0 < d) :
    modf (F := Ideal) (((n : ℝ) : EReal)) (((d : ℝ) : EReal)) = ((((n % d : ℕ) : ℝ)) : EReal) := by
  have hd0 : (0 : ℝ) < d := by exact_mod_cast hd
  have hr : (Scalar.remf (F := Ideal) (φ := .f32) (((n : ℝ) : EReal) : Ideal .f32) (((d : ℝ) : EReal) : Ideal .f32)) = ((((n % d : ℕ) : ℝ)) : EReal) := by
    show Ideal.remf ((n : ℝ) : EReal) ((d : ℝ) : EReal) = _
    rw [Ideal.remf_coe, if_neg hd0.ne', Ideal.truncInt, if_pos (by positivity), ← rem_quot n d hd, mul_comm]
  unfold modf
  rw [hr]
  have h1 : (Scalar.cmpf (F := Ideal) (φ := .f32) .olt (((((n % d : ℕ) : ℝ)) : EReal) : Ideal .f32) (zf Ideal)) = 0#1 := by
    show Ideal.cmp .olt _ _ = _
    rw [zf_eq]
    have : ¬ ((((n % d : ℕ) : ℝ)) : EReal) < 0 := not_lt.mpr (by exact_mod_cast Nat.zero_le _)
    exact (toNat1 _).elim (fun h => absurd ((cmp_olt_iff _ _).mp h.1) this) (fun h => h.1)
  have h2 : (Scalar.cmpf (F := Ideal) (φ := .f32) .olt ((((d : ℝ)) : EReal) : Ideal .f32) (zf Ideal)) = 0#1 := by
    show Ideal.cmp .olt _ _ = _
    rw [zf_eq]
    have : ¬ ((d : ℝ) : EReal) < 0 := not_lt.mpr (by exact_mod_cast Nat.zero_le _)
    exact (toNat1 _).elim (fun h => absurd ((cmp_olt_iff _ _).mp h.1) this) (fun h => h.1)
  rw [h1, h2]
  refine sel_neg ?_
  intro h
  have := ((and_iff _ _).mp h).1
  revert this
  decide

/-- A flag as a number. -/
theorem bit_eq (x : IVec S1x1 1) (w : BitVec 32) (k : ℕ) (hw : (Scalar.ofBits .f32 w : Ideal .f32) = (((k : ℕ) : ℝ) : EReal)) :
    bit (F := Ideal) x w z1 = (((k * (x z1).toNat : ℕ) : ℝ) : EReal) := by
  rcases toNat1 (x z1) with h | h
  · rw [h.2]
    refine (sel_pos h.1).trans (hw.trans ?_)
    simp
  · rw [h.2]
    refine (sel_neg (by rw [h.1]; decide)).trans (zf_eq.trans ?_)
    simp

/-- The packed flags. -/
def codeN (c : Col Ideal) : ℕ :=
  1 * ((cand1 c).tie z1).toNat + 2 * (bad2 c z1).toNat + 4 * (bad3 c z1).toNat + 8 * (bad4 c z1).toNat

/-- The round's flags, packed into one float, are a natural number. -/
theorem codeOf_eq (c : Col Ideal) : codeOf c = (((codeN c : ℕ) : ℝ) : EReal) := by
  have e : codeOf c = ((bit (F := Ideal) (cand1 c).tie 0x3F800000#32 z1 + bit (F := Ideal) (bad2 c) 0x40000000#32 z1 + bit (F := Ideal) (bad3 c) 0x40800000#32 z1
      + bit (F := Ideal) (bad4 c) 0x41000000#32 z1 : EReal)) := by
    unfold codeOf extractAt
    rw [idx1 (fun a => _)]
    rfl
  rw [e, bit_eq _ _ _ c1_eq, bit_eq _ _ _ c2_eq, bit_eq _ _ _ c4_eq, bit_eq _ _ _ c8_eq, ← EReal.coe_add, ← EReal.coe_add, ← EReal.coe_add]
  unfold codeN
  push_cast
  rfl

/-- Natural numbers are equal when they are as extended reals. -/
theorem cast_eq (a b : ℕ) : (((a : ℝ)) : EReal) = ((b : ℝ) : EReal) ↔ a = b := by
  rw [EReal.coe_eq_coe_iff, Nat.cast_inj]
/-- Natural numbers are ordered as they are as extended reals. -/
theorem cast_lt (a b : ℕ) : (((a : ℝ)) : EReal) < ((b : ℝ) : EReal) ↔ a < b := by
  rw [EReal.coe_lt_coe_iff, Nat.cast_lt]

/-- The tie bit says that the first candidate ties. -/
theorem tieBit_iff (c : Col Ideal) : tieBit c = 1#1 ↔ (cand1 c).tie z1 = 1#1 := by
  unfold tieBit
  rw [codeOf_eq, c2_eq, c1_eq, modf_nat _ _ (by omega)]
  show Ideal.cmp .oeq _ _ = 1#1 ↔ _
  rw [cmp_oeq_iff, cast_eq]
  rcases toNat1 ((cand1 c).tie z1) with h | h <;> unfold codeN <;> rw [h.2, h.1]
  · simp only [iff_true]; omega
  · simp only [show ¬ (0#1 = 1#1) by decide, iff_false]; omega

/-- A bit's complement is 1 when the bit is not. -/
theorem bit_not (b : BitVec 1) : ¬ b = 1#1 ↔ b.toNat = 0 := by revert b; decide
/-- A bit is at most 1. -/
theorem bit_le (b : BitVec 1) : b.toNat ≤ 1 := by revert b; decide

/-- The second flag says that the second candidate is good. -/
theorem ok2_iff (c : Col Ideal) : ok2 c = 1#1 ↔ ¬ bad2 c z1 = 1#1 := by
  unfold ok2
  rw [codeOf_eq, c4_eq, c2_eq, modf_nat _ _ (by omega)]
  show Ideal.cmp .olt _ _ = 1#1 ↔ _
  rw [cmp_olt_iff, cast_lt, bit_not]
  unfold codeN
  have := bit_le ((cand1 c).tie z1); have := bit_le (bad2 c z1)
  omega

/-- The third flag says that the third candidate is good. -/
theorem ok3_iff (c : Col Ideal) : ok3 c = 1#1 ↔ ¬ bad3 c z1 = 1#1 := by
  unfold ok3
  rw [codeOf_eq, c8_eq, c4_eq, modf_nat _ _ (by omega)]
  show Ideal.cmp .olt _ _ = 1#1 ↔ _
  rw [cmp_olt_iff, cast_lt, bit_not]
  unfold codeN
  have := bit_le ((cand1 c).tie z1); have := bit_le (bad2 c z1); have := bit_le (bad3 c z1)
  omega

/-- The fourth flag says that the fourth candidate is good. -/
theorem ok4_iff (c : Col Ideal) : ok4 c = 1#1 ↔ ¬ bad4 c z1 = 1#1 := by
  unfold ok4
  rw [codeOf_eq, c8_eq]
  show Ideal.cmp .olt _ _ = 1#1 ↔ _
  rw [cmp_olt_iff, cast_lt, bit_not]
  unfold codeN
  have := bit_le ((cand1 c).tie z1); have := bit_le (bad2 c z1); have := bit_le (bad3 c z1)
  omega

/-- The word that the branch on a tie reads is 1 when the first candidate ties. -/
theorem tieWord_iff (c : Col Ideal) : tieWord c = 1#1 ↔ (cand1 c).tie z1 = 1#1 := by
  rw [← tieBit_iff]
  unfold tieWord
  generalize tieBit c = b
  revert b
  decide

/-- The first candidate's corners are those of its first position, tied or not. -/
theorem corners_spec (c : Col Ideal) {mv : Fin 128 → EReal} {fl : Fin 128 → ℕ} {l0 : Fin 128}
    (h : CandAt c mv fl (fun _ => True) (cand1 c) l0) (hf : ∀ l, c.f1 (ix2 0 l) = (((fl l : ℝ)) : EReal)) (hfl : ∀ l, fl l % 128 = l.val) :
    (corners c).1 z1 = c.x1 (ix2 0 l0) ∧ (corners c).2.1 z1 = c.y1 (ix2 0 l0) ∧ (corners c).2.2.1 z1 = c.x2 (ix2 0 l0)
      ∧ (corners c).2.2.2 z1 = c.y2 (ix2 0 l0) := by
  unfold corners
  by_cases ht : (cand1 c).tie z1 = 1#1
  · rw [if_pos ((tieWord_iff c).mpr ht)]
    have hm : ∀ l, fixm c (ix2 0 l) = 1#1 ↔ l = l0 := fun l => by
      have e : fixm c (ix2 0 l) = Ideal.cmp .oeq (c.f1 (ix2 0 l)) ((0 : EReal) - (cand1 c).negf z1) := by
        unfold fixm
        show Ideal.cmp .oeq (c.f1 (ix2 0 l)) (broadcastTo S1x128 _ broadcasts_S1x1_S1x128 (ix2 0 l)) = _
        rw [bto_apply, ← zf_eq]
        rfl
      rw [e, cmp_oeq_iff, hf, h.neg, zero_sub, ← EReal.coe_neg, neg_neg, cast_eq]
      constructor
      · intro he
        exact Fin.ext (by rw [← hfl l, ← hfl l0, he])
      · rintro rfl; rfl
    have hq := max8_spec ![keep (fixm c) c.x1, keep (fixm c) c.y1, keep (fixm c) c.x2, keep (fixm c) c.y2, keep (fixm c) c.y2,
      keep (fixm c) c.y2, keep (fixm c) c.y2, keep (fixm c) c.y2]
    have q0 : IsMax (fun l => keep (fixm c) c.x1 (ix2 0 l)) ((fixed c).1 z1) :=
      IsMax.cut 0 (hs := slices_S8x1_o0_0_S1x1) (q := fixq c) (hq 0)
    have q1 : IsMax (fun l => keep (fixm c) c.y1 (ix2 0 l)) ((fixed c).2.1 z1) :=
      IsMax.cut 1 (hs := slices_S8x1_o1_0_S1x1) (q := fixq c) (hq 1)
    have q2 : IsMax (fun l => keep (fixm c) c.x2 (ix2 0 l)) ((fixed c).2.2.1 z1) :=
      IsMax.cut 2 (hs := slices_S8x1_o2_0_S1x1) (q := fixq c) (hq 2)
    have q3 : IsMax (fun l => keep (fixm c) c.y2 (ix2 0 l)) ((fixed c).2.2.2 z1) :=
      IsMax.cut 3 (hs := slices_S8x1_o3_0_S1x1) (q := fixq c) (hq 3)
    have h0 := (hm l0).mpr rfl
    have one := fun l hl => (hm l).mp hl
    exact ⟨keep_one q0 h0 one, keep_one q1 h0 one, keep_one q2 h0 one, keep_one q3 h0 one⟩
  · rw [if_neg fun hw => ht ((tieWord_iff c).mp hw)]
    refine h.corner (fun l hl => ?_) trivial
    by_contra hne
    exact ht (h.tie.mpr ⟨l, hne, hl⟩)

end Cert.Nms

end
-- ==== Proof.MergeV.lean ====
/- The folds of the sublanes, over the extended reals: after three of them every sublane knows the best of its
   whole lane. -/
module

public import proofs.«01_k».proof.Proof.PassV

@[expose] public section

set_option maxRecDepth 16384

noncomputable section

namespace Cert.Nms

open Idealize.ShloMosaic
open Cert.KernelIdeal Cert.KernelIdeal.Gen

/-- The sublane `k` before. -/
def back (k : ℕ) (q : Fin 8) : Fin 8 := ⟨(q.val + 8 - k % 8) % 8, Nat.mod_lt _ (by omega)⟩

/-- A rotated array, at an entry. -/
theorem rot_apply {α : Type} (k : BitVec 32) (x : S8x128.Idx → α) (q : Fin 8) (l : Fin 128) :
    dynamicRotate 0 k none x rotates_S8x128_d0 (ix2 q l) = x (ix2 (back k.toNat q) l) :=
  dynamicRotate_apply 0 k x rotates_S8x128_d0 _ _ fun b => by
    match b with
    | ⟨0, _⟩ => rfl
    | ⟨1, _⟩ => rfl

/-- Signed comparison of small words. -/
theorem slt_small (a b : BitVec 32) (ha : a.toNat < 160) (hb : b.toNat < 160) : IntOp.cmpi .slt a b = 1#1 ↔ a.toNat < b.toNat := by
  have h1 : a.toInt = a.toNat := by rw [BitVec.toInt_eq_toNat_cond]; split <;> omega
  have h2 : b.toInt = b.toNat := by rw [BitVec.toInt_eq_toNat_cond]; split <;> omega
  simp only [IntOp.cmpi, BitVec.slt, h1, h2, ofBool_one, decide_eq_true_eq]
  omega

/-- The test of a merge: greater, or as great with an earlier row. -/
theorem before_iff (bv v : FVec Ideal S8x128 .f32) (br r : IVec S8x128 32) (j : S8x128.Idx) :
    ori (cmpf .ogt bv v) (andi (cmpf .oeq bv v) (cmpi .slt br r)) j = 1#1
      ↔ (v j : EReal) < bv j ∨ (bv j = v j ∧ IntOp.cmpi .slt (br j) (r j) = 1#1) := by
  show Ideal.cmp .ogt (bv j) (v j) ||| (Ideal.cmp .oeq (bv j) (v j) &&& IntOp.cmpi .slt (br j) (r j)) = 1#1 ↔ _
  rw [or_iff, and_iff, cmp_ogt_iff, cmp_oeq_iff]

/-- What a merge selects is above both. -/
theorem sel_ge (bv v : FVec Ideal S8x128 .f32) (br r : IVec S8x128 32) (j : S8x128.Idx) :
    (v j : EReal) ≤ select (ori (cmpf .ogt bv v) (andi (cmpf .oeq bv v) (cmpi .slt br r))) bv v j
      ∧ (bv j : EReal) ≤ select (ori (cmpf .ogt bv v) (andi (cmpf .oeq bv v) (cmpi .slt br r))) bv v j := by
  by_cases h : ori (cmpf .ogt bv v) (andi (cmpf .oeq bv v) (cmpi .slt br r)) j = 1#1
  · have e : select (ori (cmpf .ogt bv v) (andi (cmpf .oeq bv v) (cmpi .slt br r))) bv v j = bv j := sel_pos h
    rw [e]
    rcases (before_iff ..).mp h with h' | h'
    exacts [⟨h'.le, le_rfl⟩, ⟨h'.1.ge, le_rfl⟩]
  · have e : select (ori (cmpf .ogt bv v) (andi (cmpf .oeq bv v) (cmpi .slt br r))) bv v j = v j := sel_neg h
    rw [e]
    exact ⟨le_rfl, not_lt.mp fun h' => h ((before_iff ..).mpr (Or.inl h'))⟩

/-- A choice of two small words is small. -/
theorem selW_lt (c : BitVec 1) (a b : BitVec 32) (ha : a.toNat < 160) (hb : b.toNat < 160) : (Scalar.select c a b).toNat < 160 := by
  unfold Scalar.select; split <;> assumption

/-- One fold. -/
theorem merge_at {A : Boxes Ideal} {T : FVec Ideal S160x128 .f32} (k : BitVec 32) {a : Acc Ideal} {P : Fin 8 → ℕ → Prop}
    (h : ∀ q l, AccAt A T a q l (P q)) (q : Fin 8) (l : Fin 128) :
    AccAt A T (a.merge k) q l (fun i => P q i ∨ P (back k.toNat q) i) := by
  have h1 := h q l
  have h2 := h (back k.toNat q) l
  have ev := rot_apply k a.v q l
  have er := rot_apply k a.r q l
  have ev2 := rot_apply k a.v2 q l
  have er2 := rot_apply k a.r2 q l
  have hr : ((a.merge k).r2 (ix2 q l)).toNat < 160 := by
    refine selW_lt _ _ _ (selW_lt _ _ _ ?_ h1.rlt) (selW_lt _ _ _ ?_ h1.r2lt)
    · rw [er2]; exact h2.r2lt
    · rw [er]; exact h2.rlt
  by_cases hb : ori (cmpf .ogt (dynamicRotate 0 k none a.v rotates_S8x128_d0) a.v)
      (andi (cmpf .oeq (dynamicRotate 0 k none a.v rotates_S8x128_d0) a.v)
        (cmpi .slt (dynamicRotate 0 k none a.r rotates_S8x128_d0) a.r)) (ix2 q l) = 1#1
  · have mv : (a.merge k).v (ix2 q l) = a.v (ix2 (back k.toNat q) l) := (sel_pos hb).trans ev
    have mr : (a.merge k).r (ix2 q l) = a.r (ix2 (back k.toNat q) l) := (sel_pos hb).trans er
    have mx : ∀ X : FVec Ideal S8x128 .f32, Scalar.select _ (dynamicRotate 0 k none X rotates_S8x128_d0 (ix2 q l)) (X (ix2 q l)) = X (ix2 (back k.toNat q) l) :=
      fun X => (sel_pos hb).trans (rot_apply k X q l)
    have hu := sel_ge (dynamicRotate 0 k none a.v2 rotates_S8x128_d0) a.v (dynamicRotate 0 k none a.r2 rotates_S8x128_d0) a.r (ix2 q l)
    have mv2 : (a.merge k).v2 (ix2 q l) = _ := sel_pos hb
    have hbb := (before_iff ..).mp hb
    rw [ev, er, slt_small _ _ h2.rlt h1.rlt] at hbb
    refine ⟨?_, by rw [mr]; exact h2.rlt, hr, fun hv => ?_, fun hv => ?_, fun hv => ?_, fun hv => ?_⟩
    · rw [mv, mr]
      refine h1.best.merge_right h2.best hbb ?_ ?_
      · rw [mv2]; exact hu.1
      · rw [mv2]; exact ev2 ▸ hu.2
    · rw [mr]; rw [mv] at hv; exact (mx a.x1).trans (h2.x1 hv)
    · rw [mr]; rw [mv] at hv; exact (mx a.y1).trans (h2.y1 hv)
    · rw [mr]; rw [mv] at hv; exact (mx a.x2).trans (h2.x2 hv)
    · rw [mr]; rw [mv] at hv; exact (mx a.y2).trans (h2.y2 hv)
  · have mv : (a.merge k).v (ix2 q l) = a.v (ix2 q l) := sel_neg hb
    have mr : (a.merge k).r (ix2 q l) = a.r (ix2 q l) := sel_neg hb
    have mx : ∀ X : FVec Ideal S8x128 .f32, Scalar.select _ (dynamicRotate 0 k none X rotates_S8x128_d0 (ix2 q l)) (X (ix2 q l)) = X (ix2 q l) :=
      fun X => sel_neg hb
    have hu := sel_ge (dynamicRotate 0 k none a.v rotates_S8x128_d0) a.v2 (dynamicRotate 0 k none a.r rotates_S8x128_d0) a.r2 (ix2 q l)
    have mv2 : (a.merge k).v2 (ix2 q l) = _ := sel_neg hb
    have hbb := fun h' => hb ((before_iff ..).mpr h')
    rw [ev, er, slt_small _ _ h2.rlt h1.rlt] at hbb
    refine ⟨?_, by rw [mr]; exact h1.rlt, hr, fun hv => ?_, fun hv => ?_, fun hv => ?_, fun hv => ?_⟩
    · rw [mv, mr]
      refine h1.best.merge_left h2.best hbb ?_ ?_
      · rw [mv2]; exact ev ▸ hu.2
      · rw [mv2]; exact hu.1
    · rw [mr]; rw [mv] at hv; exact (mx a.x1).trans (h1.x1 hv)
    · rw [mr]; rw [mv] at hv; exact (mx a.y1).trans (h1.y1 hv)
    · rw [mr]; rw [mv] at hv; exact (mx a.x2).trans (h1.x2 hv)
    · rw [mr]; rw [mv] at hv; exact (mx a.y2).trans (h1.y2 hv)

/-- All three folds: a sublane that knew the rows of its own remainder knows all of them. -/
theorem fold_at {A : Boxes Ideal} {T : FVec Ideal S160x128 .f32} {a : Acc Ideal}
    (h : ∀ q l, AccAt A T a q l (above 20 q)) (l : Fin 128) : AccAt A T a.fold 0 l (fun i => i < 160) := by
  refine (merge_at 1#32 (merge_at 2#32 (merge_at 4#32 h)) 0 l).congr fun i => ?_
  have hb : ∀ (k : ℕ) (q : Fin 8), (back k q).val = (q.val + 8 - k % 8) % 8 := fun _ _ => rfl
  simp only [above, hb, show (1#32).toNat = 1 from rfl, show (2#32).toNat = 2 from rfl, show (4#32).toNat = 4 from rfl, Fin.val_zero]
  omega

end Cert.Nms

end
-- ==== Proof.WinV.lean ====
/- The winners of a round, over the extended reals: each accepted candidate is the first of the greatest scores that are
   left once the winners before it are put aside. -/
module

public import proofs.«01_k».proof.Proof.FlagV
public import proofs.«01_k».proof.Proof.MergeV

@[expose] public section

set_option maxRecDepth 16384

noncomputable section

namespace Cert.Nms

open Idealize.ShloMosaic
open Cert.KernelIdeal Cert.KernelIdeal.Gen

/-- An array by flat position. -/
def E (T : FVec Ideal S160x128 .f32) (i : ℕ) : EReal := lane T ⟨i % 128, Nat.mod_lt _ (by omega)⟩ (i / 128)

/-- A position's entry, by its lane. -/
theorem E_at (T : FVec Ideal S160x128 .f32) (r : ℕ) (l : Fin 128) : E T (128 * r + l.val) = lane T l r := by
  unfold E
  have h1 : (128 * r + l.val) / 128 = r := by omega
  rw [h1]
  congr 1
  exact Fin.ext (by show (128 * r + l.val) % 128 = l.val; omega)

/-- `p` is the first of the greatest scores outside `D`. -/
structure Pick (T : ℕ → EReal) (D : ℕ → Prop) (p : ℕ) : Prop where
  lt : p < 20480
  new : ¬ D p
  le : ∀ i < 20480, ¬ D i → T i ≤ T p
  first : ∀ i < p, ¬ D i → T i < T p

/-- What is known of a lane after a pass: its best row and corners, and a bound of the others. -/
structure ColAt (A : Boxes Ideal) (T : FVec Ideal S160x128 .f32) (c : Col Ideal) (l : Fin 128) (r r2 : ℕ) : Prop where
  best : Lane.Best (lane T l) (fun i => i < 160) (c.v (ix2 0 l)) r (c.v2 (ix2 0 l))
  rlt : r < 160
  f1 : c.f1 (ix2 0 l) = ((((128 * r + l.val : ℕ) : ℝ)) : EReal)
  f2 : c.f2 (ix2 0 l) = ((((128 * r2 + l.val : ℕ) : ℝ)) : EReal)
  x1 : c.v (ix2 0 l) ≠ ⊥ → c.x1 (ix2 0 l) = lane A.x1 l r
  y1 : c.v (ix2 0 l) ≠ ⊥ → c.y1 (ix2 0 l) = lane A.y1 l r
  x2 : c.v (ix2 0 l) ≠ ⊥ → c.x2 (ix2 0 l) = lane A.x2 l r
  y2 : c.v (ix2 0 l) ≠ ⊥ → c.y2 (ix2 0 l) = lane A.y2 l r

/-- The first of eight rows. -/
theorem top_apply {α : Type} (x : S8x128.Idx → α) (l : Fin 128) : extractStridedSlice S1x128 ![0, 0] x slices_S8x128_o0_0_S1x128 (ix2 0 l) = x (ix2 0 l) := by
  unfold extractStridedSlice
  refine congrArg x (funext fun a => Fin.ext ?_)
  match a with
  | ⟨0, _⟩ => rfl
  | ⟨1, _⟩ => show 0 + l.val = l.val; omega

/-- A flat position, as the kernel computes it. -/
theorem flat_apply (v23 : IVec S1x128 32) (hv : ∀ l, v23 (ix2 0 l) = BitVec.ofNat 32 l.val) (r : IVec S8x128 32) (l : Fin 128)
    (hr : (r (ix2 0 l)).toNat < 160) : flatOf (F := Ideal) v23 r (ix2 0 l) = ((((128 * (r (ix2 0 l)).toNat + l.val : ℕ) : ℝ)) : EReal) := by
  have e : flatOf (F := Ideal) v23 r (ix2 0 l)
      = (((((extractStridedSlice S1x128 ![0, 0] r slices_S8x128_o0_0_S1x128 (ix2 0 l)) * 128#32 + v23 (ix2 0 l) : BitVec 32).toInt : ℝ)) : EReal) := rfl
  rw [e, top_apply, hv]
  have hn : (r (ix2 0 l) * 128#32 + BitVec.ofNat 32 l.val : BitVec 32).toNat = 128 * (r (ix2 0 l)).toNat + l.val := by
    rw [BitVec.toNat_add, BitVec.toNat_mul, BitVec.toNat_ofNat, BitVec.toNat_ofNat]
    have := l.isLt
    omega
  have hi : (r (ix2 0 l) * 128#32 + BitVec.ofNat 32 l.val : BitVec 32).toInt = ((128 * (r (ix2 0 l)).toNat + l.val : ℕ) : ℤ) := by
    have := l.isLt
    rw [BitVec.toInt_eq_toNat_cond, hn, if_pos (by omega)]
  rw [hi, Int.cast_natCast]

/-- Every lane after a whole pass. -/
theorem col_at (A : Boxes Ideal) (v24 : IVec S8x128 32) (hv24 : ∀ q l, v24 (ix2 q l) = BitVec.ofNat 32 q.val)
    (v23 : IVec S1x128 32) (hv23 : ∀ l, v23 (ix2 0 l) = BitVec.ofNat 32 l.val) (m : Mem Ideal) (l : Fin 128) :
    ColAt A (supW A m.s m.w) (colOf A v24 v23 m) l ((pass A v24 m).2.fold.r (ix2 0 l)).toNat ((pass A v24 m).2.fold.r2 (ix2 0 l)).toNat := by
  have h := fold_at (pass_spec A v24 hv24 m).2 l
  have tv : (colOf A v24 v23 m).v (ix2 0 l) = (pass A v24 m).2.fold.v (ix2 0 l) := top_apply (pass A v24 m).2.fold.v l
  refine ⟨?_, h.rlt, flat_apply v23 hv23 _ l h.rlt, flat_apply v23 hv23 _ l h.r2lt, fun hv => ?_, fun hv => ?_, fun hv => ?_, fun hv => ?_⟩
  · rw [tv, show (colOf A v24 v23 m).v2 (ix2 0 l) = (pass A v24 m).2.fold.v2 (ix2 0 l) from top_apply (pass A v24 m).2.fold.v2 l]; exact h.best
  · rw [tv] at hv; exact (top_apply _ l).trans (h.x1 hv)
  · rw [tv] at hv; exact (top_apply _ l).trans (h.y1 hv)
  · rw [tv] at hv; exact (top_apply _ l).trans (h.x2 hv)
  · rw [tv] at hv; exact (top_apply _ l).trans (h.y2 hv)

section
variable {A : Boxes Ideal} {T : FVec Ideal S160x128 .f32} {c : Col Ideal} {r r2 : Fin 128 → ℕ}

/-- The first position of a lane's best. -/
abbrev pos (r : Fin 128 → ℕ) (l : Fin 128) : ℕ := 128 * r l + l.val

open Classical in
/-- The greatest of the lanes' values, the lanes `U` answering with their bounds, is attained first where it says, unless by
    a lane of `U`. -/
theorem pick_of (hc : ∀ l, ColAt A T c l (r l) (r2 l)) {U : Fin 128 → Prop} {mv : Fin 128 → EReal} {fl : Fin 128 → ℕ}
    {fresh : Fin 128 → Prop} {k : Cand Ideal} {l0 : Fin 128} (h : CandAt c mv fl fresh k l0)
    (hmv : ∀ l, mv l = if U l then c.v2 (ix2 0 l) else c.v (ix2 0 l)) (hfl : ∀ l, ¬ U l → fl l = pos r l)
    (hU : ∀ l, mv l = k.m z1 → ¬ U l) (hm : k.m z1 ≠ ⊥) :
    Pick (E T) (fun i => ∃ l, U l ∧ i = pos r l) (pos r l0) ∧ E T (pos r l0) = k.m z1 := by
  have hu0 := hU l0 h.at_
  have hv0 : c.v (ix2 0 l0) = k.m z1 := by rw [← h.at_, hmv, if_neg hu0]
  have hE : E T (pos r l0) = k.m z1 := by
    rw [E_at, ← hv0]
    exact ((hc l0).best.at_ (hv0 ▸ hm)).2
  have dec : ∀ i, i = 128 * (i / 128) + (⟨i % 128, Nat.mod_lt _ (by omega)⟩ : Fin 128).val := fun i => (Nat.div_add_mod i 128).symm
  have le : ∀ i < 20480, ¬ (∃ l, U l ∧ i = pos r l) → E T i ≤ mv ⟨i % 128, Nat.mod_lt _ (by omega)⟩ := fun i hi hn => by
    rw [hmv]
    unfold E
    split
    · next hu =>
      refine (hc _).best.rest _ (by omega) fun he => hn ⟨_, hu, ?_⟩
      show i = 128 * r _ + i % 128
      rw [← he]; omega
    · exact (hc _).best.le _ (by omega)
  refine ⟨⟨?_, ?_, fun i hi hn => ?_, fun i hi hn => ?_⟩, hE⟩
  · have := (hc l0).rlt
    have := l0.isLt
    show 128 * r l0 + l0.val < 20480
    omega
  · rintro ⟨l, hl, he⟩
    have : l0 = l := Fin.ext (by
      have he' : 128 * r l0 + l0.val = 128 * r l + l.val := he
      have := l0.isLt; have := l.isLt
      omega)
    exact hu0 (this ▸ hl)
  · rw [hE]; exact (le i hi hn).trans (h.max.le _)
  · rw [hE]
    have hp : pos r l0 < 20480 := by
      have := (hc l0).rlt
      have := l0.isLt
      show 128 * r l0 + l0.val < 20480
      omega
    have hi' : i < 20480 := hi.trans hp
    refine lt_of_le_of_ne ((le i hi' hn).trans (h.max.le _)) fun he => ?_
    have hmvl : mv ⟨i % 128, Nat.mod_lt _ (by omega)⟩ = k.m z1 := le_antisymm (h.max.le _) (he ▸ le i hi' hn)
    have hul := hU _ hmvl
    have hvl : c.v (ix2 0 ⟨i % 128, Nat.mod_lt _ (by omega)⟩) = k.m z1 := by rw [← hmvl, hmv, if_neg hul]
    have hf := h.first _ hmvl
    rw [hfl _ hu0, hfl _ hul] at hf
    have hrow : i / 128 < r ⟨i % 128, Nat.mod_lt _ (by omega)⟩ := by
      have : pos r l0 ≤ 128 * r ⟨i % 128, Nat.mod_lt _ (by omega)⟩ + i % 128 := hf
      omega
    have := (hc _).best.first (hvl ▸ hm) (i / 128) (by omega) hrow
    rw [hvl] at this
    exact absurd he (ne_of_lt this)

/-- The corners are those of position `p`. -/
structure Corner (A : Boxes Ideal) (p : ℕ) (a1 a2 a3 a4 : EReal) : Prop where
  x1 : a1 = E A.x1 p
  y1 : a2 = E A.y1 p
  x2 : a3 = E A.x2 p
  y2 : a4 = E A.y2 p

/-- A lane's corners. -/
theorem corner_at (hc : ∀ l, ColAt A T c l (r l) (r2 l)) (l : Fin 128) (hv : c.v (ix2 0 l) ≠ ⊥) :
    Corner A (pos r l) (c.x1 (ix2 0 l)) (c.y1 (ix2 0 l)) (c.x2 (ix2 0 l)) (c.y2 (ix2 0 l)) :=
  ⟨((hc l).x1 hv).trans (E_at ..).symm, ((hc l).y1 hv).trans (E_at ..).symm, ((hc l).x2 hv).trans (E_at ..).symm,
    ((hc l).y2 hv).trans (E_at ..).symm⟩

/-- A candidate after the first. -/
theorem cand_next (hc : ∀ l, ColAt A T c l (r l) (r2 l)) (u : IVec S1x128 1) (fr : IVec S1x128 1 → IVec S1x128 1) (U : Fin 128 → Prop)
    (hu : ∀ l, u (ix2 0 l) = 1#1 ↔ U l) (hfr : ∀ s l, fr s (ix2 0 l) = 1#1 ↔ s (ix2 0 l) = 1#1 ∧ ¬ U l) (k : Cand Ideal)
    (hk : k = Cand.of c (select u c.v2 c.v) (select u c.f2 c.f1) fr) :
    ∃ l0 : Fin 128, k.lane z1 = ((l0.val : ℝ) : EReal) ∧ (¬ k.tie z1 = 1#1 → ¬ U l0 → k.m z1 ≠ ⊥ →
      Pick (E T) (fun i => ∃ l, U l ∧ i = pos r l) (pos r l0) ∧ E T (pos r l0) = k.m z1
        ∧ Corner A (pos r l0) (k.x1 z1) (k.y1 z1) (k.x2 z1) (k.y2 z1) ∧ ∀ l, k.sel (ix2 0 l) = 1#1 ↔ l = l0) := by
  classical
  have hs : ∀ (x y : FVec Ideal S1x128 .f32) l, select u x y (ix2 0 l) = if U l then x (ix2 0 l) else y (ix2 0 l) := fun x y l => by
    by_cases h : U l
    · rw [if_pos h]; exact sel_pos ((hu l).mpr h)
    · rw [if_neg h]; exact sel_neg fun h' => h ((hu l).mp h')
  obtain ⟨l0, h⟩ := candAt c (select u c.v2 c.v) (select u c.f2 c.f1) fr
    (fun l => if U l then 128 * r2 l + l.val else 128 * r l + l.val) (fun l => ¬ U l) (fun l => by
      rw [hs]; split
      · exact (hc l).f2
      · exact (hc l).f1) (fun l => by have := l.isLt; split <;> omega) hfr
  rw [← hk] at h
  refine ⟨l0, h.lane, fun ht hl hm => ?_⟩
  have one : ∀ l, select u c.v2 c.v (ix2 0 l) = k.m z1 → l = l0 := fun l hl => by
    by_contra hne
    exact ht (h.tie.mpr ⟨l, hne, hl⟩)
  have hp := pick_of hc h (hs _ _) (fun l hl => if_neg hl) (fun l hl' => one l hl' ▸ hl) hm
  have hv : c.v (ix2 0 l0) ≠ ⊥ := by
    have := h.at_
    simp only [hs, if_neg hl] at this
    rw [this]; exact hm
  obtain ⟨e1, e2, e3, e4⟩ := h.corner one hl
  refine ⟨hp.1, hp.2, ?_, fun l => (h.sel l).trans ⟨one l, fun e => e ▸ h.at_⟩⟩
  rw [e1, e2, e3, e4]
  exact corner_at hc l0 hv

/-- The first candidate. -/
theorem cand_first (hc : ∀ l, ColAt A T c l (r l) (r2 l)) :
    (∀ i < 20480, E T i ≤ (cand1 c).m z1) ∧ ∃ l0 : Fin 128, (cand1 c).lane z1 = ((l0.val : ℝ) : EReal)
      ∧ ((cand1 c).m z1 = ⊥ → (cand1 c).tie z1 = 1#1)
      ∧ ((cand1 c).m z1 ≠ ⊥ → Pick (E T) (fun _ => False) (pos r l0) ∧ E T (pos r l0) = (cand1 c).m z1
        ∧ Corner A (pos r l0) ((corners c).1 z1) ((corners c).2.1 z1) ((corners c).2.2.1 z1) ((corners c).2.2.2 z1)
        ∧ (¬ (cand1 c).tie z1 = 1#1 → Corner A (pos r l0) ((cand1 c).x1 z1) ((cand1 c).y1 z1) ((cand1 c).x2 z1) ((cand1 c).y2 z1)
          ∧ ∀ l, s1 c (ix2 0 l) = 1#1 ↔ l = l0)) := by
  classical
  have hfl : ∀ l : Fin 128, (pos r l) % 128 = l.val := fun l => by
    have := l.isLt
    show (128 * r l + l.val) % 128 = l.val
    omega
  obtain ⟨l0, h⟩ := candAt c c.v c.f1 (fun s => s) (pos r) (fun _ => True) (fun l => (hc l).f1) hfl (fun s l => by simp)
  have h : CandAt c (fun l => c.v (ix2 0 l)) (pos r) (fun _ => True) (cand1 c) l0 := h
  refine ⟨fun i hi => ((hc ⟨i % 128, Nat.mod_lt _ (by omega)⟩).best.le (i / 128) (by omega)).trans (h.max.le _), l0, h.lane, fun hm => ?_, fun hm => ?_⟩
  · refine h.tie.mpr ?_
    have hb : ∀ l, c.v (ix2 0 l) = (cand1 c).m z1 := fun l => by
      have := h.max.le l
      rw [hm] at this ⊢
      exact le_bot_iff.mp this
    by_cases h0 : l0 = 0
    · exact ⟨1, by rw [h0]; decide, hb 1⟩
    · exact ⟨0, fun e => h0 e.symm, hb 0⟩
  · have hp := pick_of (U := fun _ => False) hc h (fun l => (if_neg id).symm) (fun l _ => rfl) (fun l _ => id) hm
    have hv : c.v (ix2 0 l0) ≠ ⊥ := by
      rw [show c.v (ix2 0 l0) = _ from h.at_]; exact hm
    obtain ⟨e1, e2, e3, e4⟩ := corners_spec c h (fun l => (hc l).f1) hfl
    refine ⟨?_, hp.2, ?_, fun ht => ?_⟩
    · have e : (fun i => ∃ l : Fin 128, False ∧ i = pos r l) = fun _ : ℕ => False := by funext i; simp
      exact e ▸ hp.1
    · rw [e1, e2, e3, e4]; exact corner_at hc l0 hv
    · have one : ∀ l, c.v (ix2 0 l) = (cand1 c).m z1 → l = l0 := fun l hl => by
        by_contra hne
        exact ht (h.tie.mpr ⟨l, hne, hl⟩)
      obtain ⟨f1, f2, f3, f4⟩ := h.corner one trivial
      refine ⟨?_, fun l => (h.sel l).trans ⟨one l, fun e => e ▸ h.at_⟩⟩
      rw [f1, f2, f3, f4]
      exact corner_at hc l0 hv

end

end Cert.Nms

end
-- ==== Proof.WinsV.lean ====
/- All the winners of a round, over the extended reals. -/
module

public import proofs.«01_k».proof.Proof.WinV

@[expose] public section

set_option maxRecDepth 16384

noncomputable section

namespace Cert.Nms

open Idealize.ShloMosaic
open Cert.KernelIdeal Cert.KernelIdeal.Gen

/-- The box at position `q` suppresses the one at position `i`. -/
def Hit (A : Boxes Ideal) (i q : ℕ) : Prop :=
  half < iouE (E A.x1 i) (E A.y1 i) (E A.x2 i) (E A.y2 i) (E A.ar i) (E A.x1 q) (E A.y1 q) (E A.x2 q) (E A.y2 q)

/-- The areas are the areas of the boxes. -/
def Area (A : Boxes Ideal) : Prop := ∀ i < 20480, E A.ar i = (E A.x2 i - E A.x1 i) * (E A.y2 i - E A.y1 i)

/-- The kernel's test that a candidate overlaps another. -/
theorem supBy_iff (a b : Cand Ideal) : a.supBy b z1 = 1#1 ↔
    half < iouE (a.x1 z1) (a.y1 z1) (a.x2 z1) (a.y2 z1) ((a.x2 z1 - a.x1 z1) * (a.y2 z1 - a.y1 z1)) (b.x1 z1) (b.y1 z1) (b.x2 z1) (b.y2 z1) := by
  have e : a.supBy b z1 = Ideal.cmp .ogt
      (iouE (a.x1 z1) (a.y1 z1) (a.x2 z1) (a.y2 z1) ((a.x2 z1 - a.x1 z1) * (a.y2 z1 - a.y1 z1)) (b.x1 z1) (b.y1 z1) (b.x2 z1) (b.y2 z1)) half := by
    unfold iouE
    rw [← zf_eq]
    rfl
  rw [e, cmp_ogt_iff]

/-- That test is the overlap of the candidates' positions. -/
theorem supBy_hit {A : Boxes Ideal} (hA : Area A) {a b : Cand Ideal} {p q : ℕ} (hp : p < 20480)
    (ha : Corner A p (a.x1 z1) (a.y1 z1) (a.x2 z1) (a.y2 z1)) (hb : Corner A q (b.x1 z1) (b.y1 z1) (b.x2 z1) (b.y2 z1)) :
    a.supBy b z1 = 1#1 ↔ Hit A p q := by
  rw [supBy_iff, ha.x1, ha.y1, ha.x2, ha.y2, hb.x1, hb.y1, hb.x2, hb.y2, ← hA p hp]
  rfl

/-- A candidate is none when it scores −∞. -/
theorem none_iff (k : Cand Ideal) : k.none z1 = 1#1 ↔ k.m z1 = ⊥ := by
  have e : k.none z1 = Ideal.cmp .oeq (k.m z1) ⊥ := by rw [← ninf_eq]; rfl
  rw [e, cmp_oeq_iff]

/-- Candidates of different lanes. -/
theorem lane_ne {a b : Cand Ideal} {l l' : Fin 128} (ha : a.lane z1 = ((l.val : ℝ) : EReal)) (hb : b.lane z1 = ((l'.val : ℝ) : EReal))
    (h : ¬ cmpf .oeq a.lane b.lane z1 = 1#1) : l ≠ l' := fun e => h <| by
  show Ideal.cmp .oeq (a.lane z1) (b.lane z1) = 1#1
  rw [cmp_oeq_iff, ha, hb, e]

/-- A bit `or` is not 1 when neither is. -/
theorem or_not (a b : BitVec 1) : ¬ a ||| b = 1#1 ↔ ¬ a = 1#1 ∧ ¬ b = 1#1 := by rw [or_iff, not_or]

/-- What a refused second candidate is refused for. -/
theorem bad2_not (c : Col Ideal) (h : ¬ bad2 c z1 = 1#1) :
    ¬ (cand1 c).tie z1 = 1#1 ∧ ¬ (cand2 c).tie z1 = 1#1 ∧ ¬ cmpf .oeq (cand1 c).lane (cand2 c).lane z1 = 1#1
      ∧ (cand2 c).m z1 ≠ ⊥ ∧ ¬ (cand2 c).supBy (cand1 c) z1 = 1#1 := by
  have e : bad2 c z1 = ((((cand1 c).tie z1 ||| (cand2 c).tie z1) ||| cmpf .oeq (cand1 c).lane (cand2 c).lane z1) ||| (cand2 c).none z1)
    ||| (cand2 c).supBy (cand1 c) z1 := rfl
  rw [e, or_not, or_not, or_not, or_not, none_iff] at h
  exact ⟨h.1.1.1.1, h.1.1.1.2, h.1.1.2, h.1.2, h.2⟩

/-- A third. -/
theorem bad3_not (c : Col Ideal) (h : ¬ bad3 c z1 = 1#1) :
    ¬ bad2 c z1 = 1#1 ∧ ¬ (cand3 c).tie z1 = 1#1 ∧ ¬ cmpf .oeq (cand3 c).lane (cand1 c).lane z1 = 1#1
      ∧ ¬ cmpf .oeq (cand3 c).lane (cand2 c).lane z1 = 1#1
      ∧ (cand3 c).m z1 ≠ ⊥ ∧ ¬ (cand3 c).supBy (cand1 c) z1 = 1#1 ∧ ¬ (cand3 c).supBy (cand2 c) z1 = 1#1 := by
  have e : bad3 c z1 = ((((bad2 c z1 ||| (cand3 c).tie z1)
    ||| (cmpf .oeq (cand3 c).lane (cand1 c).lane z1 ||| cmpf .oeq (cand3 c).lane (cand2 c).lane z1)) ||| (cand3 c).none z1)
    ||| (cand3 c).supBy (cand1 c) z1) ||| (cand3 c).supBy (cand2 c) z1 := rfl
  rw [e, or_not, or_not, or_not, or_not, or_not, or_not, none_iff] at h
  exact ⟨h.1.1.1.1.1, h.1.1.1.1.2, h.1.1.1.2.1, h.1.1.1.2.2, h.1.1.2, h.1.2, h.2⟩

/-- A fourth. -/
theorem bad4_not (c : Col Ideal) (h : ¬ bad4 c z1 = 1#1) :
    ¬ bad3 c z1 = 1#1 ∧ ¬ (cand4 c).tie z1 = 1#1 ∧ ¬ cmpf .oeq (cand4 c).lane (cand1 c).lane z1 = 1#1
      ∧ ¬ cmpf .oeq (cand4 c).lane (cand2 c).lane z1 = 1#1 ∧ ¬ cmpf .oeq (cand4 c).lane (cand3 c).lane z1 = 1#1
      ∧ (cand4 c).m z1 ≠ ⊥ ∧ ¬ (cand4 c).supBy (cand1 c) z1 = 1#1 ∧ ¬ (cand4 c).supBy (cand2 c) z1 = 1#1
      ∧ ¬ (cand4 c).supBy (cand3 c) z1 = 1#1 := by
  have e : bad4 c z1 = (((((bad3 c z1 ||| (cand4 c).tie z1)
    ||| ((cmpf .oeq (cand4 c).lane (cand1 c).lane z1 ||| cmpf .oeq (cand4 c).lane (cand2 c).lane z1)
      ||| cmpf .oeq (cand4 c).lane (cand3 c).lane z1)) ||| (cand4 c).none z1)
    ||| (cand4 c).supBy (cand1 c) z1) ||| (cand4 c).supBy (cand2 c) z1) ||| (cand4 c).supBy (cand3 c) z1 := rfl
  rw [e, or_not, or_not, or_not, or_not, or_not, or_not, or_not, or_not, none_iff] at h
  exact ⟨h.1.1.1.1.1.1, h.1.1.1.1.1.2, h.1.1.1.1.2.1.1, h.1.1.1.1.2.1.2, h.1.1.1.1.2.2, h.1.1.1.2, h.1.1.2, h.1.2, h.2⟩

/-- The `j`-th winner of a round: picked once those before it are put aside, and not suppressed by them. -/
structure Won (A : Boxes Ideal) (T : ℕ → EReal) (p : ℕ → ℕ) (j : ℕ) (m a1 a2 a3 a4 : EReal) : Prop where
  pick : Pick T (fun i => ∃ j' < j, i = p j') (p j)
  val : T (p j) = m
  ne : m ≠ ⊥
  cor : Corner A (p j) a1 a2 a3 a4
  free : ∀ j' < j, ¬ Hit A (p j) (p j')

/-- The first greatest position depends on the excluded positions only. -/
theorem Pick.congr {T : ℕ → EReal} {D D' : ℕ → Prop} {p : ℕ} (h : Pick T D p) (e : ∀ i, D i ↔ D' i) : Pick T D' p :=
  (funext fun i => propext (e i) : D = D') ▸ h

/-- A mask's complement. -/
theorem notm_iff (x : IVec S1x128 1) (j : S1x128.Idx) : notm x j = 1#1 ↔ ¬ x j = 1#1 := not_iff _

/-- A mask without another. -/
theorem andn_iff (s x : IVec S1x128 1) (j : S1x128.Idx) : andi s (notm x) j = 1#1 ↔ s j = 1#1 ∧ ¬ x j = 1#1 := by
  show s j &&& notm x j = 1#1 ↔ _
  rw [and_iff, notm_iff]

/-- Two masks together. -/
theorem ori_iff (s x : IVec S1x128 1) (j : S1x128.Idx) : ori s x j = 1#1 ↔ s j = 1#1 ∨ x j = 1#1 := or_iff _ _

/-- The winners of a round. -/
theorem wins {A : Boxes Ideal} {T : FVec Ideal S160x128 .f32} {c : Col Ideal} {r r2 : Fin 128 → ℕ} (hA : Area A)
    (hc : ∀ l, ColAt A T c l (r l) (r2 l)) :
    (∀ i < 20480, E T i ≤ (cand1 c).m z1) ∧ (¬ bad2 c z1 = 1#1 → (cand1 c).m z1 ≠ ⊥)
    ∧ ∃ p : ℕ → ℕ,
      ((cand1 c).m z1 ≠ ⊥ → Won A (E T) p 0 ((cand1 c).m z1) ((corners c).1 z1) ((corners c).2.1 z1) ((corners c).2.2.1 z1) ((corners c).2.2.2 z1))
      ∧ (¬ bad2 c z1 = 1#1 → Won A (E T) p 1 ((cand2 c).m z1) ((cand2 c).x1 z1) ((cand2 c).y1 z1) ((cand2 c).x2 z1) ((cand2 c).y2 z1))
      ∧ (¬ bad3 c z1 = 1#1 → Won A (E T) p 2 ((cand3 c).m z1) ((cand3 c).x1 z1) ((cand3 c).y1 z1) ((cand3 c).x2 z1) ((cand3 c).y2 z1))
      ∧ (¬ bad4 c z1 = 1#1 → Won A (E T) p 3 ((cand4 c).m z1) ((cand4 c).x1 z1) ((cand4 c).y1 z1) ((cand4 c).x2 z1) ((cand4 c).y2 z1)) := by
  obtain ⟨hmax, l1, lane1, htie, hw1⟩ := cand_first hc
  have n1 : ¬ bad2 c z1 = 1#1 → (cand1 c).m z1 ≠ ⊥ := fun h hm => (bad2_not c h).1 (htie hm)
  refine ⟨hmax, n1, ?_⟩
  have h2 : ∃ l2 : Fin 128, ¬ bad2 c z1 = 1#1 → (cand2 c).lane z1 = ((l2.val : ℝ) : EReal) ∧ l1 ≠ l2
      ∧ Pick (E T) (fun i => ∃ l, l = l1 ∧ i = pos r l) (pos r l2) ∧ E T (pos r l2) = (cand2 c).m z1
      ∧ Corner A (pos r l2) ((cand2 c).x1 z1) ((cand2 c).y1 z1) ((cand2 c).x2 z1) ((cand2 c).y2 z1)
      ∧ ¬ Hit A (pos r l2) (pos r l1) ∧ ∀ l, s2 c (ix2 0 l) = 1#1 ↔ l = l2 := by
    by_cases hb : bad2 c z1 = 1#1
    · exact ⟨0, fun h => absurd hb h⟩
    obtain ⟨t1, t2, hl, hm, hs⟩ := bad2_not c hb
    obtain ⟨-, -, -, h1⟩ := hw1 (n1 hb)
    obtain ⟨cor1, sel1⟩ := h1 t1
    obtain ⟨l2, lane2, hw2⟩ := cand_next hc (s1 c) (fun s => andi s (notm (s1 c))) (fun l => l = l1) sel1
      (fun s l => by rw [andn_iff, sel1]) (cand2 c) rfl
    have hne := lane_ne lane1 lane2 hl
    obtain ⟨pk, va, co, se⟩ := hw2 t2 (fun e => hne e.symm) hm
    refine ⟨l2, fun _ => ⟨lane2, hne, pk, va, co, fun hh => hs ((supBy_hit hA pk.lt co cor1).mpr hh), fun l => ?_⟩⟩
    show andi (cand2 c).sel (notm (s1 c)) (ix2 0 l) = 1#1 ↔ l = l2
    rw [andn_iff, sel1, se]
    exact ⟨fun h => h.1, fun h => ⟨h, fun e => hne (e.symm.trans h)⟩⟩
  obtain ⟨l2, h2⟩ := h2
  have h3 : ∃ l3 : Fin 128, ¬ bad3 c z1 = 1#1 → (cand3 c).lane z1 = ((l3.val : ℝ) : EReal) ∧ l3 ≠ l1 ∧ l3 ≠ l2
      ∧ Pick (E T) (fun i => ∃ l, (l = l1 ∨ l = l2) ∧ i = pos r l) (pos r l3) ∧ E T (pos r l3) = (cand3 c).m z1
      ∧ Corner A (pos r l3) ((cand3 c).x1 z1) ((cand3 c).y1 z1) ((cand3 c).x2 z1) ((cand3 c).y2 z1)
      ∧ ¬ Hit A (pos r l3) (pos r l1) ∧ ¬ Hit A (pos r l3) (pos r l2) ∧ ∀ l, s3 c (ix2 0 l) = 1#1 ↔ l = l3 := by
    by_cases hb : bad3 c z1 = 1#1
    · exact ⟨0, fun h => absurd hb h⟩
    obtain ⟨hb2, t3, hl1, hl2, hm, hs1, hs2⟩ := bad3_not c hb
    obtain ⟨-, -, -, h1⟩ := hw1 (n1 hb2)
    obtain ⟨cor1, sel1⟩ := h1 (bad2_not c hb2).1
    obtain ⟨lane2, -, -, -, cor2, -, sel2⟩ := h2 hb2
    obtain ⟨l3, lane3, hw3⟩ := cand_next hc (u2 c) (fun s => andi (andi s (notm (s1 c))) (notm (s2 c))) (fun l => l = l1 ∨ l = l2)
      (fun l => by
        show ori (s1 c) (s2 c) (ix2 0 l) = 1#1 ↔ _
        rw [ori_iff, sel1, sel2])
      (fun s l => by rw [andn_iff, andn_iff, sel1, sel2, not_or, and_assoc]) (cand3 c) rfl
    have hne1 := lane_ne lane3 lane1 hl1
    have hne2 := lane_ne lane3 lane2 hl2
    obtain ⟨pk, va, co, se⟩ := hw3 t3 (fun e => e.elim hne1 hne2) hm
    refine ⟨l3, fun _ => ⟨lane3, hne1, hne2, pk, va, co, fun hh => hs1 ((supBy_hit hA pk.lt co cor1).mpr hh),
      fun hh => hs2 ((supBy_hit hA pk.lt co cor2).mpr hh), fun l => ?_⟩⟩
    show andi (andi (cand3 c).sel (notm (s1 c))) (notm (s2 c)) (ix2 0 l) = 1#1 ↔ l = l3
    rw [andn_iff, andn_iff, sel1, sel2, se]
    exact ⟨fun h => h.1.1, fun h => ⟨⟨h, fun e => hne1 (h.symm.trans e)⟩, fun e => hne2 (h.symm.trans e)⟩⟩
  obtain ⟨l3, h3⟩ := h3
  have h4 : ∃ l4 : Fin 128, ¬ bad4 c z1 = 1#1 →
      Pick (E T) (fun i => ∃ l, ((l = l1 ∨ l = l2) ∨ l = l3) ∧ i = pos r l) (pos r l4) ∧ E T (pos r l4) = (cand4 c).m z1
      ∧ Corner A (pos r l4) ((cand4 c).x1 z1) ((cand4 c).y1 z1) ((cand4 c).x2 z1) ((cand4 c).y2 z1)
      ∧ ¬ Hit A (pos r l4) (pos r l1) ∧ ¬ Hit A (pos r l4) (pos r l2) ∧ ¬ Hit A (pos r l4) (pos r l3) := by
    by_cases hb : bad4 c z1 = 1#1
    · exact ⟨0, fun h => absurd hb h⟩
    obtain ⟨hb3, t4, hl1, hl2, hl3, hm, hs1, hs2, hs3⟩ := bad4_not c hb
    have hb2 := (bad3_not c hb3).1
    obtain ⟨-, -, -, h1⟩ := hw1 (n1 hb2)
    obtain ⟨cor1, sel1⟩ := h1 (bad2_not c hb2).1
    obtain ⟨lane2, -, -, -, cor2, -, sel2⟩ := h2 hb2
    obtain ⟨lane3, -, -, -, -, cor3, -, -, sel3⟩ := h3 hb3
    obtain ⟨l4, lane4, hw4⟩ := cand_next hc (u3 c) (fun s => andi (andi (andi s (notm (s1 c))) (notm (s2 c))) (notm (s3 c)))
      (fun l => (l = l1 ∨ l = l2) ∨ l = l3)
      (fun l => by
        show ori (ori (s1 c) (s2 c)) (s3 c) (ix2 0 l) = 1#1 ↔ _
        rw [ori_iff, ori_iff, sel1, sel2, sel3])
      (fun s l => by rw [andn_iff, andn_iff, andn_iff, sel1, sel2, sel3, not_or, not_or, and_assoc, and_assoc, and_assoc]) (cand4 c) rfl
    have hne1 := lane_ne lane4 lane1 hl1
    have hne2 := lane_ne lane4 lane2 hl2
    have hne3 := lane_ne lane4 lane3 hl3
    obtain ⟨pk, va, co, -⟩ := hw4 t4 (fun e => e.elim (fun e => e.elim hne1 hne2) hne3) hm
    exact ⟨l4, fun _ => ⟨pk, va, co, fun hh => hs1 ((supBy_hit hA pk.lt co cor1).mpr hh),
      fun hh => hs2 ((supBy_hit hA pk.lt co cor2).mpr hh), fun hh => hs3 ((supBy_hit hA pk.lt co cor3).mpr hh)⟩⟩
  obtain ⟨l4, h4⟩ := h4
  refine ⟨fun j => pos r (if j = 0 then l1 else if j = 1 then l2 else if j = 2 then l3 else l4), fun hm => ?_, fun hb => ?_, fun hb => ?_, fun hb => ?_⟩
  · obtain ⟨pk, va, co, -⟩ := hw1 hm
    exact ⟨pk.congr fun i => ⟨False.elim, fun ⟨j, hj, _⟩ => absurd hj (by omega)⟩, va, hm, co, fun j hj => absurd hj (by omega)⟩
  · obtain ⟨-, -, pk, va, co, f1, -⟩ := h2 hb
    refine ⟨pk.congr fun i => ⟨?_, ?_⟩, va, (bad2_not c hb).2.2.2.1, co, fun j hj => ?_⟩
    · rintro ⟨l, rfl, e⟩; exact ⟨0, by omega, e⟩
    · rintro ⟨j, hj, e⟩
      obtain rfl : j = 0 := by omega
      exact ⟨l1, rfl, e⟩
    · obtain rfl : j = 0 := by omega
      exact f1
  · obtain ⟨-, -, -, pk, va, co, f1, f2, -⟩ := h3 hb
    refine ⟨pk.congr fun i => ⟨?_, ?_⟩, va, (bad3_not c hb).2.2.2.2.1, co, fun j hj => ?_⟩
    · rintro ⟨l, rfl | rfl, e⟩
      exacts [⟨0, by omega, e⟩, ⟨1, by omega, e⟩]
    · rintro ⟨j, hj, e⟩
      obtain rfl | rfl : j = 0 ∨ j = 1 := by omega
      exacts [⟨l1, Or.inl rfl, e⟩, ⟨l2, Or.inr rfl, e⟩]
    · obtain rfl | rfl : j = 0 ∨ j = 1 := by omega
      exacts [f1, f2]
  · obtain ⟨pk, va, co, f1, f2, f3⟩ := h4 hb
    refine ⟨pk.congr fun i => ⟨?_, ?_⟩, va, (bad4_not c hb).2.2.2.2.2.1, co, fun j hj => ?_⟩
    · rintro ⟨l, (rfl | rfl) | rfl, e⟩
      exacts [⟨0, by omega, e⟩, ⟨1, by omega, e⟩, ⟨2, by omega, e⟩]
    · rintro ⟨j, hj, e⟩
      obtain rfl | rfl | rfl : j = 0 ∨ j = 1 ∨ j = 2 := by omega
      exacts [⟨l1, Or.inl (Or.inl rfl), e⟩, ⟨l2, Or.inl (Or.inr rfl), e⟩, ⟨l3, Or.inr rfl, e⟩]
    · obtain rfl | rfl | rfl : j = 0 ∨ j = 1 ∨ j = 2 := by omega
      exacts [f1, f2, f3]

end Cert.Nms

end
-- ==== Proof.GreedyV.lean ====
/- Greedy suppression one winner at a time, and how many winners of one round are as many of its steps. -/
module

public import proofs.«01_k».proof.Proof.WinsV

@[expose] public section

set_option maxRecDepth 16384

noncomputable section

namespace Cert.Nms

open Idealize.ShloMosaic
open Cert.KernelIdeal Cert.KernelIdeal.Gen

/-- Greedy suppression: `S n` the scores before step `n`, `b n` the first of the greatest. A box that scores at all
    suppresses itself. -/
structure Greedy (A : Boxes Ideal) (S : ℕ → ℕ → EReal) (b : ℕ → ℕ) : Prop where
  pick : ∀ n, Pick (S n) (fun _ => False) (b n)
  hit : ∀ n, ∀ i < 20480, Hit A i (b n) → S n (b n) ≠ ⊥ → S (n + 1) i = ⊥
  keep : ∀ n, ∀ i < 20480, ¬ (Hit A i (b n) ∧ S n (b n) ≠ ⊥) → S (n + 1) i = S n i
  self : ∀ i < 20480, S 0 i ≠ ⊥ → Hit A i i

/-- There is one first greatest position. -/
theorem Pick.uniq {T : ℕ → EReal} {D : ℕ → Prop} {p q : ℕ} (h : Pick T D p) (h' : Pick T D q) : p = q := by
  rcases lt_trichotomy p q with hlt | he | hgt
  · exact absurd (h'.first p hlt h.new) (not_lt.mpr (h.le q h'.lt h'.new))
  · exact he
  · exact absurd (h.first q hgt h'.new) (not_lt.mpr (h'.le p h.lt h.new))

variable {A : Boxes Ideal} {S : ℕ → ℕ → EReal} {b : ℕ → ℕ}

/-- A position that still scores suppresses itself. -/
theorem Greedy.alive (g : Greedy A S b) : ∀ n, ∀ i < 20480, S n i ≠ ⊥ → Hit A i i
  | 0, i, hi, h => g.self i hi h
  | n + 1, i, hi, h => by
    by_cases hh : Hit A i (b n) ∧ S n (b n) ≠ ⊥
    · exact absurd (g.hit n i hi hh.1 hh.2) h
    · exact g.alive n i hi (g.keep n i hi hh ▸ h)

/-- Winners of a round are steps: the state after `k` of them. -/
structure After (A : Boxes Ideal) (S : ℕ → ℕ → EReal) (b : ℕ → ℕ) (p : ℕ → ℕ) (n k : ℕ) : Prop where
  win : ∀ j < k, b (n + j) = p j ∧ S (n + j) (p j) = S n (p j)
  gone : ∀ i < 20480, (∃ j < k, Hit A i (p j)) → S (n + k) i = ⊥
  stay : ∀ i < 20480, ¬ (∃ j < k, Hit A i (p j)) → S (n + k) i = S n i

/-- Winners of a round, each the best of the others' rest and overlapping none of them, are that many steps. -/
theorem Greedy.chain (g : Greedy A S b) {p : ℕ → ℕ} {n : ℕ} : ∀ k,
    (∀ j < k, Pick (S n) (fun i => ∃ j' < j, i = p j') (p j) ∧ S n (p j) ≠ ⊥ ∧ ∀ j' < j, ¬ Hit A (p j) (p j')) → After A S b p n k
  | 0, _ => ⟨fun j hj => absurd hj (by omega), fun i _ ⟨j, hj, _⟩ => absurd hj (by omega), fun i _ _ => rfl⟩
  | k + 1, h => by
    have ih := g.chain k fun j hj => h j (by omega)
    obtain ⟨pk, ne, free⟩ := h k (by omega)
    have hk : S (n + k) (p k) = S n (p k) := ih.stay _ pk.lt fun ⟨j, hj, hh⟩ => free j hj hh
    have hle : ∀ i < 20480, S (n + k) i ≤ S n i := fun i hi => by
      by_cases hh : ∃ j < k, Hit A i (p j)
      · rw [ih.gone i hi hh]; exact bot_le
      · rw [ih.stay i hi hh]
    have hD : ∀ i < 20480, (∃ j' < k, i = p j') → S (n + k) i = ⊥ := fun i hi ⟨j, hj, e⟩ =>
      ih.gone i hi ⟨j, hj, e ▸ g.alive n (p j) (e ▸ hi) (h j (by omega)).2.1⟩
    have hp : Pick (S (n + k)) (fun _ => False) (p k) := ⟨pk.lt, id, fun i hi _ => by
      by_cases hd : ∃ j' < k, i = p j'
      · rw [hD i hi hd]; exact bot_le
      · rw [hk]; exact (hle i hi).trans (pk.le i hi hd), fun i hi _ => by
      have hi' := hi.trans pk.lt
      by_cases hd : ∃ j' < k, i = p j'
      · rw [hD i hi' hd, hk]; exact bot_lt_iff_ne_bot.mpr ne
      · rw [hk]; exact (hle i hi').trans_lt (pk.first i hi hd)⟩
    have hb : b (n + k) = p k := (g.pick (n + k)).uniq hp
    have hne : S (n + k) (b (n + k)) ≠ ⊥ := by rw [hb, hk]; exact ne
    refine ⟨fun j hj => ?_, fun i hi hh => ?_, fun i hi hh => ?_⟩
    · rcases Nat.lt_succ_iff_lt_or_eq.mp hj with hj' | rfl
      · exact ih.win j hj'
      · exact ⟨hb, hk⟩
    · by_cases h0 : Hit A i (b (n + k))
      · exact g.hit (n + k) i hi h0 hne
      · have : ∃ j < k, Hit A i (p j) := by
          obtain ⟨j, hj, hh⟩ := hh
          rcases Nat.lt_succ_iff_lt_or_eq.mp hj with hj' | rfl
          · exact ⟨j, hj', hh⟩
          · exact absurd (hb ▸ hh) h0
        exact (g.keep (n + k) i hi fun h' => h0 h'.1).trans (ih.gone i hi this)
    · have h0 : ¬ Hit A i (b (n + k)) := fun h' => hh ⟨k, by omega, hb ▸ h'⟩
      exact (g.keep (n + k) i hi fun h' => h0 h'.1).trans (ih.stay i hi fun ⟨j, hj, h'⟩ => hh ⟨j, by omega, h'⟩)

/-- Nothing left: a step changes nothing. -/
theorem Greedy.idle (g : Greedy A S b) {n : ℕ} (h : ∀ i < 20480, S n i ≤ ⊥) : S n (b n) = ⊥ ∧ ∀ i < 20480, S (n + 1) i = S n i := by
  have hb : S n (b n) = ⊥ := le_bot_iff.mp (h _ (g.pick n).lt)
  exact ⟨hb, fun i hi => g.keep n i hi fun h' => h'.2 hb⟩

/-! ### Result rows -/

/-- One entry of a row of a position of the given score. -/
def rowE (A : Boxes Ideal) (p : ℕ) (v : EReal) (l : Fin 128) : EReal :=
  if l.val = 0 then E A.x1 p else if l.val = 1 then E A.y1 p else if l.val = 2 then E A.x2 p else if l.val = 3 then E A.y2 p
  else if l.val = 4 then v else 0

open Classical in
/-- Row `k` of the result of greedy suppression. -/
def rowS (A : Boxes Ideal) (S : ℕ → ℕ → EReal) (b : ℕ → ℕ) (k : ℕ) (l : Fin 128) : EReal :=
  if S k (b k) = ⊥ then 0 else rowE A (b k) (S k (b k)) l

/-- Small words are equal when the numbers are. -/
theorem eqW_iff (l k : ℕ) (hl : l < 128) (hk : k < 128) : IntOp.cmpi .eq (BitVec.ofNat 32 l) (BitVec.ofNat 32 k) = 1#1 ↔ l = k := by
  have : BitVec.ofNat 32 l = BitVec.ofNat 32 k ↔ l = k := by
    constructor
    · intro h
      have := congrArg BitVec.toNat h
      rw [BitVec.toNat_ofNat, BitVec.toNat_ofNat] at this
      omega
    · rintro rfl; rfl
  simp only [IntOp.cmpi, ofBool_one, beq_iff_eq, this]

/-- A one-entry array reshaped to itself. -/
theorem sc1 (x : FVec Ideal S1x1 .f32) (h : S1x1.ShapeCasts S1x1) : shapeCast S1x1 x h z1 = x z1 := congrArg x (idx1 _)

/-- A one-lane row: the value at its lane, zero elsewhere. -/
theorem cell_apply (v23 : IVec S1x128 32) (hv : ∀ l, v23 (ix2 0 l) = BitVec.ofNat 32 l.val) (k : ℕ) (hk : k < 128)
    (x : FVec Ideal S1x1 .f32) (l : Fin 128) : cell v23 (BitVec.ofNat 32 k) x (ix2 0 l) = if l.val = k then x z1 else (0 : EReal) := by
  have hc : cmpi .eq v23 (broadcast S1x128 (BitVec.ofNat 32 k)) (ix2 0 l) = 1#1 ↔ l.val = k := by
    show IntOp.cmpi .eq (v23 (ix2 0 l)) (BitVec.ofNat 32 k) = 1#1 ↔ _
    rw [hv]; exact eqW_iff _ _ l.isLt hk
  unfold cell
  by_cases h : l.val = k
  · rw [if_pos h]
    refine (sel_pos (hc.mpr h)).trans ?_
    rw [bto_apply]; exact sc1 _ _
  · rw [if_neg h]
    exact (sel_neg fun h' => h (hc.mp h')).trans zf_eq

/-- A winner's row, entry by entry. -/
theorem rowOf_apply (v23 : IVec S1x128 32) (hv : ∀ l, v23 (ix2 0 l) = BitVec.ofNat 32 l.val) (k : Corners Ideal)
    (m : FVec Ideal S1x1 .f32) (p : ℕ) (hk : Corner A p (k.1 z1) (k.2.1 z1) (k.2.2.1 z1) (k.2.2.2 z1)) (l : Fin 128) :
    rowOf v23 k m (ix2 0 l) = rowE A p (m z1) l := by
  have e : rowOf v23 k m (ix2 0 l) = (cell v23 (BitVec.ofNat 32 0) k.1 (ix2 0 l) + cell v23 (BitVec.ofNat 32 1) k.2.1 (ix2 0 l)
    + cell v23 (BitVec.ofNat 32 2) k.2.2.1 (ix2 0 l) + cell v23 (BitVec.ofNat 32 3) k.2.2.2 (ix2 0 l)
    + cell v23 (BitVec.ofNat 32 4) m (ix2 0 l) : EReal) := rfl
  rw [e, cell_apply v23 hv 0 (by omega), cell_apply v23 hv 1 (by omega), cell_apply v23 hv 2 (by omega), cell_apply v23 hv 3 (by omega),
    cell_apply v23 hv 4 (by omega), hk.x1, hk.y1, hk.x2, hk.y2]
  unfold rowE
  by_cases h0 : l.val = 0
  · simp [h0]
  by_cases h1 : l.val = 1
  · simp [h1]
  by_cases h2 : l.val = 2
  · simp [h2]
  by_cases h3 : l.val = 3
  · simp [h3]
  by_cases h4 : l.val = 4
  · simp [h4]
  simp [h0, h1, h2, h3, h4]

/-- The first row's mask is set when the first winner scores. -/
theorem row1_valid (c : Col Ideal) (l : Fin 128) :
    broadcastTo S1x128 (shapeCast S1x1 (cmpf .one (cand1 c).m (broadcast S1x1 (ninf Ideal))) shapeCasts_S1x1_S1x1) broadcasts_S1x1_S1x128 (ix2 0 l) = 1#1
      ↔ (cand1 c).m z1 ≠ ⊥ := by
  rw [bto_apply]
  have e : shapeCast S1x1 (cmpf .one (cand1 c).m (broadcast S1x1 (ninf Ideal))) shapeCasts_S1x1_S1x1 z1 = Ideal.cmp .one ((cand1 c).m z1) ⊥ := by
    rw [← ninf_eq]
    exact congrArg (cmpf .one (cand1 c).m (broadcast S1x1 (ninf Ideal))) (idx1 _)
  rw [e, cmp_one_iff]

/-- A result with one row replaced, at an entry. -/
theorem putR_apply (O : FVec Ideal S100x128 .f32) (n : ℕ) (row : FVec Ideal S1x128 .f32) (k : Fin 100) (l : Fin 128) :
    putR O ![n, 0] row (ix2 k l) = if k.val = n then row (ix2 0 l) else O (ix2 k l) := by
  unfold putR VecWindow.put
  split
  · next hi =>
    have h0 : n ≤ k.val ∧ k.val < n + 1 := hi 0
    rw [if_pos (by omega)]
    refine congrArg row (funext fun a => ?_)
    match a with
    | ⟨0, _⟩ => exact Subsingleton.elim (α := Fin 1) _ _
    | ⟨1, _⟩ => exact Fin.ext (by show l.val - 0 = l.val; omega)
  · next hi =>
    rw [if_neg fun hk => hi fun a => by
      match a with
      | ⟨0, _⟩ => show n ≤ k.val ∧ k.val < n + 1; omega
      | ⟨1, _⟩ =>
        have := l.isLt
        show 0 ≤ l.val ∧ l.val < 0 + 128
        omega]

/-- A guarded write of a row: that row when the guard holds, the others as they were. -/
theorem rowF_apply (O : FVec Ideal S100x128 .f32) (n : ℕ) (cond : BitVec 1) (row : FVec Ideal S1x128 .f32) (k : Fin 100) (l : Fin 128) :
    rowF ![n, 0] cond row O (ix2 k l) = if cond = 1#1 ∧ k.val = n then row (ix2 0 l) else O (ix2 k l) := by
  unfold rowF
  by_cases h : cond = 1#1
  · rw [if_pos h, putR_apply]
    simp only [h, true_and]
  · rw [if_neg h, if_neg fun h' => h h'.1]

end Cert.Nms

end
-- ==== Proof.RefV.lean ====
module

public import proofs.«01_k».proof.Proof.StepV
public import proofs.«01_k».proof.Proof.LastV
public import proofs.«01_k».proof.Proof.GreedyV

/-! The reference is greedy suppression: its trips are the steps, its result the rows. -/

@[expose] public section

set_option maxRecDepth 16384

noncomputable section

namespace Cert.ReferenceIdeal.Trips

open Idealize.ShloMosaic Idealize.ShloMosaic.TcCoe
open Cert.ReferenceIdeal Cert.ReferenceIdeal.Gen
open Idealize.ShloMosaic.StableHlo
open Cert.Nms (half iouE E Greedy Hit rowS rowE)

variable (m : (ℓ : Loc nD τ sig) → Buf (Elt Ideal) ℓ) (c : Dev nD)

/-- The area of a box as launched. -/
abbrev ga (i : Fin 20000) : EReal := (gb m c i 2 - gb m c i 0) * (gb m c i 3 - gb m c i 1)

/-- Two boxes as launched overlap. -/
def HitR (i q : Fin 20000) : Prop :=
  half < iouE (gb m c i 0) (gb m c i 1) (gb m c i 2) (gb m c i 3) (ga m c i) (gb m c q 0) (gb m c q 1) (gb m c q 2) (gb m c q 3)

/-- What the candidates' test leaves of a score. -/
abbrev thr : EReal := Ideal.ofBits .f32 1028443341#32

/-- A candidate's score is below ∞ and the candidate overlaps itself. -/
def Proper : Prop := ∀ i, thr < gs m c i → gs m c i < ⊤ ∧ HitR m c i i

/-- No trip changes these buffers. -/
theorem kept_at (n : ℕ) {a : Ref sig .tc} (h : a ∈ kept) : after condOps (Wk m n c) (Proc.devRef .tc a) = Wk m 0 c (Proc.devRef .tc a) :=
  (cond_keep _ ((by decide : ∀ a ∈ kept, a ∉ condOps_W) a h)).trans (Wk_kept m c n a h)

/-- Left edges at every trip. -/
theorem kx1 (n : ℕ) (i : Fin 20000) : X1 (after condOps (Wk m n c)) i = gb m c i 0 := (congrFun (kept_at m c n (by decide)) _).trans (e1 m c i)
/-- Upper edges at every trip. -/
theorem ky1 (n : ℕ) (i : Fin 20000) : Y1 (after condOps (Wk m n c)) i = gb m c i 1 := (congrFun (kept_at m c n (by decide)) _).trans (e2 m c i)
/-- Right edges at every trip. -/
theorem kx2 (n : ℕ) (i : Fin 20000) : X2 (after condOps (Wk m n c)) i = gb m c i 2 := (congrFun (kept_at m c n (by decide)) _).trans (e3 m c i)
/-- Lower edges at every trip. -/
theorem ky2 (n : ℕ) (i : Fin 20000) : Y2 (after condOps (Wk m n c)) i = gb m c i 3 := (congrFun (kept_at m c n (by decide)) _).trans (e4 m c i)
/-- Areas at every trip. -/
theorem kar (n : ℕ) (i : Fin 20000) : AR (after condOps (Wk m n c)) i = ga m c i := by
  refine (congrFun (kept_at m c n (by decide)) _).trans ((e5 m c i).trans ?_)
  rw [X2, X1, Y2, Y1, e1, e2, e3, e4]
/-- Boxes at every trip. -/
theorem kb (n : ℕ) (i : Fin 20000) (l : Fin 4) : B (after condOps (Wk m n c)) i l = gb m c i l :=
  congrFun ((kept_at m c n (by decide)).trans (e00 m c)) _

/-- One trip in the launched arrays. -/
theorem trip_at (n : ℕ) : ∃ r : Fin 20000,
    (∀ i, Sc (Wk m n c) i ≤ Sc (Wk m n c) r) ∧ (∀ i, i.val < r.val → Sc (Wk m n c) i < Sc (Wk m n c) r)
    ∧ (∀ i, (HitR m c i r ∧ ⊥ < Sc (Wk m n c) r ∧ Sc (Wk m n c) r < ⊤ → Sc (Wk m (n + 1) c) i = ⊥)
      ∧ (¬ (HitR m c i r ∧ ⊥ < Sc (Wk m n c) r ∧ Sc (Wk m n c) r < ⊤) → Sc (Wk m (n + 1) c) i = Sc (Wk m n c) i))
    ∧ (n < 100 → ∀ j : Fin 100,
        Wk m (n + 1) c (Proc.devRef .tc main_v16_8) (ix1 j) = (if j.val = n then BitVec.ofNat 32 r.val else Wk m n c (Proc.devRef .tc main_v16_8) (ix1 j))
        ∧ (Wk m (n + 1) c (Proc.devRef .tc main_v16_9) (ix1 j) = 1#1
          ↔ if j.val = n then ⊥ < Sc (Wk m n c) r ∧ Sc (Wk m n c) r < ⊤ else Wk m n c (Proc.devRef .tc main_v16_9) (ix1 j) = 1#1)) := by
  obtain ⟨r, h1, h2, h3, h4⟩ := trip_scores (after condOps (Wk m n c))
  have es : ∀ i, Sc (after condOps (Wk m n c)) i = Sc (Wk m n c) i := fun i => congrFun (cond_keep (Wk m n c) (a := main_v16_7) (by decide)) _
  have e8 : after condOps (Wk m n c) (Proc.devRef .tc main_v16_8) = Wk m n c (Proc.devRef .tc main_v16_8) := cond_keep _ (by decide)
  have e9 : after condOps (Wk m n c) (Proc.devRef .tc main_v16_9) = Wk m n c (Proc.devRef .tc main_v16_9) := cond_keep _ (by decide)
  simp only [es, e8, e9] at h1 h2 h3 h4
  refine ⟨r, h1, h2, fun i => ?_, fun hn j => ?_⟩
  · have h := h3 i
    rw [kx1, ky1, kx2, ky2, kar, kb, kb, kb, kb] at h
    exact ⟨fun h' => h.trans (if_pos h'), fun h' => h.trans (if_neg h')⟩
  refine h4 n hn ?_ j
  rw [cond_keep _ (by decide), ctr_at]
  funext _
  simp [Scf.iv]

/-- The position a trip picks. -/
def rr (n : ℕ) : Fin 20000 := (trip_at m c n).choose

/-- The scores before a trip; none beyond the last box. -/
def Sr (n i : ℕ) : EReal := if h : i < 20000 then Sc (Wk m n c) ⟨i, h⟩ else ⊥

/-- A box's score before a trip. -/
theorem Sr_of (n : ℕ) {i : ℕ} (h : i < 20000) : Sr m c n i = Sc (Wk m n c) ⟨i, h⟩ := dif_pos h
/-- No score beyond the last box. -/
theorem Sr_out (n : ℕ) {i : ℕ} (h : ¬ i < 20000) : Sr m c n i = ⊥ := dif_neg h

/-- A box's score before a trip. -/
theorem Sr_at (n : ℕ) (i : Fin 20000) : Sr m c n i.val = Sc (Wk m n c) i := dif_pos i.isLt

variable {m c}

/-- No score is ∞. -/
theorem Proper.lt_top (hp : Proper m c) : ∀ n i, Sc (Wk m n c) i < ⊤
  | 0, i => by
    rw [e7]
    by_cases h : thr < gs m c i
    · rw [if_pos h]; exact (hp i h).1
    · rw [if_neg h]; exact bot_lt_top
  | n + 1, i => by
    obtain ⟨r, _, _, h, _⟩ := trip_at m c n
    by_cases hh : HitR m c i r ∧ ⊥ < Sc (Wk m n c) r ∧ Sc (Wk m n c) r < ⊤
    · rw [(h i).1 hh]; exact bot_lt_top
    · rw [(h i).2 hh]; exact hp.lt_top n i

/-- A score left is the score launched. -/
theorem left (n : ℕ) (i : Fin 20000) : Sc (Wk m n c) i ≠ ⊥ → Sc (Wk m n c) i = gs m c i ∧ thr < gs m c i := by
  induction n with
  | zero =>
    rw [e7]
    by_cases h : thr < gs m c i
    · rw [if_pos h]; exact fun _ => ⟨rfl, h⟩
    · rw [if_neg h]; exact fun h => absurd rfl h
  | succ n ih =>
    obtain ⟨r, _, _, h, _⟩ := trip_at m c n
    by_cases hh : HitR m c i r ∧ ⊥ < Sc (Wk m n c) r ∧ Sc (Wk m n c) r < ⊤
    · rw [(h i).1 hh]; exact fun h => absurd rfl h
    · rw [(h i).2 hh]; exact ih

/-- The kernel's boxes are the boxes launched. -/
structure Agrees (A : Cert.Nms.Boxes Ideal) (m : (ℓ : Loc nD τ sig) → Buf (Elt Ideal) ℓ) (c : Dev nD) : Prop where
  x1 : ∀ i : Fin 20000, E A.x1 i.val = gb m c i 0
  y1 : ∀ i : Fin 20000, E A.y1 i.val = gb m c i 1
  x2 : ∀ i : Fin 20000, E A.x2 i.val = gb m c i 2
  y2 : ∀ i : Fin 20000, E A.y2 i.val = gb m c i 3
  ar : Cert.Nms.Area A

variable {A : Cert.Nms.Boxes Ideal}

/-- The kernel's overlap is the reference's. -/
theorem Agrees.hit (h : Agrees A m c) (i q : Fin 20000) : Hit A i.val q.val ↔ HitR m c i q := by
  have ha : E A.ar i.val = ga m c i := by rw [h.ar i.val (by omega), h.x1, h.y1, h.x2, h.y2]
  unfold Hit HitR
  rw [ha, h.x1, h.y1, h.x2, h.y2, h.x1, h.y1, h.x2, h.y2]

/-- The trips are the steps of greedy suppression. -/
theorem Agrees.greedy (h : Agrees A m c) (hp : Proper m c) : Greedy A (Sr m c) (fun n => (rr m c n).val) where
  pick n := by
    obtain ⟨h1, h2, _⟩ := (trip_at m c n).choose_spec
    refine ⟨by omega, id, fun i _ _ => ?_, fun i hi _ => ?_⟩
    · rw [Sr_at]
      by_cases hi : i < 20000
      · exact (dif_pos hi).trans_le (h1 ⟨i, hi⟩)
      · exact (dif_neg hi).trans_le bot_le
    · rw [Sr_at]
      exact (dif_pos (hi.trans (rr m c n).isLt)).trans_lt (h2 ⟨i, hi.trans (rr m c n).isLt⟩ hi)
  hit n i _ hh hne := by
    obtain ⟨_, _, h3, _⟩ := (trip_at m c n).choose_spec
    by_cases hi : i < 20000
    · rw [Sr_at] at hne
      exact (dif_pos hi).trans ((h3 ⟨i, hi⟩).1 ⟨(h.hit ⟨i, hi⟩ _).mp hh, bot_lt_iff_ne_bot.mpr hne, hp.lt_top n _⟩)
    · exact dif_neg hi
  keep n i _ hh := by
    obtain ⟨_, _, h3, _⟩ := (trip_at m c n).choose_spec
    by_cases hi : i < 20000
    · refine (Sr_of m c _ hi).trans (((h3 ⟨i, hi⟩).2 fun h' => hh ⟨(h.hit ⟨i, hi⟩ _).mpr h'.1, ?_⟩).trans (Sr_of m c _ hi).symm)
      rw [Sr_at]
      exact bot_lt_iff_ne_bot.mp h'.2.1
    · exact (Sr_out m c _ hi).trans (Sr_out m c _ hi).symm
  self i _ hne := by
    by_cases hi : i < 20000
    · rw [show Sr m c 0 i = Sc (Wk m 0 c) ⟨i, hi⟩ from dif_pos hi] at hne
      exact (h.hit ⟨i, hi⟩ ⟨i, hi⟩).mpr (hp _ (left 0 _ hne).2).2
    · exact absurd (dif_neg hi) hne

/-- The records after the trips. -/
theorem records (hp : Proper m c) : ∀ n ≤ 100, ∀ j : Fin 100, j.val < n →
    Wk m n c (Proc.devRef .tc main_v16_8) (ix1 j) = BitVec.ofNat 32 (rr m c j.val).val
    ∧ (Wk m n c (Proc.devRef .tc main_v16_9) (ix1 j) = 1#1 ↔ Sc (Wk m j.val c) (rr m c j.val) ≠ ⊥)
  | 0, _, _, h => absurd h (by omega)
  | n + 1, hn, j, hj => by
    obtain ⟨_, _, _, h4⟩ := (trip_at m c n).choose_spec
    obtain ⟨h8, h9⟩ := h4 (by omega) j
    rw [h8, h9]
    by_cases e : j.val = n
    · rw [if_pos e, if_pos e, e]
      exact ⟨rfl, fun h => bot_lt_iff_ne_bot.mp h.1, fun h => ⟨bot_lt_iff_ne_bot.mpr h, hp.lt_top n _⟩⟩
    · rw [if_neg e, if_neg e]
      exact records hp n (by omega) j (by omega)

/-- A true flag as a number. -/
theorem uitofp_one : (FloatOps.uitofp (F := Ideal) .f32 (1#1) : EReal) = 1 := by
  simp [FloatOps.uitofp]

/-- A false flag as a number. -/
theorem uitofp_zero : (FloatOps.uitofp (F := Ideal) .f32 (0#1) : EReal) = 0 := by
  simp [FloatOps.uitofp]

/-- The result is the rows of greedy suppression. -/
theorem Agrees.result (h : Agrees A m c) (hp : Proper m c) (k : Fin 100) (l : Fin 128) :
    fin m c (Proc.devRef .tc main_v38) (ix2 k l) = rowS A (Sr m c) (fun n => (rr m c n).val) k.val l := by
  obtain ⟨h8, h9⟩ := records hp 100 le_rfl k k.isLt
  have k8 : after condOps (Wk m 100 c) (Proc.devRef .tc main_v16_8) (ix1 k) = BitVec.ofNat 32 (rr m c k.val).val :=
    (congrFun (cond_keep _ (by decide)) _).trans h8
  have k9 : after condOps (Wk m 100 c) (Proc.devRef .tc main_v16_9) (ix1 k) = Wk m 100 c (Proc.devRef .tc main_v16_9) (ix1 k) :=
    congrFun (cond_keep _ (by decide)) _
  have g0 : ∀ l, G0 (after condOps (Wk m 100 c)) (rr m c k.val) l = gb m c (rr m c k.val) l := fun l =>
    congrFun ((kept_at m c 100 (by decide)).trans (entry_arg0 m c)) _
  have g1 : after condOps (Wk m 100 c) (Proc.devRef .tc main_arg1) (ix1 (rr m c k.val)) = gs m c (rr m c k.val) :=
    congrFun ((kept_at m c 100 (by decide)).trans (entry_arg1 m c)) _
  rw [show fin m c = afterL postI (after condOps (Wk m 100 c)) from rfl]
  generalize after condOps (Wk m 100 c) = V at *
  simp only [afterL_cons, afterL_nil]
  have b27 := fun l => v27_at V k l _ k8
  have b34 := (v34_at V k _ k8).trans g1
  have b7 := cst7_at V ix0
  have b9 : after mainOps3 V (Proc.devRef .tc main_v16_9) = V (Proc.devRef .tc main_v16_9) := Writes.keep (ops := mainOps3) (W := mainOps3_W) (a := main_v16_9) (by decide) rfl V
  generalize after mainOps3 V = V1 at *
  have b35 := v35_at V1 k
  have c27 : after (where2Ops (.of main_v16_9) (.of main_v34) (.of main_cst_7) main_call5) V1 (Proc.devRef .tc main_v27) = V1 (Proc.devRef .tc main_v27) :=
    Writes.keep (ops := where2Ops (.of main_v16_9) (.of main_v34) (.of main_cst_7) main_call5) (W := [main_call5_v0, main_call5_v1, main_v35]) (a := main_v27) (by decide) rfl V1
  generalize after (where2Ops (.of main_v16_9) (.of main_v34) (.of main_cst_7) main_call5) V1 = V2 at *
  rw [v38_at]
  have d27 : ∀ l, V2 (Proc.devRef .tc main_v27) (ix2 k l) = (gb m c (rr m c k.val) l * FloatOps.uitofp (F := Ideal) .f32 (V (Proc.devRef .tc main_v16_9) (ix1 k)) : EReal) := fun l =>
    (congrFun c27 _).trans ((b27 l).trans (by rw [g0]))
  rw [b9] at b35
  unfold rowS
  rw [Sr_at]
  by_cases hv : V (Proc.devRef .tc main_v16_9) (ix1 k) = 1#1
  · have hne := h9.mp (k9.symm.trans hv)
    rw [if_neg hne, (left _ _ hne).1]
    have b35' : V2 (Proc.devRef .tc main_v35) (ix1 k) = gs m c (rr m c k.val) := b35.trans ((if_pos hv).trans b34)
    unfold rowE
    rw [h.x1, h.y1, h.x2, h.y2]
    have d : ∀ l, V2 (Proc.devRef .tc main_v27) (ix2 k l) = gb m c (rr m c k.val) l := fun l => by
      rw [d27, hv, uitofp_one, mul_one]
    by_cases l4 : l.val < 4
    · rw [dif_pos l4, d]
      have hl : l.val = 0 ∨ l.val = 1 ∨ l.val = 2 ∨ l.val = 3 := by omega
      rcases hl with e | e | e | e <;> simp only [e] <;> rfl
    · rw [dif_neg l4, b35', if_neg (show ¬ l.val = 0 by omega), if_neg (show ¬ l.val = 1 by omega), if_neg (show ¬ l.val = 2 by omega),
        if_neg (show ¬ l.val = 3 by omega)]
  · have hb : Sc (Wk m k.val c) (rr m c k.val) = ⊥ := by
      by_contra hne
      exact hv (k9.trans (h9.mpr hne))
    rw [if_pos hb]
    have h0 : V (Proc.devRef .tc main_v16_9) (ix1 k) = 0#1 := (by decide : ∀ b : BitVec 1, ¬ b = 1#1 → b = 0#1) _ hv
    have b35' : V2 (Proc.devRef .tc main_v35) (ix1 k) = (0 : EReal) := b35.trans ((if_neg hv).trans b7)
    by_cases l4 : l.val < 4
    · rw [dif_pos l4, d27, h0, uitofp_zero, mul_zero]
    · rw [dif_neg l4, b35', ite_self]

end Cert.ReferenceIdeal.Trips

end
-- ==== Proof.RoundV.lean ====
/- A round of the kernel as one to four steps of greedy suppression, and the loop as a hundred. -/
module

public import proofs.«01_k».proof.Proof.GreedyV

@[expose] public section

set_option maxRecDepth 16384

noncomputable section

namespace Cert.Nms

open Idealize.ShloMosaic
open Cert.KernelIdeal Cert.KernelIdeal.Gen

/-- A position's entry, by row and lane. -/
theorem E_lt (T : FVec Ideal S160x128 .f32) (i : ℕ) (hi : i < 20480) :
    E T i = T (ix2 ⟨i / 128, by omega⟩ ⟨i % 128, Nat.mod_lt _ (by omega)⟩) := lane_val _ _ _ _

open Classical in
/-- A pass at a position. -/
theorem supW_E (A : Boxes Ideal) (s : Carry Ideal) (W : FVec Ideal S160x128 .f32) (i : ℕ) (hi : i < 20480) :
    E (supW A s W) i = if ∃ p, (p = s.p1 ∨ p = s.p2 ∨ p = s.p3 ∨ p = s.p4) ∧ p.Hits (E A.x1 i) (E A.y1 i) (E A.x2 i) (E A.y2 i) (E A.ar i)
      then ⊥ else E W i := by
  rw [E_lt _ _ hi, E_lt _ _ hi, E_lt _ _ hi, E_lt _ _ hi, E_lt _ _ hi, E_lt _ _ hi, E_lt _ _ hi]
  rfl

/-- The word that a branch reads is not zero when its bit is 1. -/
theorem ne_bit (b : BitVec 1) : Scalar.cmpi .ne (Scalar.extui b : BitVec 32) 0#32 = 1#1 ↔ b = 1#1 := by revert b; decide

/-- The second row's branch. -/
theorem cond2_iff (c : Col Ideal) (n : BitVec 32) : k0_cond2 n (ok2 c) = 1#1 ↔ acc2 c n = 1#1 := ne_bit _
/-- The third row's branch. -/
theorem cond3_iff (c : Col Ideal) (n : BitVec 32) : k0_cond3 n (ok3 c) = 1#1 ↔ acc3 c n = 1#1 := ne_bit _
/-- The fourth row's branch. -/
theorem cond4_iff (c : Col Ideal) (n : BitVec 32) : k0_cond4 n (ok4 c) = 1#1 ↔ acc4 c n = 1#1 := ne_bit _

/-- When the second winner is accepted. -/
theorem acc2_iff (c : Col Ideal) (n : BitVec 32) (hn : n.toNat < 100) : acc2 c n = 1#1 ↔ ¬ bad2 c z1 = 1#1 ∧ n.toNat < 99 := by
  rw [← ok2_iff, ← slt_iff n (by omega) 99 (by omega)]; exact and_iff _ _
/-- When the third winner is accepted. -/
theorem acc3_iff (c : Col Ideal) (n : BitVec 32) (hn : n.toNat < 100) : acc3 c n = 1#1 ↔ ¬ bad3 c z1 = 1#1 ∧ n.toNat < 98 := by
  rw [← ok3_iff, ← slt_iff n (by omega) 98 (by omega)]; exact and_iff _ _
/-- When the fourth winner is accepted. -/
theorem acc4_iff (c : Col Ideal) (n : BitVec 32) (hn : n.toNat < 100) : acc4 c n = 1#1 ↔ ¬ bad4 c z1 = 1#1 ∧ n.toNat < 97 := by
  rw [← ok4_iff, ← slt_iff n (by omega) 97 (by omega)]; exact and_iff _ _

/-- Where the first row is written. -/
theorem off1_eq (n : BitVec 32) : k0_off1 n = ![n.toNat, 0] := rfl
/-- The count of rows does not overflow. -/
theorem off_add (n : BitVec 32) (k : ℕ) (hn : n.toNat < 100) (hk : k < 4) : (Scalar.addi n (BitVec.ofNat 32 k)).toNat = n.toNat + k := by
  simp only [Scalar.addi, IntOp.addi, BitVec.toNat_add, BitVec.toNat_ofNat]
  omega
/-- Where the second row is written. -/
theorem off2_eq (n : BitVec 32) (hn : n.toNat < 100) : k0_off2 n = ![n.toNat + 1, 0] := by rw [← off_add n 1 hn (by omega)]; rfl
/-- Where the third row is written. -/
theorem off3_eq (n : BitVec 32) (hn : n.toNat < 100) : k0_off3 n = ![n.toNat + 2, 0] := by rw [← off_add n 2 hn (by omega)]; rfl
/-- Where the fourth row is written. -/
theorem off4_eq (n : BitVec 32) (hn : n.toNat < 100) : k0_off4 n = ![n.toNat + 3, 0] := by rw [← off_add n 3 hn (by omega)]; rfl

/-- What a round writes, at an entry. -/
theorem tailF_apply (v23 : IVec S1x128 32) (s : Carry Ideal) (c : Col Ideal) (O : FVec Ideal S100x128 .f32) (hn : s.n.toNat < 100)
    (k : Fin 100) (l : Fin 128) : tailF v23 s c O (ix2 k l) =
      if acc4 c s.n = 1#1 ∧ k.val = s.n.toNat + 3 then rowOf v23 (cand4 c).corners (cand4 c).m (ix2 0 l)
      else if acc3 c s.n = 1#1 ∧ k.val = s.n.toNat + 2 then rowOf v23 (cand3 c).corners (cand3 c).m (ix2 0 l)
      else if acc2 c s.n = 1#1 ∧ k.val = s.n.toNat + 1 then rowOf v23 (cand2 c).corners (cand2 c).m (ix2 0 l)
      else if k.val = s.n.toNat then row1 v23 c (corners c) (ix2 0 l) else O (ix2 k l) := by
  unfold tailF
  rw [off4_eq _ hn, off3_eq _ hn, off2_eq _ hn, off1_eq, rowF_apply, rowF_apply, rowF_apply, putR_apply]
  simp only [cond2_iff, cond3_iff, cond4_iff]

/-- How many rows a round writes. -/
theorem nextN_eq (c : Col Ideal) (n : BitVec 32) (hn : n.toNat < 100) : (nextN c n).toNat =
    n.toNat + 1 + (if acc2 c n = 1#1 then 1 else 0) + (if acc3 c n = 1#1 then 1 else 0) + (if acc4 c n = 1#1 then 1 else 0) := by
  have h : ∀ b : BitVec 1, (Scalar.select b 1#32 0#32 : BitVec 32).toNat = if b = 1#1 then 1 else 0 := by decide
  unfold nextN
  simp only [Scalar.addi, IntOp.addi, BitVec.toNat_add, h, BitVec.toNat_ofNat]
  split <;> split <;> split <;> omega

variable {A : Boxes Ideal} {S : ℕ → ℕ → EReal} {b : ℕ → ℕ}

/-- The kernel's state after `n` steps. -/
structure Inv (A : Boxes Ideal) (S : ℕ → ℕ → EReal) (b : ℕ → ℕ) (m : Mem Ideal) (n : ℕ) : Prop where
  ctr : m.s.n.toNat = n
  le : n ≤ 100
  w : ∀ i < 20480, E (supW A m.s m.w) i = S n i
  o : ∀ k : Fin 100, k.val < n → ∀ l, m.o (ix2 k l) = rowS A S b k.val l

/-- A waiting box hits what its position's box hits. -/
theorem Pend.Hits.iff_of {p : Pend Ideal} {q i : ℕ} (hv : p.v z1 ≠ ⊥) (hk : Corner A q (p.x1 z1) (p.y1 z1) (p.x2 z1) (p.y2 z1)) :
    p.Hits (E A.x1 i) (E A.y1 i) (E A.x2 i) (E A.y2 i) (E A.ar i) ↔ half < iouE (E A.x1 i) (E A.y1 i) (E A.x2 i) (E A.y2 i) (E A.ar i) (E A.x1 q) (E A.y1 q) (E A.x2 q) (E A.y2 q) := by
  unfold Pend.Hits
  rw [hk.x1, hk.y1, hk.x2, hk.y2]
  exact ⟨fun h => h.1, fun h => ⟨h, hv⟩⟩

/-- A winner not accepted hits nothing when it waits. -/
theorem pendOf_not {bt : BitVec 1} {k : Cand Ideal} (h : ¬ bt = 1#1) (x1 y1 x2 y2 a : EReal) : ¬ (pendOf bt k).Hits x1 y1 x2 y2 a := by
  rintro ⟨_, hv⟩
  refine hv ?_
  have : (pendOf bt k).v = broadcast S1x1 (ninf Ideal) := sel_neg h
  rw [this]
  exact ninf_eq

/-- An accepted winner waits with its score. -/
theorem pendOf_v {bt : BitVec 1} {k : Cand Ideal} (h : bt = 1#1) : (pendOf bt k).v = k.m := sel_pos h

/-- A waiting box taken in the round is a winner's. -/
theorem pendOf_iff {bt : BitVec 1} {k : Cand Ideal} {T : ℕ → EReal} {p : ℕ → ℕ} {j i : ℕ} (h : bt = 1#1)
    (hw : Won A T p j (k.m z1) (k.x1 z1) (k.y1 z1) (k.x2 z1) (k.y2 z1)) :
    (pendOf bt k).Hits (E A.x1 i) (E A.y1 i) (E A.x2 i) (E A.y2 i) (E A.ar i) ↔ Hit A i (p j) :=
  Pend.Hits.iff_of (p := pendOf bt k) (by rw [pendOf_v h]; exact hw.ne) hw.cor

/-- A round is as many steps as it writes rows. -/
theorem round_inv (g : Greedy A S b) (hA : Area A) (v24 : IVec S8x128 32) (hv24 : ∀ q l, v24 (ix2 q l) = BitVec.ofNat 32 q.val)
    (v23 : IVec S1x128 32) (hv : ∀ l, v23 (ix2 0 l) = BitVec.ofNat 32 l.val) {m : Mem Ideal} {n : ℕ} (h : Inv A S b m n) (hn : n < 100) :
    ∃ n', n < n' ∧ Inv A S b (m.round A v24 v23) n' := by
  obtain ⟨hcnt, hle, hw, ho⟩ := h
  have hN : m.s.n.toNat < 100 := by omega
  have hcol := fun l => col_at A v24 hv24 v23 hv m l
  obtain ⟨hmax, hne, p, w1, w2, w3, w4⟩ := wins hA hcol
  have a2 := acc2_iff (colOf A v24 v23 m) m.s.n hN
  have a3 := acc3_iff (colOf A v24 v23 m) m.s.n hN
  have a4 := acc4_iff (colOf A v24 v23 m) m.s.n hN
  have hnx := nextN_eq (colOf A v24 v23 m) m.s.n hN
  have ht := tailF_apply v23 m.s (colOf A v24 v23 m) m.o hN
  have b3 := bad3_not (c := colOf A v24 v23 m)
  have b4 := bad4_not (c := colOf A v24 v23 m)
  have hW : (m.round A v24 v23).w = supW A m.s m.w := (pass_spec A v24 hv24 m).1
  have hsup := supW_E A (m.s.next (colOf A v24 v23 m) (corners (colOf A v24 v23 m))) (supW A m.s m.w)
  have hr1 := row1_valid (colOf A v24 v23 m)
  have hro := fun (k : Corners Ideal) x q hk l => rowOf_apply (A := A) v23 hv k x q hk l
  generalize hc : colOf A v24 v23 m = c at *
  have hb3 : ¬ bad3 c z1 = 1#1 → ¬ bad2 c z1 = 1#1 := fun h => (b3 h).1
  have hb4 : ¬ bad4 c z1 = 1#1 → ¬ bad3 c z1 = 1#1 := fun h => (b4 h).1
  have hT : ∀ i < 20480, E (supW A m.s m.w) i = S n i := hw
  have hround : (m.round A v24 v23).o = tailF v23 m.s c m.o := by unfold Mem.round; rw [hc]
  have hrs : (m.round A v24 v23).s = m.s.next c (corners c) := by unfold Mem.round; rw [hc]
  by_cases hm : (cand1 c).m z1 = ⊥
  · -- nothing left
    have n2 : ¬ acc2 c m.s.n = 1#1 := fun h => hne (a2.mp h).1 hm
    have n3 : ¬ acc3 c m.s.n = 1#1 := fun h => hne (hb3 (a3.mp h).1) hm
    have n4 : ¬ acc4 c m.s.n = 1#1 := fun h => hne (hb3 (hb4 (a4.mp h).1)) hm
    have idle := g.idle (n := n) fun i hi => by rw [← hT i hi, ← hm]; exact hmax i hi
    refine ⟨n + 1, by omega, ⟨?_, by omega, fun i hi => ?_, fun k hk l => ?_⟩⟩
    · rw [hrs]; show (nextN c m.s.n).toNat = _
      rw [hnx, if_neg n2, if_neg n3, if_neg n4]; omega
    · rw [hW, hrs, hsup i hi, if_neg, idle.2 i hi, hT i hi]
      rintro ⟨q, hq, hh⟩
      rcases hq with rfl | rfl | rfl | rfl
      · exact hh.2 hm
      · exact pendOf_not n2 _ _ _ _ _ hh
      · exact pendOf_not n3 _ _ _ _ _ hh
      · exact pendOf_not n4 _ _ _ _ _ hh
    · rw [hround, ht, if_neg fun h => n4 h.1, if_neg fun h => n3 h.1, if_neg fun h => n2 h.1]
      by_cases hk' : k.val = m.s.n.toNat
      · rw [if_pos hk']
        unfold rowS
        rw [hk', hcnt, if_pos idle.1]
        exact (sel_neg fun h' => hr1 l |>.mp h' hm).trans zf_eq
      · rw [if_neg hk', ho k (by omega)]
  · have W1 := w1 hm
    -- the number of winners
    obtain ⟨cnt, hc1, hle4, hc4, e2, e3, e4⟩ : ∃ cnt, 0 < cnt ∧ cnt ≤ 4 ∧ n + cnt ≤ 100 ∧ (acc2 c m.s.n = 1#1 ↔ 1 < cnt) ∧ (acc3 c m.s.n = 1#1 ↔ 2 < cnt)
        ∧ (acc4 c m.s.n = 1#1 ↔ 3 < cnt) := by
      by_cases h2 : acc2 c m.s.n = 1#1
      · by_cases h3 : acc3 c m.s.n = 1#1
        · by_cases h4 : acc4 c m.s.n = 1#1
          · have := (a4.mp h4).2
            exact ⟨4, by omega, by omega, by omega, iff_of_true h2 (by omega), iff_of_true h3 (by omega), iff_of_true h4 (by omega)⟩
          · have := (a3.mp h3).2
            exact ⟨3, by omega, by omega, by omega, iff_of_true h2 (by omega), iff_of_true h3 (by omega), iff_of_false h4 (by omega)⟩
        · have := (a2.mp h2).2
          have h4 : ¬ acc4 c m.s.n = 1#1 := fun h => h3 (a3.mpr ⟨hb4 (a4.mp h).1, by have := (a4.mp h).2; omega⟩)
          exact ⟨2, by omega, by omega, by omega, iff_of_true h2 (by omega), iff_of_false h3 (by omega), iff_of_false h4 (by omega)⟩
      · have h3 : ¬ acc3 c m.s.n = 1#1 := fun h => h2 (a2.mpr ⟨hb3 (a3.mp h).1, by have := (a3.mp h).2; omega⟩)
        have h4 : ¬ acc4 c m.s.n = 1#1 := fun h => h3 (a3.mpr ⟨hb4 (a4.mp h).1, by have := (a4.mp h).2; omega⟩)
        exact ⟨1, by omega, by omega, by omega, iff_of_false h2 (by omega), iff_of_false h3 (by omega), iff_of_false h4 (by omega)⟩
    have W2 : 1 < cnt → _ := fun h => w2 (a2.mp (e2.mpr h)).1
    have W3 : 2 < cnt → _ := fun h => w3 (a3.mp (e3.mpr h)).1
    have W4 : 3 < cnt → _ := fun h => w4 (a4.mp (e4.mpr h)).1
    -- each is a winner of the scores
    have won : ∀ j < cnt, Pick (S n) (fun i => ∃ j' < j, i = p j') (p j) ∧ S n (p j) ≠ ⊥ ∧ ∀ j' < j, ¬ Hit A (p j) (p j') := by
      have cv : ∀ {j x y1 y2 y3 y4}, Won A (E (supW A m.s m.w)) p j x y1 y2 y3 y4 →
          Pick (S n) (fun i => ∃ j' < j, i = p j') (p j) ∧ S n (p j) ≠ ⊥ ∧ ∀ j' < j, ¬ Hit A (p j) (p j') := fun {j x _ _ _ _} h =>
        have hp := h.pick.lt
        ⟨⟨hp, h.pick.new, fun i hi hd => by rw [← hT i hi, ← hT _ hp]; exact h.pick.le i hi hd,
          fun i hi hd => by rw [← hT i (hi.trans hp), ← hT _ hp]; exact h.pick.first i hi hd⟩,
          by rw [← hT _ hp, h.val]; exact h.ne, h.free⟩
      intro j hj
      match j, hj with
      | 0, _ => exact cv W1
      | 1, hj => exact cv (W2 hj)
      | 2, hj => exact cv (W3 hj)
      | 3, hj => exact cv (W4 hj)
      | j + 4, hj => omega
    have ch := g.chain (p := p) cnt won
    have rows : ∀ {j x} {k : Corners Ideal}, j < cnt → Won A (E (supW A m.s m.w)) p j (x z1) (k.1 z1) (k.2.1 z1) (k.2.2.1 z1) (k.2.2.2 z1) →
        ∀ l, rowOf v23 k x (ix2 0 l) = rowS A S b (n + j) l := fun {j x k} hj hW l => by
      have hp := hW.pick.lt
      unfold rowS
      rw [hro k x (p j) hW.cor, (ch.win j hj).1, (ch.win j hj).2, ← hT _ hp, hW.val, if_neg hW.ne]
    refine ⟨n + cnt, by omega, ⟨?_, hc4, fun i hi => ?_, fun k hk l => ?_⟩⟩
    · rw [hrs]; show (nextN c m.s.n).toNat = _
      rw [hnx]
      simp only [e2, e3, e4]
      split <;> split <;> split <;> omega
    · rw [hW, hrs, hsup i hi]
      have hex : (∃ q, (q = (m.s.next c (corners c)).p1 ∨ q = (m.s.next c (corners c)).p2 ∨ q = (m.s.next c (corners c)).p3
          ∨ q = (m.s.next c (corners c)).p4) ∧ q.Hits (E A.x1 i) (E A.y1 i) (E A.x2 i) (E A.y2 i) (E A.ar i)) ↔ ∃ j < cnt, Hit A i (p j) := by
        constructor
        · rintro ⟨q, hq, hh⟩
          rcases hq with rfl | rfl | rfl | rfl
          · exact ⟨0, hc1, (Pend.Hits.iff_of (p := pend1 c (corners c)) hm W1.cor).mp hh⟩
          · by_cases h2 : acc2 c m.s.n = 1#1
            · exact ⟨1, e2.mp h2, (pendOf_iff h2 (W2 (e2.mp h2))).mp hh⟩
            · exact absurd hh (pendOf_not h2 _ _ _ _ _)
          · by_cases h2 : acc3 c m.s.n = 1#1
            · exact ⟨2, e3.mp h2, (pendOf_iff h2 (W3 (e3.mp h2))).mp hh⟩
            · exact absurd hh (pendOf_not h2 _ _ _ _ _)
          · by_cases h2 : acc4 c m.s.n = 1#1
            · exact ⟨3, (e4.mp h2), (pendOf_iff h2 (W4 (e4.mp h2))).mp hh⟩
            · exact absurd hh (pendOf_not h2 _ _ _ _ _)
        · rintro ⟨j, hj, hh⟩
          match j, hj, hh with
          | 0, _, hh => exact ⟨_, .inl rfl, (Pend.Hits.iff_of (p := pend1 c (corners c)) hm W1.cor).mpr hh⟩
          | 1, hj, hh => exact ⟨_, .inr (.inl rfl), (pendOf_iff (e2.mpr hj) (W2 hj)).mpr hh⟩
          | 2, hj, hh => exact ⟨_, .inr (.inr (.inl rfl)), (pendOf_iff (e3.mpr hj) (W3 hj)).mpr hh⟩
          | 3, hj, hh => exact ⟨_, .inr (.inr (.inr rfl)), (pendOf_iff (e4.mpr hj) (W4 hj)).mpr hh⟩
          | j + 4, hj, _ => omega
      by_cases hh : ∃ j < cnt, Hit A i (p j)
      · rw [if_pos (hex.mpr hh), ch.gone i hi hh]
      · rw [if_neg fun h => hh (hex.mp h), ch.stay i hi hh, hT i hi]
    · rw [hround, ht]
      rw [hcnt] at *
      by_cases h4 : acc4 c m.s.n = 1#1 ∧ k.val = n + 3
      · rw [if_pos h4, h4.2]; exact rows (e4.mp h4.1) (W4 (e4.mp h4.1)) l
      rw [if_neg h4]
      by_cases h3 : acc3 c m.s.n = 1#1 ∧ k.val = n + 2
      · rw [if_pos h3, h3.2]; exact rows (e3.mp h3.1) (W3 (e3.mp h3.1)) l
      rw [if_neg h3]
      by_cases h2 : acc2 c m.s.n = 1#1 ∧ k.val = n + 1
      · rw [if_pos h2, h2.2]; exact rows (e2.mp h2.1) (W2 (e2.mp h2.1)) l
      rw [if_neg h2]
      by_cases h1 : k.val = n
      · rw [if_pos h1, h1]
        exact (sel_pos ((hr1 l).mpr hm)).trans (rows hc1 W1 l)
      rw [if_neg h1]
      refine ho k ?_ l
      rw [e2] at h2; rw [e3] at h3; rw [e4] at h4
      omega

/-- The loop writes a hundred rows. -/
theorem iter_rows (g : Greedy A S b) (hA : Area A) (v24 : IVec S8x128 32) (hv24 : ∀ q l, v24 (ix2 q l) = BitVec.ofNat 32 q.val)
    (v23 : IVec S1x128 32) (hv : ∀ l, v23 (ix2 0 l) = BitVec.ofNat 32 l.val) : ∀ (t : ℕ) {m : Mem Ideal} {n : ℕ}, Inv A S b m n → 100 ≤ n + t →
    ∀ (k : Fin 100) l, (m.iter A v24 v23 t).o (ix2 k l) = rowS A S b k.val l
  | 0, m, n, h, ht, k, l => h.o k (by have := k.isLt; omega) l
  | t + 1, m, n, h, ht, k, l => by
    have hs := slt_iff m.s.n (by have := h.ctr; have := h.le; omega) 100 (by omega)
    unfold Mem.iter
    by_cases hn : n < 100
    · rw [if_pos (hs.mpr (by rw [h.ctr]; exact hn))]
      obtain ⟨n', hlt, h'⟩ := round_inv g hA v24 hv24 v23 hv h hn
      exact iter_rows g hA v24 hv24 v23 hv t h' (by omega) k l
    · rw [if_neg fun h' => hn (h.ctr ▸ hs.mp h')]
      exact h.o k (by have := k.isLt; omega) l

end Cert.Nms

end
-- ==== Proof.EndV.lean ====
module

public import proofs.«01_k».proof.Proof.Run
public import proofs.«01_k».proof.Proof.RoundV
public import Idealize.ShloMosaic.Lib.KernelVsHost
public import Idealize.ShloMosaic.Lib.Pointwise
public import Idealize.ShloMosaic.Lib.Scf.Counter
public import Idealize.ShloMosaic.Lib.Scf.ExitTest
public import Idealize.ShloMosaic.Lib.StableHlo.ReadAt
public import Idealize.ShloMosaic.Lib.StableHlo.RunClose
public import Idealize.ShloMosaic.Lib.StableHlo.RunLoop
public import Idealize.ShloMosaic.Lib.StableHlo.RunRead
public import Idealize.ShloMosaic.PureOps.Ideal
public import Idealize.ShloMosaic.PureOps.Ideal.Laws

/-! The kernel's arrays in the launched ones, and its result. -/

@[expose] public section

set_option maxRecDepth 16384

noncomputable section

namespace Cert.Nms

open Idealize.ShloMosaic Idealize.ShloMosaic.TcCoe Idealize.SL.Sem
open Cert.KernelIdeal Cert.KernelIdeal.Gen
open Idealize.ShloMosaic.StableHlo

variable (m : (ℓ : Loc nD τ sig) → Buf (Elt Ideal) ℓ) (c : Dev nD)

/-- What the candidates' test leaves of a score. -/
abbrev thr : EReal := Ideal.ofBits .f32 0x3D4CCCCD#32

/-- The lanes' numbers. -/
theorem lanes_at (l : Fin 128) : lanes (ix2 0 l) = BitVec.ofNat 32 l.val := by
  unfold lanes
  pointwise

/-- The sublanes' numbers. -/
theorem subs_at (q : Fin 8) (l : Fin 128) : subs (ix2 q l) = BitVec.ofNat 32 q.val := by
  unfold subs
  pointwise

/-- The row and lane of a position. -/
def at2 (i : ℕ) (h : i < 20480) : S160x128.Idx := ix2 ⟨i / 128, by omega⟩ ⟨i % 128, Nat.mod_lt _ (by omega)⟩

/-- A position's row and lane give the position back. -/
theorem split (i : ℕ) : i / 128 * 128 + i % 128 = i := by omega

/-- The boxes' corners and scores as launched. -/
abbrev gbox (i : Fin 20000) (l : Fin 4) : EReal := m ((c.tc : Thread nD τ).loc main_arg0) (ix2 i l)
/-- A box's score as launched. -/
abbrev gsc (i : Fin 20000) : EReal := m ((c.tc : Thread nD τ).loc main_arg1) (ix1 i)

/-- An argument's entry is read as launched. -/
theorem arg0_at (i : Fin 20000) (l : Fin 4) (j : Fin 20000) (h : j.val = i.val) :
    StableHlo.upto hostOps0 (fun b => m (c, b)) 2 (Proc.devRef .tc main_arg0) (ix2 j l) = gbox m c i l := by
  rw [show j = i from Fin.ext h]
  rfl

/-- The kernel's array of left edges. -/
theorem V7 (i : Fin 20000) : V m c main_v7 (at2 i.val (by omega)) = gbox m c i 0 := by
  unfold V at2
  after_reads_simp
  pointwise
  exact (dif_pos (by rw [split]; exact i.isLt)).trans (arg0_at m c i 0 _ (split i.val))

/-- The kernel's array of upper edges. -/
theorem V10 (i : Fin 20000) : V m c main_v10 (at2 i.val (by omega)) = gbox m c i 1 := by
  unfold V at2
  after_reads_simp
  pointwise
  exact (dif_pos (by rw [split]; exact i.isLt)).trans (arg0_at m c i 1 _ (split i.val))

/-- The kernel's array of right edges. -/
theorem V13 (i : Fin 20000) : V m c main_v13 (at2 i.val (by omega)) = gbox m c i 2 := by
  unfold V at2
  after_reads_simp
  pointwise
  exact (dif_pos (by rw [split]; exact i.isLt)).trans (arg0_at m c i 2 _ (split i.val))

/-- The kernel's array of lower edges. -/
theorem V16 (i : Fin 20000) : V m c main_v16 (at2 i.val (by omega)) = gbox m c i 3 := by
  unfold V at2
  after_reads_simp
  pointwise
  exact (dif_pos (by rw [split]; exact i.isLt)).trans (arg0_at m c i 3 _ (split i.val))

/-- The kernel's array of scores: those launched, then −1. -/
theorem V4 (i : ℕ) (hi : i < 20480) : (V m c main_v4 (at2 i hi) : EReal)
    = if h : i < 20000 then gsc m c ⟨i, h⟩ else Ideal.ofBits .f32 0xBF800000#32 := by
  unfold V at2
  after_reads_at
  by_cases h : i < 20000
  · rw [dif_pos h]
    refine (dif_pos (by rw [split]; exact h)).trans ?_
    refine congrArg (m ((c.tc : Thread nD τ).loc main_arg1)) (congrArg ix1 (Fin.ext (split i)))
  · rw [dif_neg h]
    refine (dif_neg (by rw [split]; exact h)).trans ?_
    rfl

/-- The scores the loop starts with, entry by entry. -/
theorem work0_at (s : FVec Ideal S160x128 .f32) (j) : (work0 s j : EReal) = if thr < (s j : EReal) then (s j : EReal) else ⊥ := by
  unfold work0 sc160
  rw [shapeCast_self, shapeCast_self]
  show (if Ideal.cmp .ogt (s j) thr = 1#1 then (s j : EReal) else Cert.Nms.ninf Ideal) = _
  rw [ninf_eq]
  refine if_congr ?_ rfl rfl
  unfold Ideal.cmp
  exact (ofBool_one _).trans decide_eq_true_iff

/-- A padded score is no candidate. -/
theorem pad_low : ¬ thr < Ideal.ofBits .f32 0xBF800000#32 := by
  rw [not_lt]
  simp [thr, Ideal.ofBits, Ideal.ieee]
  exact_mod_cast (by norm_num : -((8388608 : ℝ) * ((2 : ℝ) ^ 23)⁻¹) ≤ (13421773 : ℝ) * ((2 : ℝ) ^ 28)⁻¹)

/-- The areas, entry by entry. -/
theorem areas0_at (x1 y1 x2 y2 : FVec Ideal S160x128 .f32) (j) :
    (areas0 x1 y1 x2 y2 j : EReal) = ((x2 j : EReal) - (x1 j : EReal)) * ((y2 j : EReal) - (y1 j : EReal)) := by
  unfold areas0 sc160
  rw [shapeCast_self, shapeCast_self, shapeCast_self, shapeCast_self, shapeCast_self]
  rfl

/-- A position's entry, by its index. -/
theorem E_at2 (T : FVec Ideal S160x128 .f32) (i : ℕ) (hi : i < 20480) : E T i = T (at2 i hi) := E_lt T i hi

/-- The areas are the areas of the boxes. -/
theorem area (x1 y1 x2 y2 : FVec Ideal S160x128 .f32) : Area (boxes x1 y1 x2 y2) := fun i hi => by
  rw [E_at2 _ _ hi, E_at2 _ _ hi, E_at2 _ _ hi, E_at2 _ _ hi, E_at2 _ _ hi]
  exact areas0_at x1 y1 x2 y2 _

/-- No box waiting hits nothing. -/
theorem none_hits (x1 y1 x2 y2 a : EReal) : ¬ (Pend.none : Pend Ideal).Hits x1 y1 x2 y2 a := fun h => h.2 ninf_eq

/-- Before the loop nothing is suppressed and nothing written. -/
theorem init (A : Boxes Ideal) (S : ℕ → ℕ → EReal) (b : ℕ → ℕ) (s : FVec Ideal S160x128 .f32) (O : FVec Ideal S100x128 .f32)
    (h : ∀ i (hi : i < 20480), (if thr < (s (at2 i hi) : EReal) then (s (at2 i hi) : EReal) else ⊥) = S 0 i) : Inv A S b ⟨work0 s, O, Carry.init⟩ 0 where
  ctr := rfl
  le := by omega
  w i hi := by
    rw [supW_E _ _ _ _ hi, if_neg, E_at2 _ _ hi]
    · exact (work0_at s _).trans (h i hi)
    rintro ⟨p, hp, hh⟩
    have : p = Pend.none := by
      rcases hp with rfl | rfl | rfl | rfl <;> rfl
    exact none_hits _ _ _ _ _ (this ▸ hh)
  o k hk := absurd hk (by omega)

/-- An entry of the kernel's result array. -/
abbrev outE (mem : (ℓ : Loc nD τ sig) → Buf (Elt Ideal) ℓ) (c : Dev nD) (k : Fin 100) (l : Fin 128) : EReal :=
  mem ((c.tc : Thread nD τ).loc main_v17) (ix2 k l)

/-- The result array holds the rows of the loop's memory. -/
theorem out_at {r : PUnit × MemSt nD τ sig (Elt Ideal)} (h : Pipeline.RDat.FramePost (cfgs (F := Ideal) 0) (rd m) (V m) r) :
    ∃ Y, ∀ (k : Fin 100) (l : Fin 128), outE r.2.mem c k l
      = (final (F := Ideal) (V m c main_v7) (V m c main_v10) (V m c main_v13) (V m c main_v16) (V m c main_v4) Y).o (ix2 k l) := by
  obtain ⟨X, hX, hj⟩ := Pipeline.RDat.ArrAt.emb_eq_of_wholeAt ((h c).1 (5 : Fin 6)) (t₀ := t0_0) (by decide +kernel)
  obtain ⟨Y, _, rfl⟩ := hX
  exact ⟨Y, fun k l => hj (ix2 k l)⟩

/-- The result of the kernel is the rows of greedy suppression. -/
theorem result {S : ℕ → ℕ → EReal} {b : ℕ → ℕ} {r : PUnit × MemSt nD τ sig (Elt Ideal)}
    (h : Pipeline.RDat.FramePost (cfgs (F := Ideal) 0) (rd m) (V m) r)
    (g : Greedy (boxes (V m c main_v7) (V m c main_v10) (V m c main_v13) (V m c main_v16)) S b)
    (h0 : ∀ i (hi : i < 20000), S 0 i = if thr < gsc m c ⟨i, hi⟩ then gsc m c ⟨i, hi⟩ else ⊥) (h1 : ∀ i, ¬ i < 20000 → S 0 i = ⊥) (k : Fin 100) (l : Fin 128) :
    outE r.2.mem c k l
      = rowS (boxes (V m c main_v7) (V m c main_v10) (V m c main_v13) (V m c main_v16)) S b k.val l := by
  obtain ⟨Y, hY⟩ := out_at m c h
  rw [hY]
  refine iter_rows g (area _ _ _ _) subs subs_at lanes lanes_at 100 (init _ S b _ _ fun i hi => ?_) le_rfl k l
  rw [V4 m c i hi]
  by_cases hi' : i < 20000
  · rw [dif_pos hi', h0 i hi']
  · rw [dif_neg hi', h1 i hi', if_neg pad_low]

end Cert.Nms

end
-- ==== Proof.PreV.lean ====
module

public import proofs.«01_k».proof.Pre_candidates_proper
public import proofs.«01_k».proof.Proof.RefV
public import Idealize.ShloMosaic.Lib.ReduceAll

/-! What the precondition says of the launched arrays. -/

@[expose] public section

set_option maxRecDepth 16384

noncomputable section

namespace Cert.ReferenceIdeal.Trips

open Idealize.ShloMosaic Idealize.ShloMosaic.TcCoe
open Cert.ReferenceIdeal Cert.ReferenceIdeal.Gen
open Cert.Nms (half iouE)

/-- The side conditions of the precondition's operations. -/
theorem preFacts : Cert.Pre_candidates_proper.Facts where
  slices_S20000x4_S20000x1_0_0 := by decide
  shapeCasts_S20000x1_S20000 := by decide
  slices_S20000x4_S20000x1_0_1 := by decide
  slices_S20000x4_S20000x1_0_2 := by decide
  slices_S20000x4_S20000x1_0_3 := by decide
  bcast_S_S20000 := by decide
  reducesTo_S20000_S_d0 := by decide
  h_S_ := by decide

/-- The precondition at one box, of the box's columns. -/
theorem proper_at (C0 C1 C2 C3 sc : FVec Ideal S20000 .f32) (bc : S_.BroadcastsInDim S20000 (![] : Fin 0 → Fin S20000.rank)) (i : Fin 20000)
    (h : ori (cmpf .ole sc (broadcastInDim S20000 ![] bc (constant (F := Ideal) S_ .f32 0x3D4CCCCD#32)))
      (andi (cmpf .olt sc (broadcastInDim S20000 ![] bc (constant (F := Ideal) S_ .f32 0x7F800000#32)))
        (cmpf .ogt (Host.divf
            (mulf (maximumf (subf C2 C0) (broadcastInDim S20000 ![] bc (constant (F := Ideal) S_ .f32 0x00000000#32)))
              (maximumf (subf C3 C1) (broadcastInDim S20000 ![] bc (constant (F := Ideal) S_ .f32 0x00000000#32))))
            (addf (subf (addf (mulf (subf C2 C0) (subf C3 C1)) (mulf (subf C2 C0) (subf C3 C1)))
                (mulf (maximumf (subf C2 C0) (broadcastInDim S20000 ![] bc (constant (F := Ideal) S_ .f32 0x00000000#32)))
                  (maximumf (subf C3 C1) (broadcastInDim S20000 ![] bc (constant (F := Ideal) S_ .f32 0x00000000#32)))))
              (broadcastInDim S20000 ![] bc (constant (F := Ideal) S_ .f32 0x3089705F#32))))
          (broadcastInDim S20000 ![] bc (constant (F := Ideal) S_ .f32 0x3F000000#32)))) (ix1 i) = 1#1)
    (hi : thr < (sc (ix1 i) : EReal)) :
    (sc (ix1 i) : EReal) < ⊤ ∧ half < iouE (C0 (ix1 i)) (C1 (ix1 i)) (C2 (ix1 i)) (C3 (ix1 i))
      (((C2 (ix1 i) : EReal) - (C0 (ix1 i) : EReal)) * ((C3 (ix1 i) : EReal) - (C1 (ix1 i) : EReal))) (C0 (ix1 i)) (C1 (ix1 i)) (C2 (ix1 i)) (C3 (ix1 i)) := by
  rcases (bit_or _ _).mp h with h | h
  · have hle : Ideal.cmp .ole (sc (ix1 i)) thr = 1#1 := h
    simp only [Ideal.cmp, bit_ofBool, decide_eq_true_iff] at hle
    exact absurd hi (not_lt.mpr hle)
  · obtain ⟨h1, h2⟩ := (bit_and _ _).mp h
    have et : Ideal.ofBits .f32 0x7F800000#32 = (⊤ : EReal) := by simp [Ideal.ofBits, Ideal.ieee]
    have h1' := (bit_olt (sc (ix1 i)) (Ideal.ofBits .f32 0x7F800000#32)).mp h1
    rw [et] at h1'
    refine ⟨h1', ?_⟩
    unfold iouE
    rw [min_self, min_self, max_self, max_self, ← Cert.Nms.zf_eq]
    exact (bit_ogt _ _).mp h2

/-- The precondition's first column. -/
theorem col0 (x : FVec Ideal S20000x4 .f32) (i : Fin 20000) (h h') :
    shapeCast S20000 (extractStridedSlice Cert.Pre_candidates_proper.S20000x1 ![0, 0] x h) h' (ix1 i) = x (ix2 i 0) := by pointwise
/-- The precondition's second column. -/
theorem col1 (x : FVec Ideal S20000x4 .f32) (i : Fin 20000) (h h') :
    shapeCast S20000 (extractStridedSlice Cert.Pre_candidates_proper.S20000x1 ![0, 1] x h) h' (ix1 i) = x (ix2 i 1) := by pointwise
/-- The precondition's third column. -/
theorem col2 (x : FVec Ideal S20000x4 .f32) (i : Fin 20000) (h h') :
    shapeCast S20000 (extractStridedSlice Cert.Pre_candidates_proper.S20000x1 ![0, 2] x h) h' (ix1 i) = x (ix2 i 2) := by pointwise
/-- The precondition's fourth column. -/
theorem col3 (x : FVec Ideal S20000x4 .f32) (i : Fin 20000) (h h') :
    shapeCast S20000 (extractStridedSlice Cert.Pre_candidates_proper.S20000x1 ![0, 3] x h) h' (ix1 i) = x (ix2 i 3) := by pointwise

/-- The precondition says that the launched boxes are proper. -/
theorem proper (m : (ℓ : Loc nD τ sig) → Buf (Elt Ideal) ℓ) (c : Dev nD)
    (h : @Cert.Pre_candidates_proper.fn preFacts Ideal _ (m ((c : Thread nD τ).loc main_arg0)) (m ((c : Thread nD τ).loc main_arg1)) = fun _ => 1#1) :
    Proper m c := by
  intro i hi
  have h := congrFun h ix0
  dsimp only [Cert.Pre_candidates_proper.fn, Cert.Pre_candidates_proper.fn_part1] at h
  haveI : Subsingleton Cert.Pre_candidates_proper.S_.Idx := ⟨fun a b => funext fun k => k.elim0⟩
  have h := proper_at _ _ _ _ _ _ i (Host.reduce_andi_all _ _ _ _ _ h (ix1 i)) hi
  rw [col0, col1, col2, col3] at h
  exact h

end Cert.ReferenceIdeal.Trips

end
-- ==== Proof.lean ====
module

public import proofs.«01_k».proof.Defs
public import proofs.«01_k».proof.Proof.Run
public import proofs.«01_k».proof.Proof.RunBits
public import proofs.«01_k».proof.Proof.Ref
public import proofs.«01_k».proof.Proof.RefV
public import proofs.«01_k».proof.Proof.EndV
public import proofs.«01_k».proof.Proof.PreV
public import Idealize.ShloMosaic.Lib.Quiescent

@[expose] public section

set_option maxRecDepth 16384

noncomputable section

namespace Cert.Proof

open Idealize.ShloMosaic Idealize.SL.Sem Idealize.ShloMosaic.TcCoe

/-- The buffers the host operations before the kernel's call write. -/
abbrev written : List (Ref Cert.KernelIdeal.sig .tc) :=
  [Cert.KernelIdeal.main_cst, Cert.KernelIdeal.main_v0, Cert.KernelIdeal.main_v1, Cert.KernelIdeal.main_cst_0, Cert.KernelIdeal.main_v2,
    Cert.KernelIdeal.main_v3, Cert.KernelIdeal.main_v4, Cert.KernelIdeal.main_v5, Cert.KernelIdeal.main_v6, Cert.KernelIdeal.main_v7,
    Cert.KernelIdeal.main_v8, Cert.KernelIdeal.main_v9, Cert.KernelIdeal.main_v10, Cert.KernelIdeal.main_v11, Cert.KernelIdeal.main_v12,
    Cert.KernelIdeal.main_v13, Cert.KernelIdeal.main_v14, Cert.KernelIdeal.main_v15, Cert.KernelIdeal.main_v16]

/-- They leave every other buffer alone. -/
theorem V_keep {F : FTy → Type} [FloatOps F] (m : (ℓ : Loc Cert.KernelIdeal.nD Cert.KernelIdeal.τ Cert.KernelIdeal.sig) → Buf (Elt F) ℓ)
    (c : Dev Cert.KernelIdeal.nD) {a : Ref Cert.KernelIdeal.sig .tc} (ha : a ∉ written) :
    Cert.Nms.V m c a = m ((c.tc : Thread Cert.KernelIdeal.nD Cert.KernelIdeal.τ).loc a) :=
  StableHlo.after_of_writes_sub Cert.KernelIdeal.Gen.hostOps0 _ (StableHlo.forall_writes_sub_of_map (W := written) rfl) ha

/-- Neither run's post lets an argument change: an argument is none of the call's arrays, and no host operation writes it. -/
theorem args_of_rest {F : FTy → Type} [FloatOps F] (m mem : (ℓ : Loc Cert.KernelIdeal.nD Cert.KernelIdeal.τ Cert.KernelIdeal.sig) → Buf (Elt F) ℓ)
    (c : Dev Cert.KernelIdeal.nD)
    (h : ∀ b ∈ Pipeline.restRefs Cert.KernelIdeal.sig Cert.KernelIdeal.spec0, mem ((c.tc : Thread Cert.KernelIdeal.nD Cert.KernelIdeal.τ).loc b) = Cert.Nms.V m c b) :
    mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h _ (by decide)).trans (V_keep m c (by decide)), (h _ (by decide)).trans (V_keep m c (by decide))⟩

/-- The kernel runs, keeps its arguments, and ends quiet. -/
theorem frame_kernel : Cert.quiescent_Kernel (hKernel := Cert.Kernel.Gen.facts) := fun m ρ _ =>
  (θ_run Cert.Kernel.defs _ _).mono (fun r h => ⟨fun c => args_of_rest m r.2.mem c (h.1 c).2, h.2⟩) (Cert.NmsBits.run_main (F := Bits) m ρ)

/-- The idealized kernel runs, keeps its arguments, and ends quiet. -/
theorem frame_kernelIdeal : Cert.quiescent_KernelIdeal (hKernelIdeal := Cert.KernelIdeal.Gen.facts) := fun m ρ _ =>
  (θ_run Cert.KernelIdeal.defs _ _).mono (fun r h => ⟨fun c => args_of_rest m r.2.mem c (h.1 c).2, h.2⟩) (Cert.Nms.run_main (F := Ideal) m ρ)

/-- The reference keeps its arguments. -/
theorem reference_args (m : (ℓ : Loc Cert.ReferenceIdeal.nD Cert.ReferenceIdeal.τ Cert.ReferenceIdeal.sig) → Buf (Elt Ideal) ℓ) (c : Dev Cert.ReferenceIdeal.nD)
    {r : PUnit × MemSt Cert.ReferenceIdeal.nD Cert.ReferenceIdeal.τ Cert.ReferenceIdeal.sig (Elt Ideal)}
    (h : ∀ (c : Dev Cert.ReferenceIdeal.nD) (b : Ref Cert.ReferenceIdeal.sig .tc), (Proc.devRef .tc b : DevRef Cert.ReferenceIdeal.τ Cert.ReferenceIdeal.sig).isScoped = false →
        r.2.mem ((c.tc : Thread Cert.ReferenceIdeal.nD Cert.ReferenceIdeal.τ).loc b) = Cert.ReferenceIdeal.Trips.fin m c (Proc.devRef .tc b)) :
    r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  ⟨(h c _ rfl).trans (Cert.ReferenceIdeal.Trips.fin_arg0 m c), (h c _ rfl).trans (Cert.ReferenceIdeal.Trips.fin_arg1 m c)⟩

/-- The reference runs, keeps its arguments, and ends quiet. -/
theorem frame_referenceIdeal : Cert.quiescent_ReferenceIdeal (hReferenceIdeal := Cert.ReferenceIdeal.Gen.facts) := fun m ρ _ =>
  (θ_run Cert.ReferenceIdeal.defs _ _).mono (fun _ h => ⟨fun c => reference_args m c h, sem_eq_zero_of_no_sems rfl _⟩)
    (Cert.ReferenceIdeal.Trips.run m ρ)

/-- The kernel's boxes are the reference's, when the arguments agree. -/
theorem agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Trips.Agrees (Cert.Nms.boxes (Cert.Nms.V m c Cert.KernelIdeal.main_v7) (Cert.Nms.V m c Cert.KernelIdeal.main_v10)
      (Cert.Nms.V m c Cert.KernelIdeal.main_v13) (Cert.Nms.V m c Cert.KernelIdeal.main_v16)) m' c where
  x1 i := (Cert.Nms.E_at2 _ _ (by omega)).trans ((Cert.Nms.V7 m c i).trans (congrFun h _).symm)
  y1 i := (Cert.Nms.E_at2 _ _ (by omega)).trans ((Cert.Nms.V10 m c i).trans (congrFun h _).symm)
  x2 i := (Cert.Nms.E_at2 _ _ (by omega)).trans ((Cert.Nms.V13 m c i).trans (congrFun h _).symm)
  y2 i := (Cert.Nms.E_at2 _ _ (by omega)).trans ((Cert.Nms.V16 m c i).trans (congrFun h _).symm)
  ar := Cert.Nms.area _ _ _ _

/-- Both results are the rows of the same greedy suppression. -/
theorem algebraic : Cert.algebraic_KernelIdeal_ReferenceIdeal_pre_candidates_proper (hKernelIdeal := Cert.KernelIdeal.Gen.facts)
    (hReferenceIdeal := Cert.ReferenceIdeal.Gen.facts) (hPre_candidates_proper := Cert.ReferenceIdeal.Trips.preFacts) := fun m g m' g' hpre hargs => by
  have hp : ∀ c, Cert.ReferenceIdeal.Trips.Proper m' c := fun c => Cert.ReferenceIdeal.Trips.proper m' c (by
    rw [(hargs c).1, (hargs c).2]
    exact hpre c)
  have ha := fun c => agrees m m' c (hargs c).1
  refine ⟨fun c => Cert.ReferenceIdeal.Trips.fin m' c (Proc.devRef .tc Cert.ReferenceIdeal.main_v38), ?_, ?_⟩
  · refine (θ_run Cert.KernelIdeal.defs _ _).mono (fun r h c => ⟨?_, args_of_rest m r.2.mem c (h.1 c).2⟩) (Cert.Nms.run_main (F := Ideal) m g)
    funext j
    obtain ⟨k, l, rfl⟩ : ∃ k l, j = ix2 k l := ⟨j 0, j 1, funext fun a => by
      match a with
      | ⟨0, _⟩ => rfl
      | ⟨1, _⟩ => rfl⟩
    refine (Cert.Nms.result m c h.1 ((ha c).greedy (hp c)) (fun i hi => ?_) (fun i hi => Cert.ReferenceIdeal.Trips.Sr_out m' c 0 hi) k l).trans
      ((ha c).result (hp c) k l).symm
    refine (Cert.ReferenceIdeal.Trips.Sr_of m' c 0 hi).trans ((Cert.ReferenceIdeal.Trips.e7 m' c ⟨i, hi⟩).trans ?_)
    have e : Cert.ReferenceIdeal.Trips.gs m' c ⟨i, hi⟩ = Cert.Nms.gsc m c ⟨i, hi⟩ := congrFun (hargs c).2 _
    rw [e]
  · exact (θ_run Cert.ReferenceIdeal.defs _ _).mono (fun _ h c => ⟨h c _ rfl, reference_args m' c h⟩) (Cert.ReferenceIdeal.Trips.run m' g')

/-- The claim. -/
theorem claim : Cert.Claim :=
  ⟨Cert.Kernel.Gen.facts, Cert.KernelIdeal.Gen.facts, Cert.ReferenceIdeal.Gen.facts, Cert.ReferenceIdeal.Trips.preFacts,
    frame_kernel, frame_kernelIdeal, fun m g _ => frame_kernelIdeal m g trivial, frame_referenceIdeal, fun m g _ => frame_referenceIdeal m g trivial,
    trivial, algebraic⟩

end Cert.Proof

end
